-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "scale_log2e" .f32 0x3E38AA3B#32 (((1 / 8) * (Real.log 2)⁻¹ : ℝ) : EReal)
  ∧ IdealRules.named_const.Statement Cert.KernelIdeal.κ "ln2" .f32 0x3F317218#32 ((Real.log 2 : ℝ) : EReal)
  ∧ IdealRules.bf16_pair.PackStatement Cert.KernelIdeal.S32x128
  ∧ IdealRules.bf16_pair.Statement Cert.KernelIdeal.S64x128 Cert.KernelIdeal.S32x128

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v8_1)) (v2 : (c : Dev Cert.KernelIdeal.nD) → Buf (Elt Ideal) ((c.tc : Thread Cert.KernelIdeal.nD Cert.KernelIdeal.τ).loc Cert.KernelIdeal.main_v8_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v8_1) = v1 c
          ∧ r.2.mem ((c.tc : Thread Cert.KernelIdeal.nD Cert.KernelIdeal.τ).loc Cert.KernelIdeal.main_v8_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_v83) = v1 c
          ∧ r.2.mem ((c.tc : Thread Cert.ReferenceIdeal.nD Cert.ReferenceIdeal.τ).loc Cert.ReferenceIdeal.main_v92) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S3x512x32x64 : Shape := ⟨4, ![3, 512, 32, 64]⟩
abbrev S3x512x32 : Shape := ⟨3, ![3, 512, 32]⟩
abbrev S3x4x64x2x32x64 : Shape := ⟨6, ![3, 4, 64, 2, 32, 64]⟩
abbrev S3x32x4x2x64x64 : Shape := ⟨6, ![3, 32, 4, 2, 64, 64]⟩
abbrev S3x32x512x64 : Shape := ⟨4, ![3, 32, 512, 64]⟩
abbrev S3x32x64x512 : Shape := ⟨4, ![3, 32, 64, 512]⟩
abbrev S3x32x512 : Shape := ⟨3, ![3, 32, 512]⟩
abbrev S16x32 : Shape := ⟨2, ![16, 32]⟩
abbrev S3x32x16x512 : Shape := ⟨4, ![3, 32, 16, 512]⟩
abbrev S1x1x64x512 : Shape := ⟨4, ![1, 1, 64, 512]⟩
abbrev S1x32x512 : Shape := ⟨3, ![1, 32, 512]⟩
abbrev S1x1x512x64 : Shape := ⟨4, ![1, 1, 512, 64]⟩
abbrev S1x1x16x512 : Shape := ⟨4, ![1, 1, 16, 512]⟩
abbrev S512x512 : Shape := ⟨2, ![512, 512]⟩
abbrev S512x128 : Shape := ⟨2, ![512, 128]⟩
abbrev S64x512 : Shape := ⟨2, ![64, 512]⟩
abbrev S2x512x512 : Shape := ⟨3, ![2, 512, 512]⟩
abbrev S1x1x512 : Shape := ⟨3, ![1, 1, 512]⟩
abbrev S1x512 : Shape := ⟨2, ![1, 512]⟩
abbrev S128x512 : Shape := ⟨2, ![128, 512]⟩
abbrev S1x1x256x64 : Shape := ⟨4, ![1, 1, 256, 64]⟩
abbrev S256x64 : Shape := ⟨2, ![256, 64]⟩
abbrev S1x1x64x256 : Shape := ⟨4, ![1, 1, 64, 256]⟩
abbrev S64x256 : Shape := ⟨2, ![64, 256]⟩
abbrev S256x256 : Shape := ⟨2, ![256, 256]⟩
abbrev S512x64 : Shape := ⟨2, ![512, 64]⟩
abbrev S512x256 : Shape := ⟨2, ![512, 256]⟩
abbrev S1x128 : Shape := ⟨2, ![1, 128]⟩
abbrev S32x128 : Shape := ⟨2, ![32, 128]⟩
abbrev S128 : Shape := ⟨1, ![128]⟩
abbrev S8x128 : Shape := ⟨2, ![8, 128]⟩
abbrev S1x8x128 : Shape := ⟨3, ![1, 8, 128]⟩
abbrev S64x128 : Shape := ⟨2, ![64, 128]⟩
abbrev S1x64x128 : Shape := ⟨3, ![1, 64, 128]⟩
abbrev S128x128 : Shape := ⟨2, ![128, 128]⟩
abbrev S128x256 : Shape := ⟨2, ![128, 256]⟩
abbrev S1x128x128 : Shape := ⟨3, ![1, 128, 128]⟩
abbrev S8x256 : Shape := ⟨2, ![8, 256]⟩
abbrev S1x1x8x256 : Shape := ⟨4, ![1, 1, 8, 256]⟩
abbrev S16x512 : Shape := ⟨2, ![16, 512]⟩
abbrev S16 : Shape := ⟨1, ![16]⟩
abbrev S16x1 : Shape := ⟨2, ![16, 1]⟩

abbrev nBuf : Space → Nat
  | .hbm => 17
  | .vmem => 23
  | .smem => 0
  | _ => 0

abbrev bufTy : (tb : Table) → Fin (tcTables nBuf tb) → BufTy
  | .hbm, ⟨0, _⟩ => ⟨S3x512x32x64, .fp8e4m3⟩
  | .hbm, ⟨1, _⟩ => ⟨S3x512x32, .f32⟩
  | .hbm, ⟨2, _⟩ => ⟨S3x512x32x64, .fp8e4m3⟩
  | .hbm, ⟨3, _⟩ => ⟨S3x512x32, .f32⟩
  | .hbm, ⟨4, _⟩ => ⟨S3x512x32x64, .bf16⟩
  | .hbm, ⟨5, _⟩ => ⟨S3x512x32x64, .bf16⟩
  | .hbm, ⟨6, _⟩ => ⟨S3x4x64x2x32x64, .fp8e4m3⟩
  | .hbm, ⟨7, _⟩ => ⟨S3x32x4x2x64x64, .fp8e4m3⟩
  | .hbm, ⟨8, _⟩ => ⟨S3x32x512x64, .fp8e4m3⟩
  | .hbm, ⟨9, _⟩ => ⟨S3x32x64x512, .fp8e4m3⟩
  | .hbm, ⟨10, _⟩ => ⟨S3x32x512, .f32⟩
  | .hbm, ⟨11, _⟩ => ⟨S3x32x512, .f32⟩
  | .hbm, ⟨12, _⟩ => ⟨S3x32x64x512, .bf16⟩
  | .hbm, ⟨13, _⟩ => ⟨S3x32x64x512, .bf16⟩
  | .hbm, ⟨14, _⟩ => ⟨S16x32, .f32⟩
  | .hbm, ⟨15, _⟩ => ⟨S3x32x16x512, .f32⟩
  | .hbm, ⟨16, _⟩ => ⟨S3x32x512, .f32⟩
  | .local _ .vmem, ⟨0, _⟩ => ⟨S1x1x64x512, .fp8e4m3⟩
  | .local _ .vmem, ⟨1, _⟩ => ⟨S1x1x64x512, .fp8e4m3⟩
  | .local _ .vmem, ⟨2, _⟩ => ⟨S1x32x512, .f32⟩
  | .local _ .vmem, ⟨3, _⟩ => ⟨S1x32x512, .f32⟩
  | .local _ .vmem, ⟨4, _⟩ => ⟨S1x1x512x64, .fp8e4m3⟩
  | .local _ .vmem, ⟨5, _⟩ => ⟨S1x1x512x64, .fp8e4m3⟩
  | .local _ .vmem, ⟨6, _⟩ => ⟨S1x32x512, .f32⟩
  | .local _ .vmem, ⟨7, _⟩ => ⟨S1x32x512, .f32⟩
  | .local _ .vmem, ⟨8, _⟩ => ⟨S1x1x64x512, .bf16⟩
  | .local _ .vmem, ⟨9, _⟩ => ⟨S1x1x64x512, .bf16⟩
  | .local _ .vmem, ⟨10, _⟩ => ⟨S1x1x64x512, .bf16⟩
  | .local _ .vmem, ⟨11, _⟩ => ⟨S1x1x64x512, .bf16⟩
  | .local _ .vmem, ⟨12, _⟩ => ⟨S16x32, .f32⟩
  | .local _ .vmem, ⟨13, _⟩ => ⟨S1x1x16x512, .f32⟩
  | .local _ .vmem, ⟨14, _⟩ => ⟨S1x1x16x512, .f32⟩
  | .local _ .vmem, ⟨15, _⟩ => ⟨S1x32x512, .f32⟩
  | .local _ .vmem, ⟨16, _⟩ => ⟨S1x32x512, .f32⟩
  | .local _ .vmem, ⟨17, _⟩ => ⟨S512x512, .f32⟩
  | .local _ .vmem, ⟨18, _⟩ => ⟨S512x128, .f32⟩
  | .local _ .vmem, ⟨19, _⟩ => ⟨S64x512, .bf16⟩
  | .local _ .vmem, ⟨20, _⟩ => ⟨S2x512x512, .bf16⟩
  | .local _ .vmem, ⟨21, _⟩ => ⟨S512x512, .bf16⟩
  | .local _ .vmem, ⟨22, _⟩ => ⟨S512x512, .bf16⟩
  | _, _ => ⟨S3x512x32x64, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8_0 : Ref sig .tc := ⟨.hbm, 14, rfl⟩
abbrev main_v8_1 : Ref sig .tc := ⟨.hbm, 15, rfl⟩
abbrev main_v8_2 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_scratch3 : Ref sig .tc := ⟨.vmem, 20, rfl⟩
abbrev cc0_scratch4 : Ref sig .tc := ⟨.vmem, 21, rfl⟩
abbrev cc0_scratch5 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [BitOps F]

abbrev grid0 : Pipeline.Grid := ⟨2, ![3, 32], ![false, false]⟩

def k0_off1 (i : grid0.Coords) : Fin 3 → Nat :=
  let c0 : Index := 0#32
  let arg1 : BitVec 32 := BitVec.ofNat 32 (i 1).val
  let v0 : Index := Scalar.indexCast arg1
  let c0_0 : Index := 0#32
  ![0, v0.toNat, 0]
def k0_mult1 (i : grid0.Coords) : BitVec 32 :=
  let arg1 : BitVec 32 := BitVec.ofNat 32 (i 1).val
  let c8_i32 : BitVec 32 := 8#32
  let c0_i32_85 : BitVec 32 := 0#32
  let v160 : BitVec 1 := Scalar.cmpi .eq c8_i32 c0_i32_85
  let c1_i32_86 : BitVec 32 := 1#32
  let v161 : BitVec 32 := Scalar.select v160 c1_i32_86 c8_i32
  let v162 : BitVec 32 := Scalar.remsi arg1 v161
  let c0_i32_88 : BitVec 32 := 0#32
  let v164 : BitVec 1 := Scalar.cmpi .slt v162 c0_i32_88
  let c0_i32_89 : BitVec 32 := 0#32
  let v165 : BitVec 1 := Scalar.cmpi .slt v161 c0_i32_89
  let v166 : BitVec 1 := Scalar.xori v164 v165
  let c0_i32_87 : BitVec 32 := 0#32
  let v163 : BitVec 1 := Scalar.cmpi .ne v162 c0_i32_87
  let v167 : BitVec 1 := Scalar.andi v166 v163
  let v168 : BitVec 32 := Scalar.addi v162 v161
  let v169 : BitVec 32 := Scalar.select v167 v168 v162
  let v170 : BitVec 32 := Scalar.subi arg1 v169
  v170
def k0_off2 (i : grid0.Coords) : Fin 3 → Nat :=
  let c0_97 : Index := 0#32
  let arg1 : BitVec 32 := BitVec.ofNat 32 (i 1).val
  let c8_i32 : BitVec 32 := 8#32
  let c0_i32_85 : BitVec 32 := 0#32
  let v160 : BitVec 1 := Scalar.cmpi .eq c8_i32 c0_i32_85
  let c1_i32_86 : BitVec 32 := 1#32
  let v161 : BitVec 32 := Scalar.select v160 c1_i32_86 c8_i32
  let v162 : BitVec 32 := Scalar.remsi arg1 v161
  let c0_i32_88 : BitVec 32 := 0#32
  let v164 : BitVec 1 := Scalar.cmpi .slt v162 c0_i32_88
  let c0_i32_89 : BitVec 32 := 0#32
  let v165 : BitVec 1 := Scalar.cmpi .slt v161 c0_i32_89
  let v166 : BitVec 1 := Scalar.xori v164 v165
  let c0_i32_87 : BitVec 32 := 0#32
  let v163 : BitVec 1 := Scalar.cmpi .ne v162 c0_i32_87
  let v167 : BitVec 1 := Scalar.andi v166 v163
  let v168 : BitVec 32 := Scalar.addi v162 v161
  let v169 : BitVec 32 := Scalar.select v167 v168 v162
  let v170 : BitVec 32 := Scalar.subi arg1 v169
  let v171 : BitVec 32 := v170
  let v184 : Index := Scalar.indexCast v171
  let c0_98 : Index := 0#32
  ![0, v184.toNat, 0]
def k0_mult2 (i : grid0.Coords) : BitVec 32 :=
  let arg1 : BitVec 32 := BitVec.ofNat 32 (i 1).val
  let c8_i32_250 : BitVec 32 := 8#32
  let c0_i32_251 : BitVec 32 := 0#32
  let v523 : BitVec 1 := Scalar.cmpi .eq c8_i32_250 c0_i32_251
  let c1_i32_252 : BitVec 32 := 1#32
  let v524 : BitVec 32 := Scalar.select v523 c1_i32_252 c8_i32_250
  let v525 : BitVec 32 := Scalar.remsi arg1 v524
  let c0_i32_254 : BitVec 32 := 0#32
  let v527 : BitVec 1 := Scalar.cmpi .slt v525 c0_i32_254
  let c0_i32_255 : BitVec 32 := 0#32
  let v528 : BitVec 1 := Scalar.cmpi .slt v524 c0_i32_255
  let v529 : BitVec 1 := Scalar.xori v527 v528
  let c0_i32_253 : BitVec 32 := 0#32
  let v526 : BitVec 1 := Scalar.cmpi .ne v525 c0_i32_253
  let v530 : BitVec 1 := Scalar.andi v529 v526
  let v531 : BitVec 32 := Scalar.addi v525 v524
  let v532 : BitVec 32 := Scalar.select v530 v531 v525
  let v533 : BitVec 32 := Scalar.subi arg1 v532
  v533
def k0_off3 (i : grid0.Coords) : Fin 3 → Nat :=
  let c0_263 : Index := 0#32
  let arg1 : BitVec 32 := BitVec.ofNat 32 (i 1).val
  let c8_i32_250 : BitVec 32 := 8#32
  let c0_i32_251 : BitVec 32 := 0#32
  let v523 : BitVec 1 := Scalar.cmpi .eq c8_i32_250 c0_i32_251
  let c1_i32_252 : BitVec 32 := 1#32
  let v524 : BitVec 32 := Scalar.select v523 c1_i32_252 c8_i32_250
  let v525 : BitVec 32 := Scalar.remsi arg1 v524
  let c0_i32_254 : BitVec 32 := 0#32
  let v527 : BitVec 1 := Scalar.cmpi .slt v525 c0_i32_254
  let c0_i32_255 : BitVec 32 := 0#32
  let v528 : BitVec 1 := Scalar.cmpi .slt v524 c0_i32_255
  let v529 : BitVec 1 := Scalar.xori v527 v528
  let c0_i32_253 : BitVec 32 := 0#32
  let v526 : BitVec 1 := Scalar.cmpi .ne v525 c0_i32_253
  let v530 : BitVec 1 := Scalar.andi v529 v526
  let v531 : BitVec 32 := Scalar.addi v525 v524
  let v532 : BitVec 32 := Scalar.select v530 v531 v525
  let v533 : BitVec 32 := Scalar.subi arg1 v532
  let v534 : BitVec 32 := v533
  let v547 : Index := Scalar.indexCast v534
  let c128_264 : Index := 128#32
  ![0, v547.toNat, 128]
def k0_mult3 (i : grid0.Coords) : BitVec 32 :=
  let arg1 : BitVec 32 := BitVec.ofNat 32 (i 1).val
  let c8_i32_503 : BitVec 32 := 8#32
  let c0_i32_504 : BitVec 32 := 0#32
  let v1072 : BitVec 1 := Scalar.cmpi .eq c8_i32_503 c0_i32_504
  let c1_i32_505 : BitVec 32 := 1#32
  let v1073 : BitVec 32 := Scalar.select v1072 c1_i32_505 c8_i32_503
  let v1074 : BitVec 32 := Scalar.remsi arg1 v1073
  let c0_i32_507 : BitVec 32 := 0#32
  let v1076 : BitVec 1 := Scalar.cmpi .slt v1074 c0_i32_507
  let c0_i32_508 : BitVec 32 := 0#32
  let v1077 : BitVec 1 := Scalar.cmpi .slt v1073 c0_i32_508
  let v1078 : BitVec 1 := Scalar.xori v1076 v1077
  let c0_i32_506 : BitVec 32 := 0#32
  let v1075 : BitVec 1 := Scalar.cmpi .ne v1074 c0_i32_506
  let v1079 : BitVec 1 := Scalar.andi v1078 v1075
  let v1080 : BitVec 32 := Scalar.addi v1074 v1073
  let v1081 : BitVec 32 := Scalar.select v1079 v1080 v1074
  let v1082 : BitVec 32 := Scalar.subi arg1 v1081
  v1082
def k0_off4 (i : grid0.Coords) : Fin 3 → Nat :=
  let c0_516 : Index := 0#32
  let arg1 : BitVec 32 := BitVec.ofNat 32 (i 1).val
  let c8_i32_503 : BitVec 32 := 8#32
  let c0_i32_504 : BitVec 32 := 0#32
  let v1072 : BitVec 1 := Scalar.cmpi .eq c8_i32_503 c0_i32_504
  let c1_i32_505 : BitVec 32 := 1#32
  let v1073 : BitVec 32 := Scalar.select v1072 c1_i32_505 c8_i32_503
  let v1074 : BitVec 32 := Scalar.remsi arg1 v1073
  let c0_i32_507 : BitVec 32 := 0#32
  let v1076 : BitVec 1 := Scalar.cmpi .slt v1074 c0_i32_507
  let c0_i32_508 : BitVec 32 := 0#32
  let v1077 : BitVec 1 := Scalar.cmpi .slt v1073 c0_i32_508
  let v1078 : BitVec 1 := Scalar.xori v1076 v1077
  let c0_i32_506 : BitVec 32 := 0#32
  let v1075 : BitVec 1 := Scalar.cmpi .ne v1074 c0_i32_506
  let v1079 : BitVec 1 := Scalar.andi v1078 v1075
  let v1080 : BitVec 32 := Scalar.addi v1074 v1073
  let v1081 : BitVec 32 := Scalar.select v1079 v1080 v1074
  let v1082 : BitVec 32 := Scalar.subi arg1 v1081
  let v1083 : BitVec 32 := v1082
  let v1096 : Index := Scalar.indexCast v1083
  let c256_517 : Index := 256#32
  ![0, v1096.toNat, 256]
def k0_mult4 (i : grid0.Coords) : BitVec 32 :=
  let arg1 : BitVec 32 := BitVec.ofNat 32 (i 1).val
  let c8_i32_841 : BitVec 32 := 8#32
  let c0_i32_842 : BitVec 32 := 0#32
  let v1807 : BitVec 1 := Scalar.cmpi .eq c8_i32_841 c0_i32_842
  let c1_i32_843 : BitVec 32 := 1#32
  let v1808 : BitVec 32 := Scalar.select v1807 c1_i32_843 c8_i32_841
  let v1809 : BitVec 32 := Scalar.remsi arg1 v1808
  let c0_i32_845 : BitVec 32 := 0#32
  let v1811 : BitVec 1 := Scalar.cmpi .slt v1809 c0_i32_845
  let c0_i32_846 : BitVec 32 := 0#32
  let v1812 : BitVec 1 := Scalar.cmpi .slt v1808 c0_i32_846
  let v1813 : BitVec 1 := Scalar.xori v1811 v1812
  let c0_i32_844 : BitVec 32 := 0#32
  let v1810 : BitVec 1 := Scalar.cmpi .ne v1809 c0_i32_844
  let v1814 : BitVec 1 := Scalar.andi v1813 v1810
  let v1815 : BitVec 32 := Scalar.addi v1809 v1808
  let v1816 : BitVec 32 := Scalar.select v1814 v1815 v1809
  let v1817 : BitVec 32 := Scalar.subi arg1 v1816
  v1817
def k0_off5 (i : grid0.Coords) : Fin 3 → Nat :=
  let c0_854 : Index := 0#32
  let arg1 : BitVec 32 := BitVec.ofNat 32 (i 1).val
  let c8_i32_841 : BitVec 32 := 8#32
  let c0_i32_842 : BitVec 32 := 0#32
  let v1807 : BitVec 1 := Scalar.cmpi .eq c8_i32_841 c0_i32_842
  let c1_i32_843 : BitVec 32 := 1#32
  let v1808 : BitVec 32 := Scalar.select v1807 c1_i32_843 c8_i32_841
  let v1809 : BitVec 32 := Scalar.remsi arg1 v1808
  let c0_i32_845 : BitVec 32 := 0#32
  let v1811 : BitVec 1 := Scalar.cmpi .slt v1809 c0_i32_845
  let c0_i32_846 : BitVec 32 := 0#32
  let v1812 : BitVec 1 := Scalar.cmpi .slt v1808 c0_i32_846
  let v1813 : BitVec 1 := Scalar.xori v1811 v1812
  let c0_i32_844 : BitVec 32 := 0#32
  let v1810 : BitVec 1 := Scalar.cmpi .ne v1809 c0_i32_844
  let v1814 : BitVec 1 := Scalar.andi v1813 v1810
  let v1815 : BitVec 32 := Scalar.addi v1809 v1808
  let v1816 : BitVec 32 := Scalar.select v1814 v1815 v1809
  let v1817 : BitVec 32 := Scalar.subi arg1 v1816
  let v1818 : BitVec 32 := v1817
  let v1831 : Index := Scalar.indexCast v1818
  let c384_855 : Index := 384#32
  ![0, v1831.toNat, 384]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x64x512 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x32x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x512x64 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x32x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x64x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x64x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S16x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x1x16x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x32x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== KernelIdeal.lean ====
variable {F : FTy → Type} [FloatOps F] [Named F]
def κ : String → Option EReal := fun
  | "ln2" => some ((Real.log 2 : ℝ) : EReal)
  | "scale_log2e" => some (((1 / 8) * (Real.log 2)⁻¹ : ℝ) : EReal)
  | _ => none
-- ==== ReferenceIdeal.lean ====
abbrev S3x512x32x64 : Shape := ⟨4, ![3, 512, 32, 64]⟩
abbrev S3x512x32 : Shape := ⟨3, ![3, 512, 32]⟩
abbrev S512 : Shape := ⟨1, ![512]⟩
abbrev S3x32x512x512 : Shape := ⟨4, ![3, 32, 512, 512]⟩
abbrev S3x32x512 : Shape := ⟨3, ![3, 32, 512]⟩
abbrev S3x32x512x1 : Shape := ⟨4, ![3, 32, 512, 1]⟩
abbrev S3x32x1x512 : Shape := ⟨4, ![3, 32, 1, 512]⟩
abbrev S_ : Shape := ⟨0, ![]⟩
abbrev S1x512 : Shape := ⟨2, ![1, 512]⟩
abbrev S512x1 : Shape := ⟨2, ![512, 1]⟩
abbrev S512x512 : Shape := ⟨2, ![512, 512]⟩
abbrev S3x32x512x64 : Shape := ⟨4, ![3, 32, 512, 64]⟩
abbrev S16 : Shape := ⟨1, ![16]⟩
abbrev S16x1x1x1x1 : Shape := ⟨5, ![16, 1, 1, 1, 1]⟩
abbrev S1x3x32x512x512 : Shape := ⟨5, ![1, 3, 32, 512, 512]⟩
abbrev S16x3x32x512x512 : Shape := ⟨5, ![16, 3, 32, 512, 512]⟩
abbrev S3x32x64x16x512 : Shape := ⟨5, ![3, 32, 64, 16, 512]⟩
abbrev S16x3x32x512x64 : Shape := ⟨5, ![16, 3, 32, 512, 64]⟩
abbrev S1x3x32x512x64 : Shape := ⟨5, ![1, 3, 32, 512, 64]⟩
abbrev S16x3x32x512 : Shape := ⟨4, ![16, 3, 32, 512]⟩
abbrev S3x32x16x512 : Shape := ⟨4, ![3, 32, 16, 512]⟩
abbrev S32x16 : Shape := ⟨2, ![32, 16]⟩
abbrev S16x32 : Shape := ⟨2, ![16, 32]⟩
abbrev S1x1x512 : Shape := ⟨3, ![1, 1, 512]⟩

abbrev nBuf : Space → Nat
  | .hbm => 137
  | .vmem => 4
  | .smem => 0
  | _ => 0

abbrev hbmTy0_0 (i : Nat) : BufTy := match i % 128 with
  | 0 => ⟨S3x512x32x64, .fp8e4m3⟩
  | 1 => ⟨S3x512x32, .f32⟩
  | 2 => ⟨S3x512x32x64, .fp8e4m3⟩
  | 3 => ⟨S3x512x32, .f32⟩
  | 4 => ⟨S3x512x32x64, .bf16⟩
  | 5 => ⟨S3x512x32x64, .bf16⟩
  | 6 => ⟨S3x512x32x64, .f32⟩
  | 7 => ⟨S3x512x32x64, .f32⟩
  | 8 => ⟨S512, .i32⟩
  | 9 => ⟨S3x32x512x512, .f32⟩
  | 10 => ⟨S3x32x512, .f32⟩
  | 11 => ⟨S3x32x512x1, .f32⟩
  | 12 => ⟨S3x32x512x512, .f32⟩
  | 13 => ⟨S3x32x512x512, .f32⟩
  | 14 => ⟨S3x32x512, .f32⟩
  | 15 => ⟨S3x32x1x512, .f32⟩
  | 16 => ⟨S3x32x512x512, .f32⟩
  | 17 => ⟨S3x32x512x512, .f32⟩
  | 18 => ⟨S_, .f32⟩
  | 19 => ⟨S3x32x512x512, .f32⟩
  | 20 => ⟨S3x32x512x512, .f32⟩
  | 21 => ⟨S1x512, .i32⟩
  | 22 => ⟨S512x1, .i32⟩
  | 23 => ⟨S512x512, .i32⟩
  | 24 => ⟨S512x512, .i32⟩
  | 25 => ⟨S512x512, .i1⟩
  | 26 => ⟨S_, .f32⟩
  | 27 => ⟨S_, .f32⟩
  | 28 => ⟨S3x32x512x512, .i1⟩
  | 29 => ⟨S3x32x512x512, .f32⟩
  | 30 => ⟨S3x32x512x512, .f32⟩
  | 31 => ⟨S_, .f32⟩
  | 32 => ⟨S3x32x512, .f32⟩
  | 33 => ⟨S3x32x512x1, .f32⟩
  | 34 => ⟨S3x32x512x512, .f32⟩
  | 35 => ⟨S3x32x512x512, .f32⟩
  | 36 => ⟨S3x32x512x512, .f32⟩
  | 37 => ⟨S_, .f32⟩
  | 38 => ⟨S3x32x512, .f32⟩
  | 39 => ⟨S3x32x512, .f32⟩
  | 40 => ⟨S3x32x512, .f32⟩
  | 41 => ⟨S3x32x512x1, .f32⟩
  | 42 => ⟨S_, .f32⟩
  | 43 => ⟨S3x32x512x1, .f32⟩
  | 44 => ⟨S3x32x512x1, .f32⟩
  | 45 => ⟨S3x32x512x512, .f32⟩
  | 46 => ⟨S3x32x512x512, .f32⟩
  | 47 => ⟨S3x32x512x512, .bf16⟩
  | 48 => ⟨S3x32x512x64, .f32⟩
  | 49 => ⟨S16, .i32⟩
  | 50 => ⟨S_, .i32⟩
  | 51 => ⟨S16, .i32⟩
  | 52 => ⟨S16, .i32⟩
  | 53 => ⟨S16, .f32⟩
  | 54 => ⟨S16x1x1x1x1, .f32⟩
  | 55 => ⟨S_, .f32⟩
  | 56 => ⟨S16x1x1x1x1, .f32⟩
  | 57 => ⟨S16x1x1x1x1, .f32⟩
  | 58 => ⟨S_, .f32⟩
  | 59 => ⟨S16x1x1x1x1, .f32⟩
  | 60 => ⟨S16x1x1x1x1, .f32⟩
  | 61 => ⟨S1x3x32x512x512, .f32⟩
  | 62 => ⟨S16x3x32x512x512, .f32⟩
  | 63 => ⟨S16x3x32x512x512, .f32⟩
  | 64 => ⟨S16x3x32x512x512, .f32⟩
  | 65 => ⟨S16x3x32x512x512, .f32⟩
  | 66 => ⟨S_, .f32⟩
  | 67 => ⟨S_, .f32⟩
  | 68 => ⟨S_, .f32⟩
  | 69 => ⟨S16x3x32x512x512, .f32⟩
  | 70 => ⟨S16x3x32x512x512, .f32⟩
  | 71 => ⟨S_, .f32⟩
  | 72 => ⟨S16x3x32x512x512, .f32⟩
  | 73 => ⟨S16x3x32x512x512, .f32⟩
  | 74 => ⟨S_, .f32⟩
  | 75 => ⟨S3x32x512x512, .f32⟩
  | 76 => ⟨S3x32x512x512, .f32⟩
  | 77 => ⟨S3x32x512x512, .f32⟩
  | 78 => ⟨S_, .f32⟩
  | 79 => ⟨S_, .f32⟩
  | 80 => ⟨S_, .f32⟩
  | 81 => ⟨S3x32x512x512, .f32⟩
  | 82 => ⟨S3x32x512x512, .f32⟩
  | 83 => ⟨S_, .f32⟩
  | 84 => ⟨S3x32x512x512, .f32⟩
  | 85 => ⟨S3x32x512x512, .f32⟩
  | 86 => ⟨S1x3x32x512x512, .f32⟩
  | 87 => ⟨S16x3x32x512x512, .f32⟩
  | 88 => ⟨S16x3x32x512x512, .f32⟩
  | 89 => ⟨S16x3x32x512x512, .i1⟩
  | 90 => ⟨S1x3x32x512x512, .f32⟩
  | 91 => ⟨S_, .f32⟩
  | 92 => ⟨S1x3x32x512x512, .f32⟩
  | 93 => ⟨S1x3x32x512x512, .f32⟩
  | 94 => ⟨S16x3x32x512x512, .f32⟩
  | 95 => ⟨S16x3x32x512x512, .f32⟩
  | 96 => ⟨S16x3x32x512x512, .i32⟩
  | 97 => ⟨S_, .i32⟩
  | 98 => ⟨S16x3x32x512x512, .i32⟩
  | 99 => ⟨S16x3x32x512x512, .i1⟩
  | 100 => ⟨S_, .f32⟩
  | 101 => ⟨S_, .f32⟩
  | 102 => ⟨S16x3x32x512x512, .f32⟩
  | 103 => ⟨S16x3x32x512x512, .f32⟩
  | 104 => ⟨S16x3x32x512x512, .f32⟩
  | 105 => ⟨S_, .i32⟩
  | 106 => ⟨S16x3x32x512x512, .i32⟩
  | 107 => ⟨S16x3x32x512x512, .i32⟩
  | 108 => ⟨S16x3x32x512x512, .f32⟩
  | 109 => ⟨S16x3x32x512x512, .f32⟩
  | 110 => ⟨S16x3x32x512x512, .bf16⟩
  | 111 => ⟨S3x32x64x16x512, .f32⟩
  | 112 => ⟨S16x3x32x512x64, .f32⟩
  | 113 => ⟨S1x3x32x512x64, .f32⟩
  | 114 => ⟨S16x3x32x512x64, .f32⟩
  | 115 => ⟨S16x3x32x512x64, .f32⟩
  | 116 => ⟨S3x512x32x64, .f32⟩
  | 117 => ⟨S3x512x32x64, .f32⟩
  | 118 => ⟨S3x32x512x64, .f32⟩
  | 119 => ⟨S1x3x32x512x64, .f32⟩
  | 120 => ⟨S16x3x32x512x64, .f32⟩
  | 121 => ⟨S16x3x32x512x64, .f32⟩
  | 122 => ⟨S16x3x32x512x64, .f32⟩
  | 123 => ⟨S_, .f32⟩
  | 124 => ⟨S16x3x32x512, .f32⟩
  | 125 => ⟨S3x32x16x512, .f32⟩
  | 126 => ⟨S_, .f32⟩
  | 127 => ⟨S32x16, .f32⟩
  | _ => ⟨S3x512x32x64, .fp8e4m3⟩

abbrev hbmTy0_1 (i : Nat) : BufTy := match i % 128 with
  | 0 => ⟨S16x32, .f32⟩
  | 1 => ⟨S_, .i32⟩
  | 2 => ⟨S512, .i32⟩
  | 3 => ⟨S512, .i32⟩
  | 4 => ⟨S512, .f32⟩
  | 5 => ⟨S512, .f32⟩
  | 6 => ⟨S1x1x512, .f32⟩
  | 7 => ⟨S3x32x512, .f32⟩
  | 8 => ⟨S3x32x512, .f32⟩
  | _ => ⟨S3x512x32x64, .fp8e4m3⟩

abbrev hbmTy (i : Nat) : BufTy := match i / 128 with
  | 0 => hbmTy0_0 i
  | 1 => hbmTy0_1 i
  | _ => ⟨S3x512x32x64, .fp8e4m3⟩

abbrev bufTy : (tb : Table) → Fin (tcTables nBuf tb) → BufTy
  | .hbm, ⟨i, _⟩ => hbmTy i
  | .local _ .vmem, ⟨0, _⟩ => ⟨S3x512x32x64, .fp8e4m3⟩
  | .local _ .vmem, ⟨1, _⟩ => ⟨S3x512x32x64, .fp8e4m3⟩
  | .local _ .vmem, ⟨2, _⟩ => ⟨S3x512x32x64, .f32⟩
  | .local _ .vmem, ⟨3, _⟩ => ⟨S3x512x32x64, .f32⟩
  | _, _ => ⟨S3x512x32x64, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_0 : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_v18 : Ref sig .tc := ⟨.hbm, 30, rfl⟩
abbrev main_cst_1 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_2 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_3 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_c : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_4 : Ref sig .tc := ⟨.hbm, 55, rfl⟩
abbrev main_v39 : Ref sig .tc := ⟨.hbm, 56, rfl⟩
abbrev main_v40 : Ref sig .tc := ⟨.hbm, 57, rfl⟩
abbrev main_cst_5 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_6 : Ref sig .tc := ⟨.hbm, 66, rfl⟩
abbrev main_cst_7 : Ref sig .tc := ⟨.hbm, 67, rfl⟩
abbrev main_call2_v0 : Ref sig .tc := ⟨.hbm, 68, rfl⟩
abbrev main_call2_v1 : Ref sig .tc := ⟨.hbm, 69, rfl⟩
abbrev main_call2_v2 : Ref sig .tc := ⟨.hbm, 70, rfl⟩
abbrev main_call2_v3 : Ref sig .tc := ⟨.hbm, 71, rfl⟩
abbrev main_call2_v4 : Ref sig .tc := ⟨.hbm, 72, rfl⟩
abbrev main_v48 : Ref sig .tc := ⟨.hbm, 73, rfl⟩
abbrev main_cst_8 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_cst_9 : Ref sig .tc := ⟨.hbm, 78, rfl⟩
abbrev main_cst_10 : Ref sig .tc := ⟨.hbm, 79, rfl⟩
abbrev main_call4_v0 : Ref sig .tc := ⟨.hbm, 80, rfl⟩
abbrev main_call4_v1 : Ref sig .tc := ⟨.hbm, 81, rfl⟩
abbrev main_call4_v2 : Ref sig .tc := ⟨.hbm, 82, rfl⟩
abbrev main_call4_v3 : Ref sig .tc := ⟨.hbm, 83, rfl⟩
abbrev main_call4_v4 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_cst_11 : Ref sig .tc := ⟨.hbm, 91, rfl⟩
abbrev main_v58 : Ref sig .tc := ⟨.hbm, 92, rfl⟩
abbrev main_v59 : Ref sig .tc := ⟨.hbm, 93, rfl⟩
abbrev main_call5_v0 : Ref sig .tc := ⟨.hbm, 94, rfl⟩
abbrev main_v60 : Ref sig .tc := ⟨.hbm, 95, rfl⟩
abbrev main_v61 : Ref sig .tc := ⟨.hbm, 96, rfl⟩
abbrev main_c_12 : Ref sig .tc := ⟨.hbm, 97, rfl⟩
abbrev main_v62 : Ref sig .tc := ⟨.hbm, 98, rfl⟩
abbrev main_v63 : Ref sig .tc := ⟨.hbm, 99, rfl⟩
abbrev main_cst_13 : Ref sig .tc := ⟨.hbm, 100, rfl⟩
abbrev main_call6_v0 : Ref sig .tc := ⟨.hbm, 101, rfl⟩
abbrev main_call6_v1 : Ref sig .tc := ⟨.hbm, 102, rfl⟩
abbrev main_call6_v2 : Ref sig .tc := ⟨.hbm, 103, rfl⟩
abbrev main_v64 : Ref sig .tc := ⟨.hbm, 104, rfl⟩
abbrev main_c_14 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_cst_15 : Ref sig .tc := ⟨.hbm, 123, rfl⟩
abbrev main_v82 : Ref sig .tc := ⟨.hbm, 124, rfl⟩
abbrev main_v83 : Ref sig .tc := ⟨.hbm, 125, rfl⟩
abbrev main_cst_16 : Ref sig .tc := ⟨.hbm, 126, rfl⟩
abbrev main_v84 : Ref sig .tc := ⟨.hbm, 127, rfl⟩
abbrev main_v85 : Ref sig .tc := ⟨.hbm, 128, rfl⟩
abbrev main_c_17 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S3x512x32x64 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x512x32x64 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3x512x32x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3x512x32x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.KFrame.Runs.lean ====
/-
  What the run of the kernel's body and its frame are stated over: the program up to its one region, the blocks of the windows, the buffers.
-/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c)⟩) h

/-! ## The kernel body on any staging memrefs: a subtype the run finds -/

/-- Each window's current staging memref at point `t`, spelled as the pipeline passes it (`bodyAt0`), and its wholeness. -/
abbrev ms0_0 (t : Fin cfg0.N) : Memref sig .tc .vmem S1x1x64x512 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x32x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x512x64 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x32x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x64x512 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1x64x512 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S16x32 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1x16x512 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x32x512 .f32 := win0_8.stage (cfg0.slots t 8)
abbrev hs0_8 (t : Fin cfg0.N) : (ms0_8 t).IsWhole := hstage0_8 ((cfg0.slots t 8).cast nbuf0_8)
/-- The scratch operands: whole scoped buffers of the kernel's own, passed beside the windows. -/
abbrev scM0_0 : Memref sig .tc .vmem S512x512 .f32 := Memref.whole cc0_scratch0
abbrev scM0_1 : Memref sig .tc .vmem S512x128 .f32 := Memref.whole cc0_scratch1
abbrev scM0_2 : Memref sig .tc .vmem S64x512 .bf16 := Memref.whole cc0_scratch2
abbrev scM0_3 : Memref sig .tc .vmem S2x512x512 .bf16 := Memref.whole cc0_scratch3
abbrev scM0_4 : Memref sig .tc .vmem S512x512 .bf16 := Memref.whole cc0_scratch4
abbrev scM0_5 : Memref sig .tc .vmem S512x512 .bf16 := Memref.whole cc0_scratch5

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r)) := by
  unfold Pipeline.ΦA; rw [scopedRest0_eq]; simp only [scM0_0, scM0_1, scM0_2, scM0_3, scM0_4, scM0_5, owns_whole]; try rfl

/-- A head's row within its tile of eight heads, as the body computes it. -/
abbrev headRow (h : BitVec 32) : BitVec 32 :=
  let n : BitVec 32 := Scalar.select (Scalar.cmpi .eq 8#32 0#32) 1#32 8#32
  let r : BitVec 32 := Scalar.remsi h n
  Scalar.select (Scalar.andi (Scalar.xori (Scalar.cmpi .slt r 0#32) (Scalar.cmpi .slt n 0#32)) (Scalar.cmpi .ne r 0#32)) (Scalar.addi r n) r

/-- The first row of a head's tile. -/
theorem tileStart_eq : ∀ h : Fin 32, (Scalar.indexCast (Scalar.subi (BitVec.ofNat 32 h.val) (headRow (BitVec.ofNat 32 h.val)))).toNat = 8 * (h.val / 8) := by
  decide +kernel

/-! Where the body reads and writes the log-sum-exp: the head's tile, at each of the four blocks of queries. -/

instance (i : grid0.Coords) : ClosedOff (k0_off2 i) := ⟨![0, 8 * ((i 1).val / 8), 0], congrArg (fun x => ![0, x, 0]) (tileStart_eq (i 1))⟩

instance (i : grid0.Coords) : ClosedOff (k0_off3 i) := ⟨![0, 8 * ((i 1).val / 8), 128], congrArg (fun x => ![0, x, 128]) (tileStart_eq (i 1))⟩

instance (i : grid0.Coords) : ClosedOff (k0_off4 i) := ⟨![0, 8 * ((i 1).val / 8), 256], congrArg (fun x => ![0, x, 256]) (tileStart_eq (i 1))⟩

instance (i : grid0.Coords) : ClosedOff (k0_off5 i) := ⟨![0, 8 * ((i 1).val / 8), 384], congrArg (fun x => ![0, x, 384]) (tileStart_eq (i 1))⟩

end Cert.Kernel.Gen

end
-- ==== Proof.KFrame.RunA.lean ====
/-
  The body of the kernel runs from any contents of its buffers, leaves its inputs as they are and its outputs at some contents.
-/
module

public import proofs.«01_k».proof.Proof.KFrame.Runs

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 6608000 in
/-- The body's triple: on whole staging memrefs — the inputs' at their contents,
    the FORGOTTEN outputs' (6, 7, 8) at anything, handed back at some contents nothing names —
    the body runs to the continuation holding the inputs' as they were, the scratch at some contents: the printed functions are their skeletons (`Gen.*_eq_skeleton`),
    which `sl_exec` runs (Lib/Exec.lean). -/
theorem kernelRun0_A (c : Dev nD) (i : grid0.Coords) (arg2 : Memref sig .tc .vmem S1x1x64x512 .fp8e4m3) (harg2 : arg2.IsWhole) (arg3 : Memref sig .tc .vmem S1x32x512 .f32) (harg3 : arg3.IsWhole) (arg4 : Memref sig .tc .vmem S1x1x512x64 .fp8e4m3) (harg4 : arg4.IsWhole) (arg5 : Memref sig .tc .vmem S1x32x512 .f32) (harg5 : arg5.IsWhole) (arg6 : Memref sig .tc .vmem S1x1x64x512 .bf16) (harg6 : arg6.IsWhole) (arg7 : Memref sig .tc .vmem S1x1x64x512 .bf16) (harg7 : arg7.IsWhole) (arg8 : Memref sig .tc .vmem S16x32 .f32) (harg8 : arg8.IsWhole) (arg9 : Memref sig .tc .vmem S1x1x16x512 .f32) (harg9 : arg9.IsWhole) (arg10 : Memref sig .tc .vmem S1x32x512 .f32) (harg10 : arg10.IsWhole) (arg11 : Memref sig .tc .vmem S512x512 .f32) (harg11 : arg11.IsWhole) (arg12 : Memref sig .tc .vmem S512x128 .f32) (harg12 : arg12.IsWhole) (arg13 : Memref sig .tc .vmem S64x512 .bf16) (harg13 : arg13.IsWhole) (arg14 : Memref sig .tc .vmem S2x512x512 .bf16) (harg14 : arg14.IsWhole) (arg15 : Memref sig .tc .vmem S512x512 .bf16) (harg15 : arg15.IsWhole) (arg16 : Memref sig .tc .vmem S512x512 .bf16) (harg16 : arg16.IsWhole)
    (x0 : Vec F S1x1x64x512 .fp8e4m3) (x1 : Vec F S1x32x512 .f32) (x2 : Vec F S1x1x512x64 .fp8e4m3) (x3 : Vec F S1x32x512 .f32) (x4 : Vec F S1x1x64x512 .bf16) (x5 : Vec F S1x1x64x512 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) -∗ K ⟨⟩))
          ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
    intro E K
    simp only [cc0__body_eq_skeleton]; unfold cc0__body_skel
    simp only [k0_part145_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part146_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    iexists _, _; isplitr; swap; · iexact HS5
    ipureintro; rfl

end Cert.Kernel.Gen

end
-- ==== Proof.KFrame.Frame.lean ====
/-
  The frame of the kernel: it terminates without fault, leaves its arguments unchanged and every counter at zero.
-/
module

public import proofs.«01_k».proof.Proof.KFrame.RunA
public import Idealize.ShloMosaic.Lib.Claim

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (6, 7, 8): nothing reads what the kernel leaves in them, so nothing
    of it is named (Lib/Pipeline/Dat.lean `Dat.toRForget`). -/
def forgets0 : Fin 9 → Bool := fun w => w.val == 6 || w.val == 7 || w.val == 8

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare d)
    ∗ (∃ d, owns (c : Thread nD τ) (ms0_7 t) fullShare d)
    ∗ (∃ d, owns (c : Thread nD τ) (ms0_8 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ (∃ d, owns (c : Thread nD τ) (ms0_6 t) fullShare d)
    ∗ (∃ d, owns (c : Thread nD τ) (ms0_7 t) fullShare d)
    ∗ (∃ d, owns (c : Thread nD τ) (ms0_8 t) fullShare d))

set_option maxHeartbeats 1200000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  rw [show (dats m 0 c).Φ t.castSucc = Pipeline.ΦA spec0 c from rfl, PhiA0_eq]
  iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((kernelRun0_A c (grid0.coords t) _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, H5, H6, H7, H8, HS0, HS1, HS2, HS3, HS4, HS5⟩
  isplitl [HS0 HS1 HS2 HS3 HS4 HS5 Hg]
  · isplitl [HS0 HS1 HS2 HS3 HS4 HS5]
    · isplitl [HS0]
      · iexact HS0
      isplitl [HS1]
      · iexact HS1
      isplitl [HS2]
      · iexact HS2
      isplitl [HS3]
      · iexact HS3
      isplitl [HS4]
      · iexact HS4
      iexact HS5
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 6, 7, 8) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (fun c => (dats m 0 c).toRForget forgets0) (A_eq m) (run_main m ρ)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.Kernel.Gen

end
-- ==== Proof.IFrame.Runs.lean ====
/-
  What the run of the ideal kernel's body and its frame are stated over: the program up to its one region, the blocks of the windows, the buffers.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_KernelIdeal`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c)⟩) h

/-! ## The kernel body on any staging memrefs: a subtype the run finds -/

/-- Each window's current staging memref at point `t`, spelled as the pipeline passes it (`bodyAt0`), and its wholeness. -/
abbrev ms0_0 (t : Fin cfg0.N) : Memref sig .tc .vmem S1x1x64x512 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x32x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x512x64 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x32x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x64x512 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1x64x512 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S16x32 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1x16x512 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x32x512 .f32 := win0_8.stage (cfg0.slots t 8)
abbrev hs0_8 (t : Fin cfg0.N) : (ms0_8 t).IsWhole := hstage0_8 ((cfg0.slots t 8).cast nbuf0_8)
/-- The scratch operands: whole scoped buffers of the kernel's own, passed beside the windows. -/
abbrev scM0_0 : Memref sig .tc .vmem S512x512 .f32 := Memref.whole cc0_scratch0
abbrev scM0_1 : Memref sig .tc .vmem S512x128 .f32 := Memref.whole cc0_scratch1
abbrev scM0_2 : Memref sig .tc .vmem S64x512 .bf16 := Memref.whole cc0_scratch2
abbrev scM0_3 : Memref sig .tc .vmem S2x512x512 .bf16 := Memref.whole cc0_scratch3
abbrev scM0_4 : Memref sig .tc .vmem S512x512 .bf16 := Memref.whole cc0_scratch4
abbrev scM0_5 : Memref sig .tc .vmem S512x512 .bf16 := Memref.whole cc0_scratch5

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r)) := by
  unfold Pipeline.ΦA; rw [scopedRest0_eq]; simp only [scM0_0, scM0_1, scM0_2, scM0_3, scM0_4, scM0_5, owns_whole]; try rfl

/-- A head's row within its tile of eight heads, as the body computes it. -/
abbrev headRow (h : BitVec 32) : BitVec 32 :=
  let n : BitVec 32 := Scalar.select (Scalar.cmpi .eq 8#32 0#32) 1#32 8#32
  let r : BitVec 32 := Scalar.remsi h n
  Scalar.select (Scalar.andi (Scalar.xori (Scalar.cmpi .slt r 0#32) (Scalar.cmpi .slt n 0#32)) (Scalar.cmpi .ne r 0#32)) (Scalar.addi r n) r

/-- The first row of a head's tile. -/
theorem tileStart_eq : ∀ h : Fin 32, (Scalar.indexCast (Scalar.subi (BitVec.ofNat 32 h.val) (headRow (BitVec.ofNat 32 h.val)))).toNat = 8 * (h.val / 8) := by
  decide +kernel

/-! Where the body reads and writes the log-sum-exp: the head's tile, at each of the four blocks of queries. -/

instance (i : grid0.Coords) : ClosedOff (k0_off2 i) := ⟨![0, 8 * ((i 1).val / 8), 0], congrArg (fun x => ![0, x, 0]) (tileStart_eq (i 1))⟩

instance (i : grid0.Coords) : ClosedOff (k0_off3 i) := ⟨![0, 8 * ((i 1).val / 8), 128], congrArg (fun x => ![0, x, 128]) (tileStart_eq (i 1))⟩

instance (i : grid0.Coords) : ClosedOff (k0_off4 i) := ⟨![0, 8 * ((i 1).val / 8), 256], congrArg (fun x => ![0, x, 256]) (tileStart_eq (i 1))⟩

instance (i : grid0.Coords) : ClosedOff (k0_off5 i) := ⟨![0, 8 * ((i 1).val / 8), 384], congrArg (fun x => ![0, x, 384]) (tileStart_eq (i 1))⟩

end Cert.KernelIdeal.Gen

end
-- ==== Proof.IFrame.RunA.lean ====
/-
  The body of the ideal kernel runs from any contents of its buffers, leaves its inputs as they are and its outputs at some contents.
-/
module

public import proofs.«01_k».proof.Proof.IFrame.Runs

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 6624000 in
/-- The body's triple: on whole staging memrefs — the inputs' at their contents,
    the FORGOTTEN outputs' (6, 7, 8) at anything, handed back at some contents nothing names —
    the body runs to the continuation holding the inputs' as they were, the scratch at some contents: the printed functions are their skeletons (`Gen.*_eq_skeleton`),
    which `sl_exec` runs (Lib/Exec.lean). -/
theorem kernelRun0_A (c : Dev nD) (i : grid0.Coords) (arg2 : Memref sig .tc .vmem S1x1x64x512 .fp8e4m3) (harg2 : arg2.IsWhole) (arg3 : Memref sig .tc .vmem S1x32x512 .f32) (harg3 : arg3.IsWhole) (arg4 : Memref sig .tc .vmem S1x1x512x64 .fp8e4m3) (harg4 : arg4.IsWhole) (arg5 : Memref sig .tc .vmem S1x32x512 .f32) (harg5 : arg5.IsWhole) (arg6 : Memref sig .tc .vmem S1x1x64x512 .bf16) (harg6 : arg6.IsWhole) (arg7 : Memref sig .tc .vmem S1x1x64x512 .bf16) (harg7 : arg7.IsWhole) (arg8 : Memref sig .tc .vmem S16x32 .f32) (harg8 : arg8.IsWhole) (arg9 : Memref sig .tc .vmem S1x1x16x512 .f32) (harg9 : arg9.IsWhole) (arg10 : Memref sig .tc .vmem S1x32x512 .f32) (harg10 : arg10.IsWhole) (arg11 : Memref sig .tc .vmem S512x512 .f32) (harg11 : arg11.IsWhole) (arg12 : Memref sig .tc .vmem S512x128 .f32) (harg12 : arg12.IsWhole) (arg13 : Memref sig .tc .vmem S64x512 .bf16) (harg13 : arg13.IsWhole) (arg14 : Memref sig .tc .vmem S2x512x512 .bf16) (harg14 : arg14.IsWhole) (arg15 : Memref sig .tc .vmem S512x512 .bf16) (harg15 : arg15.IsWhole) (arg16 : Memref sig .tc .vmem S512x512 .bf16) (harg16 : arg16.IsWhole)
    (x0 : Vec F S1x1x64x512 .fp8e4m3) (x1 : Vec F S1x32x512 .f32) (x2 : Vec F S1x1x512x64 .fp8e4m3) (x3 : Vec F S1x32x512 .f32) (x4 : Vec F S1x1x64x512 .bf16) (x5 : Vec F S1x1x64x512 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) -∗ K ⟨⟩))
          ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
    intro E K
    simp only [cc0__body_eq_skeleton]; unfold cc0__body_skel
    simp only [k0_part146_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part147_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    iexists _, _; isplitr; swap; · iexact HS5
    ipureintro; rfl

end Cert.KernelIdeal.Gen

end
-- ==== Proof.IFrame.Frame.lean ====
/-
  The frame of the ideal kernel: it terminates without fault, leaves its arguments unchanged and every counter at zero.
-/
module

public import proofs.«01_k».proof.Proof.IFrame.RunA
public import Idealize.ShloMosaic.Lib.Claim

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (6, 7, 8): nothing reads what the kernel leaves in them, so nothing
    of it is named (Lib/Pipeline/Dat.lean `Dat.toRForget`). -/
def forgets0 : Fin 9 → Bool := fun w => w.val == 6 || w.val == 7 || w.val == 8

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare d)
    ∗ (∃ d, owns (c : Thread nD τ) (ms0_7 t) fullShare d)
    ∗ (∃ d, owns (c : Thread nD τ) (ms0_8 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ (∃ d, owns (c : Thread nD τ) (ms0_6 t) fullShare d)
    ∗ (∃ d, owns (c : Thread nD τ) (ms0_7 t) fullShare d)
    ∗ (∃ d, owns (c : Thread nD τ) (ms0_8 t) fullShare d))

set_option maxHeartbeats 1200000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  rw [show (dats m 0 c).Φ t.castSucc = Pipeline.ΦA spec0 c from rfl, PhiA0_eq]
  iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((kernelRun0_A c (grid0.coords t) _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, H5, H6, H7, H8, HS0, HS1, HS2, HS3, HS4, HS5⟩
  isplitl [HS0 HS1 HS2 HS3 HS4 HS5 Hg]
  · isplitl [HS0 HS1 HS2 HS3 HS4 HS5]
    · isplitl [HS0]
      · iexact HS0
      isplitl [HS1]
      · iexact HS1
      isplitl [HS2]
      · iexact HS2
      isplitl [HS3]
      · iexact HS3
      isplitl [HS4]
      · iexact HS4
      iexact HS5
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 6, 7, 8) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (fun c => (dats m 0 c).toRForget forgets0) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.KernelIdeal.Gen

end
-- ==== Proof.Act.lean ====
/-
  Actions of the kernel's body: programs over the body's fifteen memrefs that come with what they return and what they
  leave in the buffers, and with the proof that running the program does that.
-/
module

public import proofs.«01_k».proof.Proof.IFrame.Runs
public import Idealize.ShloMosaic.Lib.Pipeline.Frame
public import Idealize.ShloMosaic.Lib.Tactic

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The buffers of the body, by their meaning. -/
inductive Buf' where
  | q | qs | kp | ks | v | d | loss | row | lse | s | kc | vt | y | l | pb
  deriving DecidableEq

/-- A buffer's shape. -/
abbrev Buf'.shape : Buf' → Shape
  | .q => S1x1x64x512 | .qs => S1x32x512 | .kp => S1x1x512x64 | .ks => S1x32x512 | .v => S1x1x64x512 | .d => S1x1x64x512
  | .loss => S16x32 | .row => S1x1x16x512 | .lse => S1x32x512 | .s => S512x512 | .kc => S512x128 | .vt => S64x512
  | .y => S2x512x512 | .l => S512x512 | .pb => S512x512

/-- A buffer's element type. -/
abbrev Buf'.elt : Buf' → EltTy
  | .q => .fp8e4m3 | .qs => .f32 | .kp => .fp8e4m3 | .ks => .f32 | .v => .bf16 | .d => .bf16
  | .loss => .f32 | .row => .f32 | .lse => .f32 | .s => .f32 | .kc => .f32 | .vt => .bf16
  | .y => .bf16 | .l => .bf16 | .pb => .bf16

/-- The memrefs the body is handed, each a whole buffer. -/
structure Args where
  /-- The memref of a buffer. -/
  mem : (r : Buf') → Memref sig .tc .vmem r.shape r.elt
  /-- It is a whole buffer. -/
  whole : (r : Buf') → (mem r).IsWhole

/-- What every buffer holds. -/
abbrev St (F : FTy → Type) : Type := (r : Buf') → Vec F r.shape r.elt

/-- Every buffer owned at what the state says. -/
def Own (c : Dev nD) (a : Args) (st : St F) : sProp 𝕄 :=
  iprop(owns (c : Thread nD τ) (a.mem .q) fullShare (st .q) ∗ owns (c : Thread nD τ) (a.mem .qs) fullShare (st .qs)
    ∗ owns (c : Thread nD τ) (a.mem .kp) fullShare (st .kp) ∗ owns (c : Thread nD τ) (a.mem .ks) fullShare (st .ks)
    ∗ owns (c : Thread nD τ) (a.mem .v) fullShare (st .v) ∗ owns (c : Thread nD τ) (a.mem .d) fullShare (st .d)
    ∗ owns (c : Thread nD τ) (a.mem .loss) fullShare (st .loss) ∗ owns (c : Thread nD τ) (a.mem .row) fullShare (st .row)
    ∗ owns (c : Thread nD τ) (a.mem .lse) fullShare (st .lse) ∗ owns (c : Thread nD τ) (a.mem .s) fullShare (st .s)
    ∗ owns (c : Thread nD τ) (a.mem .kc) fullShare (st .kc) ∗ owns (c : Thread nD τ) (a.mem .vt) fullShare (st .vt)
    ∗ owns (c : Thread nD τ) (a.mem .y) fullShare (st .y) ∗ owns (c : Thread nD τ) (a.mem .l) fullShare (st .l)
    ∗ owns (c : Thread nD τ) (a.mem .pb) fullShare (st .pb))

/-- One buffer taken out, and put back at anything. -/
theorem Own.take (c : Dev nD) (a : Args) (st : St F) (r : Buf') :
    Own c a st ⊢ iprop(owns (c : Thread nD τ) (a.mem r) fullShare (st r)
      ∗ ∀ X, owns (c : Thread nD τ) (a.mem r) fullShare X -∗ Own c a (Function.update st r X)) := by
  unfold Own
  cases r <;>
  · simp only [Function.update_self, ne_eq, reduceCtorEq, not_false_eq_true, Function.update_of_ne]
    iintro ⟨H1, H2, H3, H4, H5, H6, H7, H8, H9, H10, H11, H12, H13, H14, H15⟩
    iframe
    iintro %X HX
    iframe

/-- A payload written over a rectangle of a buffer. -/
def put {s : Shape} {e : EltTy} (r : Rect s) (w : r.shape.Idx → Elt F e) (f : s.Idx → Elt F e) : s.Idx → Elt F e :=
  fun x => by classical exact if h : ∃ y, r.emb y = x then w h.choose else f x

theorem put_emb {s : Shape} {e : EltTy} (r : Rect s) (w : r.shape.Idx → Elt F e) (f : s.Idx → Elt F e) (y : r.shape.Idx) :
    put r w f (r.emb y) = w y := by
  have h : ∃ z, r.emb z = r.emb y := ⟨y, rfl⟩
  unfold put
  rw [dif_pos h, r.emb.injective h.choose_spec]

theorem put_of_not {s : Shape} {e : EltTy} (r : Rect s) (w : r.shape.Idx → Elt F e) (f : s.Idx → Elt F e) (x : s.Idx)
    (h : ∀ y, r.emb y ≠ x) : put r w f x = f x := by
  unfold put
  rw [dif_neg (by simpa using h)]

theorem read_write {cs : Space} {s : Shape} {e : EltTy} (m : Memref sig .tc cs s e) (r : Rect s) (w : r.shape.Idx → Elt F e)
    (f : m.view.ty.Contents (Elt F)) :
    m.view.read (Elt F) ((m.access r).write (Elt F) f w Finset.univ) = put r w (m.view.read (Elt F) f) := by
  funext x
  by_cases h : ∃ y, r.emb y = x
  · obtain ⟨y, rfl⟩ := h
    rw [put_emb]
    exact View.read_slice_write_emb r f w (Finset.mem_univ _)
  · rw [put_of_not r w _ x (by simpa using h)]
    refine View.read_slice_write_of_not_mem r f w _ ?_
    simpa using h

variable (F) in
/-- An action: the program, what it returns and what it leaves, and that it does. -/
structure Act (α : Type) where
  /-- The program, over the memrefs, before what follows it. -/
  prog : Args → (α → Prog (TpuEff nD τ sig (Elt F) Λ₀ .tc) PUnit) → Prog (TpuEff nD τ sig (Elt F) Λ₀ .tc) PUnit
  /-- What it returns. -/
  val : St F → α
  /-- What it leaves. -/
  next : St F → St F
  /-- The program does that. -/
  sound : ∀ (c : Dev nD) (a : Args) (E : Set ℕ) (st : St F) (k : α → Prog (TpuEff nD τ sig (Elt F) Λ₀ .tc) PUnit) (K : PUnit → sProp 𝕄),
    iprop(Own c a st ∗ (Own c a (next st) -∗ wp frame (wpE (defs₀ (F := F)) Variants.none c none) E (k (val st)) K))
      ⊢ wp frame (wpE (defs₀ (F := F)) Variants.none c none) E (prog a k) K

namespace Act

variable {α β : Type}

/-- Returns at once. -/
def pure (x : α) : Act F α where
  prog _ k := k x
  val _ := x
  next st := st
  sound c a E st k K := by
    iintro ⟨H, HK⟩
    iapply HK
    iexact H

/-- One action after another. -/
def bind (p : Act F α) (q : α → Act F β) : Act F β where
  prog a k := p.prog a fun x => (q x).prog a k
  val st := (q (p.val st)).val (p.next st)
  next st := (q (p.val st)).next (p.next st)
  sound c a E st k K := by
    iintro ⟨H, HK⟩
    iapply (p.sound c a E st _ K)
    iframe H
    iintro H
    iapply ((q (p.val st)).sound c a E (p.next st) k K)
    iframe

/-- Reads a buffer at a rectangle's coordinates. -/
def load (r : Buf') (lr : LoadRect r.shape) (h : 0 < lr.shape.numel) : Act F (lr.shape.Idx → Elt F r.elt) where
  prog a k := .op (.load (a.mem r) lr (View.loadsAt_vmem h)) k
  val st := fun x => st r (lr.idx x)
  next st := st
  sound c a E st k K := by
    show _ ⊢ wp _ _ _ (Prog.lift _ >>= k) K
    rw [wp_bind]
    iintro ⟨H, HK⟩
    icases (Own.take c a st r) $$ H with ⟨H, HR⟩
    unfold owns
    icases H with ⟨%f, %hf, H⟩
    iapply (wp_load Variants.none (c : Thread nD τ) none E (by rw [(a.whole r).set_eq_univ]; exact Finset.subset_univ _)) $$ H
    iintro H
    sl_step
    rw [show (a.mem r).view.readAt (Elt F) lr f = fun x => st r (lr.idx x) by rw [← hf]; rfl]
    iapply HK
    ihave H := HR $$ %(st r)
    rw [Function.update_eq_self]
    iapply H
    iexists f
    iframe
    ipureintro; exact hf

/-- Writes a buffer over a rectangle. -/
def store (r : Buf') (rc : Rect r.shape) (h : 0 < rc.shape.numel) (hp : r.elt.bits = 32 ∨ rc.PackedRows r.elt.packing)
    (w : rc.shape.Idx → Elt F r.elt) : Act F PUnit where
  prog a k := .op (.store (a.mem r) rc w Finset.univ
    (View.stores_vmem h (hp.elim (fun h => View.storeExact_bits _ _ h) fun h => (a.whole r).storeExact_slice rfl _ h) (fun _ => rfl)) (.inl rfl)) k
  val st := ⟨⟩
  next st := Function.update st r (put rc w (st r))
  sound c a E st k K := by
    show _ ⊢ wp _ _ _ (Prog.lift _ >>= k) K
    rw [wp_bind]
    iintro ⟨H, HK⟩
    icases (Own.take c a st r) $$ H with ⟨H, HR⟩
    unfold owns
    icases H with ⟨%f, %hf, H⟩
    iapply (wp_store Variants.none (c : Thread nD τ) none E (m := a.mem r) (r := rc) (S := (a.mem r).view.set) (f := f) (by rw [(a.whole r).set_eq_univ]; exact Finset.subset_univ _)) $$ H
    iintro H
    sl_step
    iapply HK
    iapply HR
    iexists _
    iframe
    ipureintro
    rw [← hf]; exact read_write (a.mem r) rc w f

end Act

end Cert.KernelIdeal.Hand
-- ==== Proof.Body.lean ====
/-
  The kernel's body as an action, with the kernel's loops as loops, and that the printed body is this action's program.
-/
module

public import proofs.«01_k».proof.Proof.Act

@[expose] public section

noncomputable section

namespace Cert.KernelIdeal.Hand

open Cert.KernelIdeal
open Idealize.ShloMosaic Idealize.ShloMosaic.TcCoe
open Facts₀ Facts

variable {F : FTy → Type} [FloatOps F] [Named F]

namespace Act

variable {α : Type}

/-- Runs the last `m` of `n` iterations in order, each on what the one before returned. -/
def loopFrom (n : Nat) (f : Fin n → α → Act F α) : (m : Nat) → m ≤ n → α → Act F α
  | 0, _, x => .pure x
  | m + 1, h, x => (f ⟨n - (m + 1), by omega⟩ x).bind (loopFrom n f m (by omega))

/-- Runs the iterations in order, each on what the one before returned. -/
abbrev loop (n : Nat) (f : Fin n → α → Act F α) (x : α) : Act F α := loopFrom n f n (le_refl n) x

instance : Monad (Act F) where
  pure := Act.pure
  bind := Act.bind

end Act

open Act (load store loop)

/-- A unit-stride rectangle of a two-axis shape. -/
abbrev R2 {n0 n1 : Nat} (o0 o1 z0 z1 : Nat) (h0 : o0 + z0 ≤ n0) (h1 : o1 + z1 ≤ n1) : Rect ⟨2, ![n0, n1]⟩ :=
  Rect.unit (s := ⟨2, ![n0, n1]⟩) ![o0, o1] (Shape.size ⟨2, ![z0, z1]⟩) fun a => match a with | 0 => h0 | 1 => h1

/-- A unit-stride rectangle of a three-axis shape. -/
abbrev R3 {n0 n1 n2 : Nat} (o0 o1 o2 z0 z1 z2 : Nat) (h0 : o0 + z0 ≤ n0) (h1 : o1 + z1 ≤ n1) (h2 : o2 + z2 ≤ n2) :
    Rect ⟨3, ![n0, n1, n2]⟩ :=
  Rect.unit (s := ⟨3, ![n0, n1, n2]⟩) ![o0, o1, o2] (Shape.size ⟨3, ![z0, z1, z2]⟩) fun a => match a with | 0 => h0 | 1 => h1 | 2 => h2

/-- A unit-stride rectangle of a four-axis shape. -/
abbrev R4 {n0 n1 n2 n3 : Nat} (o0 o1 o2 o3 z0 z1 z2 z3 : Nat) (h0 : o0 + z0 ≤ n0) (h1 : o1 + z1 ≤ n1) (h2 : o2 + z2 ≤ n2)
    (h3 : o3 + z3 ≤ n3) : Rect ⟨4, ![n0, n1, n2, n3]⟩ :=
  Rect.unit (s := ⟨4, ![n0, n1, n2, n3]⟩) ![o0, o1, o2, o3] (Shape.size ⟨4, ![z0, z1, z2, z3]⟩)
    fun a => match a with | 0 => h0 | 1 => h1 | 2 => h2 | 3 => h3

theorem packed2 {n0 n1 o0 o1 z0 z1 : Nat} (h0 : o0 + z0 ≤ n0) (h1 : o1 + z1 ≤ n1) (ho : 2 ∣ o0) (hz : 2 ∣ z0) :
    (R2 (n0 := n0) (n1 := n1) o0 o1 z0 z1 h0 h1).PackedRows 2 :=
  .inr ⟨le_refl 2, rfl, .inl ⟨ho, hz⟩⟩

theorem packed3 {n0 n1 n2 o0 o1 o2 z0 z1 z2 : Nat} (h0 : o0 + z0 ≤ n0) (h1 : o1 + z1 ≤ n1) (h2 : o2 + z2 ≤ n2) (ho : 2 ∣ o1) (hz : 2 ∣ z1) :
    (R3 (n0 := n0) (n1 := n1) (n2 := n2) o0 o1 o2 z0 z1 z2 h0 h1 h2).PackedRows 2 :=

  have e : Shape.rowAx (s := ⟨3, ![n0, n1, n2]⟩) (show 2 ≤ 3 by omega) = (1 : Fin 3) := rfl
  .inr ⟨show 2 ≤ 3 by omega, by rw [e]; rfl, .inl ⟨by rw [e]; exact ho, by rw [e]; exact hz⟩⟩

/-- The head's number. -/
abbrev hd (i : grid0.Coords) : BitVec 32 := BitVec.ofNat 32 (i 1).val

/-! ## Preparation and scores -/

/-- Lays out the head's key scales and values; returns the head's query scales times the scale of the exponent. -/
def prep (i : grid0.Coords) : Act F (FVec F S1x512 .f32) := do
  let x1 : Vec F S1x1x512 .f32 ← load .ks (Rect.unit (s := S1x32x512) (k0_off1 i) S1x1x512.size (k0_off1_inb i)).toLoadRect h_S1x1x512
  let x5 : FVec F S512x128 .f32 := transpose S512x128 [1, 0] (broadcastTo S128x512 (shapeCast S1x512 (shapeCast S1x512 x1 shapeCasts_S1x1x512_S1x512) shapeCasts_S1x512_S1x512) broadcasts_S1x512_S128x512) transposes_S128x512_p1_0_S512x128
  let _ ← load .kc (R2 0 0 512 128 (by decide) (by decide)).toLoadRect h_S512x128
  store .kc (R2 0 0 512 128 (by decide) (by decide)) h_S512x128 (.inl rfl) (shapeCast S512x128 x5 shapeCasts_S512x128_S512x128)
  let x10 : Vec F S1x1x512 .f32 ← load .qs (Rect.unit (s := S1x32x512) (k0_off1 i) S1x1x512.size (k0_off1_inb i)).toLoadRect h_S1x1x512
  let x13 : FVec F S1x512 .f32 := mulf (shapeCast S1x512 x10 shapeCasts_S1x1x512_S1x512) (broadcast S1x512 (Named.named κ "scale_log2e" 0x3E38AA3B#32))
  let x14 : Vec F S1x1x64x512 .bf16 ← load .v (R4 0 0 0 0 1 1 64 512 (by decide) (by decide) (by decide) (by decide)).toLoadRect h_S1x1x64x512
  let _ ← load .vt (R2 0 0 64 512 (by decide) (by decide)).toLoadRect h_S64x512
  store .vt (R2 0 0 64 512 (by decide) (by decide)) h_S64x512 (.inr (packed2 _ _ (by decide) (by decide)))
    (shapeCast S64x512 (shapeCast S64x512 x14 shapeCasts_S1x1x64x512_S64x512) shapeCasts_S64x512_S64x512)
  pure x13

/-- The raw scores of the first half of the queries against the first half of the keys. -/
def scores0 : Act F PUnit := do
  let x : Vec F S1x1x256x64 .fp8e4m3 ← load .kp (R4 0 0 0 0 1 1 256 64 (by decide) (by decide) (by decide) (by decide)).toLoadRect h_S1x1x256x64
  let y : Vec F S1x1x64x256 .fp8e4m3 ← load .q (R4 0 0 0 0 1 1 64 256 (by decide) (by decide) (by decide) (by decide)).toLoadRect h_S1x1x64x256
  let z : FVec F S256x256 .f32 := matmul dot_S256x64_S64x256_S256x256_1_0_0_1_n_n none (shapeCast S256x64 x shapeCasts_S1x1x256x64_S256x64) (shapeCast S64x256 y shapeCasts_S1x1x64x256_S64x256) (constant S256x256 .f32 0x00000000#32)
  let _ ← load .s (R2 0 0 256 256 (by decide) (by decide)).toLoadRect h_S256x256
  store .s (R2 0 0 256 256 (by decide) (by decide)) h_S256x256 (.inl rfl) (shapeCast S256x256 z shapeCasts_S256x256_S256x256)

/-- The raw scores of the second half of the queries against every key. -/
def scores1 : Act F PUnit := do
  let x : Vec F S1x1x512x64 .fp8e4m3 ← load .kp (R4 0 0 0 0 1 1 512 64 (by decide) (by decide) (by decide) (by decide)).toLoadRect h_S1x1x512x64
  let y : Vec F S1x1x64x256 .fp8e4m3 ← load .q (R4 0 0 0 256 1 1 64 256 (by decide) (by decide) (by decide) (by decide)).toLoadRect h_S1x1x64x256
  let z : FVec F S512x256 .f32 := matmul dot_S512x64_S64x256_S512x256_1_0_0_1_n_n none (shapeCast S512x64 x shapeCasts_S1x1x512x64_S512x64) (shapeCast S64x256 y shapeCasts_S1x1x64x256_S64x256) (constant S512x256 .f32 0x00000000#32)
  let _ ← load .s (R2 0 256 512 256 (by decide) (by decide)).toLoadRect h_S512x256
  store .s (R2 0 256 512 256 (by decide) (by decide)) h_S512x256 (.inl rfl) (shapeCast S512x256 z shapeCasts_S512x256_S512x256)

/-! ## The softmax of one block of queries -/

/-- The chunk's block of keys. -/
abbrev cb (c : Nat) : Nat := c / 4
/-- The chunk's first row, within a parity of its block. -/
abbrev cr (c : Nat) : Nat := 32 * (c / 2 % 2)
/-- The chunk's parity. -/
abbrev cp (c : Nat) : Nat := c % 2
/-- Where the chunk begins. -/
abbrev cat (c : Nat) : Nat := 128 * (c / 4) + 64 * (c % 2) + 32 * (c / 2 % 2)

theorem cat_le {b : Fin 4} (c : Fin (4 * (b.val + 1))) : cat c.val + 32 ≤ 512 := by
  have := c.isLt; have := b.isLt; unfold cat; omega

/-- A chunk of the score buffer. -/
abbrev sR (b : Fin 4) (c : Fin (4 * (b.val + 1))) : Rect S512x512 :=
  R2 (n0 := 512) (n1 := 512) (cat c.val) (128 * b.val) 32 128 (cat_le c) (by omega)

/-- The chunk's rows of the key scales: every second one. -/
abbrev kR (b : Fin 4) (c : Fin (4 * (b.val + 1))) : LoadRect S512x128 :=
  ⟨![128 * (c.val / 4) + 64 * (c.val / 2 % 2) + c.val % 2, 0], S32x128.size, ![2, 1], fun a => .inr (match a with
    | 0 => by have := c.isLt; show 128 * (c.val / 4) + 64 * (c.val / 2 % 2) + c.val % 2 + 2 * (32 - 1) < 512; omega
    | 1 => by show 0 + 1 * (128 - 1) < 128; omega)⟩

/-- The scaled score of a chunk before its mask. -/
def scaled (s ks qsb : FVec F S32x128 .f32) : FVec F S32x128 .f32 := mulf (mulf s ks) qsb

/-- The mask of a chunk on the diagonal: keys up to the query. -/
def causal (c : Nat) : IVec S32x128 1 :=
  cmpi .sle (addi (muli (broadcast S32x128 2#32) (addi (iota .tc S32x128 32 [0] iota_S32x128_d0_w32) (broadcast S32x128 (BitVec.ofNat 32 (32 * (c / 2 % 2))))))
    (broadcast S32x128 (BitVec.ofNat 32 (c % 2)))) (iota .tc S32x128 32 [1] iota_S32x128_d1_w32)

/-- The scaled, masked score of a chunk. -/
def masked (b c : Nat) (t : FVec F S32x128 .f32) : FVec F S32x128 .f32 :=
  bif Nat.beq (c / 4) b then select (causal c) t (broadcast S32x128 (Scalar.ofBits .f32 0xFF800000#32)) else t

/-- First pass over a chunk: scale and mask, and the running maximum. -/
def pass1 (b : Fin 4) (qsb : FVec F S32x128 .f32) (c : Fin (4 * (b.val + 1))) (mx : FVec F S32x128 .f32) : Act F (FVec F S32x128 .f32) := do
  let ks : Vec F S32x128 .f32 ← load .kc (kR b c) h_S32x128
  let s : Vec F S32x128 .f32 ← load .s (sR b c).toLoadRect h_S32x128
  let t := masked b.val c.val (scaled s ks qsb)
  let _ ← load .s (sR b c).toLoadRect h_S32x128
  store .s (sR b c) h_S32x128 (.inl rfl) (shapeCast S32x128 t shapeCasts_S32x128_S32x128)
  pure (maximumf mx t)

/-- Second pass over a chunk: the exponential, and the running sum. -/
def pass2 (b : Fin 4) (mxb : FVec F S32x128 .f32) (c : Fin (4 * (b.val + 1))) (sm : FVec F S32x128 .f32) : Act F (FVec F S32x128 .f32) := do
  let s : Vec F S32x128 .f32 ← load .s (sR b c).toLoadRect h_S32x128
  let e := exp2 (subf s mxb)
  let _ ← load .s (sR b c).toLoadRect h_S32x128
  store .s (sR b c) h_S32x128 (.inl rfl) (shapeCast S32x128 e shapeCasts_S32x128_S32x128)
  pure (addf sm e)

theorem slices_qs (b : Fin 4) : S1x512.Slices ![0, 128 * b.val] S1x128 :=
  ⟨rfl, fun a => match a with | 0 => by show 0 + 1 ≤ 1; omega | 1 => by show 128 * b.val + 128 ≤ 512; omega⟩

/-- The query scales of a block, over a chunk's rows. -/
def qsb (b : Fin 4) (qs : FVec F S1x512 .f32) : FVec F S32x128 .f32 :=
  broadcastTo S32x128 (shapeCast S1x128 (extractStridedSlice S1x128 ![0, 128 * b.val] qs (slices_qs b)) shapeCasts_S1x128_S1x128) broadcasts_S1x128_S32x128

/-- The maximum of a block's columns. -/
def colMax (mx : FVec F S32x128 .f32) : FVec F S1x128 .f32 :=
  shapeCast S1x128 (multiReduction .maximumf [0] S128 mx 0xFF800000#32 reduces_S32x128_S128 (.inl rfl) rfl) shapeCasts_S128_S1x128

/-- The sum of a block's columns. -/
def colSum (sm : FVec F S32x128 .f32) : FVec F S1x128 .f32 :=
  shapeCast S1x128 (multiReduction .add [0] S128 sm 0x00000000#32 reduces_S32x128_S128 (.inl rfl) rfl) shapeCasts_S128_S1x128

/-- The block's logarithm of the sum of exponentials, less the logarithm of the number of keys. -/
def lseOf (b : Nat) (mx sm : FVec F S1x128 .f32) : FVec F S1x128 .f32 :=
  subf (addf (mulf mx (broadcast S1x128 (Named.named κ "ln2" 0x3F317218#32))) (log sm))
    (log (sitofp .f32 (addi (iota .tc S1x128 32 [1] iota_S1x128_d1_w32) (broadcast S1x128 (BitVec.ofNat 32 (128 * b + 1))))))

/-- The offsets of the tile of eight heads that holds the head. -/
abbrev lseOff (i : grid0.Coords) (b : Nat) : Fin 3 → Nat :=
  ![0, (Scalar.indexCast (Scalar.subi (hd i) (Gen.headRow (hd i)))).toNat, 128 * b]

theorem lseOff_inb (i : grid0.Coords) (b : Fin 4) : ∀ a, lseOff i b.val a + S1x8x128.size a ≤ S1x32x512.size a := fun a => match a with
  | 0 => by show 0 + 1 ≤ 1; omega
  | 1 => k0_off2_inb i 1
  | 2 => by show 128 * b.val + 128 ≤ 512; omega

/-- The tile of eight heads that holds the head, at a block of queries. -/
abbrev lseR (i : grid0.Coords) (b : Fin 4) : Rect S1x32x512 := Rect.unit (s := S1x32x512) (lseOff i b.val) S1x8x128.size (lseOff_inb i b)

/-- Puts a head's row into its tile of eight. -/
def lseTile (i : grid0.Coords) (x : FVec F S1x128 .f32) (old : FVec F S1x8x128 .f32) : FVec F S1x8x128 .f32 :=
  shapeCast S1x8x128 (select (cmpi .eq (iota .tc S8x128 32 [0] iota_S8x128_d0_w32) (broadcast S8x128 (Gen.headRow (hd i))))
    (broadcastTo S8x128 (shapeCast S1x128 x shapeCasts_S1x128_S1x128) broadcasts_S1x128_S8x128)
    (Scalar.select (Scalar.cmpi .eq (Gen.headRow (hd i)) 0#32) (broadcast S8x128 (Scalar.ofBits .f32 0x00000000#32)) (shapeCast S8x128 old shapeCasts_S1x8x128_S8x128)))
    shapeCasts_S8x128_S1x8x128

/-- Writes the head's row of a block of queries. -/
def putLse (i : grid0.Coords) (b : Fin 4) (x : FVec F S1x128 .f32) : Act F PUnit := do
  let old : Vec F S1x8x128 .f32 ← load .lse (lseR i b).toLoadRect h_S1x8x128
  let _ ← load .lse (lseR i b).toLoadRect h_S1x8x128
  store .lse (lseR i b) h_S1x8x128 (.inl rfl) (lseTile i x old)

/-- Sixteen over the sums, over a chunk's rows. -/
def invb (sm : FVec F S1x128 .f32) : FVec F S32x128 .f32 :=
  broadcastTo S32x128 (shapeCast S1x128 (divf (broadcast S1x128 (Scalar.ofBits .f32 0x41800000#32)) sm) shapeCasts_S1x128_S1x128) broadcasts_S1x128_S32x128

/-- Rounds to bf16 so that no tie is made of what is not one. -/
def roundOdd (x : FVec F S32x128 .f32) : FVec F S32x128 .f32 :=
  let near : FVec F S32x128 .f32 := extf .f32 (truncf .bf16 x bitsLt_bf16_f32) bitsLt_bf16_f32
  let split := mulf near (broadcast S32x128 (Scalar.ofBits .f32 0x48000040#32))
  let even := subf split (subf split near)
  let other : FVec F S32x128 .f32 := extf .f32 (truncf .bf16 (select (cmpf .ogt x near) (mulf near (broadcast S32x128 (Scalar.ofBits .f32 0x3F808200#32)))
    (mulf near (broadcast S32x128 (Scalar.ofBits .f32 0x3F7EFC00#32)))) bitsLt_bf16_f32) bitsLt_bf16_f32
  select (ori (cmpf .oeq near x) (cmpf .one even near)) near other

/-- Even rows and odd rows put together. -/
def pair (x y : FVec F S32x128 .f32) : FVec F S64x128 .bf16 :=
  interleaveRows S64x128 (truncf .bf16 x) (truncf .bf16 y) bitcasts_S64x128_w16_S32x128_w32

/-- Third pass over a pair of chunks: the probabilities times sixteen, and what the levels start from. -/
def pass3 (b : Fin 4) (inv : FVec F S32x128 .f32) (c : Fin (2 * (b.val + 1))) : Act F PUnit := do
  let x : Vec F S32x128 .f32 ← load .s (R2 (128 * (c.val / 2) + 32 * (c.val % 2)) (128 * b.val) 32 128 (by have := c.isLt; omega) (by omega)).toLoadRect h_S32x128
  let even := mulf x inv
  let x' : Vec F S32x128 .f32 ← load .s (R2 (128 * (c.val / 2) + 32 * (c.val % 2) + 64) (128 * b.val) 32 128 (by have := c.isLt; omega) (by omega)).toLoadRect h_S32x128
  let odd := mulf x' inv
  let _ ← load .pb (R2 (128 * (c.val / 2) + 64 * (c.val % 2)) (128 * b.val) 64 128 (by have := c.isLt; omega) (by omega)).toLoadRect h_S64x128
  store .pb (R2 (128 * (c.val / 2) + 64 * (c.val % 2)) (128 * b.val) 64 128 (by have := c.isLt; omega) (by omega)) h_S64x128
    (.inr (packed2 _ _ (by omega) (by decide))) (shapeCast S64x128 (pair even odd) shapeCasts_S64x128_S64x128)
  let y1 := pair (roundOdd even) (roundOdd odd)
  let _ ← load .y (R3 0 (128 * (c.val / 2) + 64 * (c.val % 2)) (128 * b.val) 1 64 128 (by decide) (by have := c.isLt; omega) (by omega)).toLoadRect h_S1x64x128
  store .y (R3 0 (128 * (c.val / 2) + 64 * (c.val % 2)) (128 * b.val) 1 64 128 (by decide) (by have := c.isLt; omega) (by omega)) h_S1x64x128
    (.inr (packed3 _ _ _ (by omega) (by decide))) (shapeCast S1x64x128 y1 shapeCasts_S64x128_S1x64x128)
  let _ ← load .y (R3 1 (128 * (c.val / 2) + 64 * (c.val % 2)) (128 * b.val) 1 64 128 (by decide) (by have := c.isLt; omega) (by omega)).toLoadRect h_S1x64x128
  store .y (R3 1 (128 * (c.val / 2) + 64 * (c.val % 2)) (128 * b.val) 1 64 128 (by decide) (by have := c.isLt; omega) (by omega)) h_S1x64x128
    (.inr (packed3 _ _ _ (by omega) (by decide)))
    (shapeCast S1x64x128 (mulf y1 (broadcast S64x128 (Scalar.ofBits .bf16 0x4000#16))) shapeCasts_S64x128_S1x64x128)
  let lv := minimumf (roundeven (mulf y1 (broadcast S64x128 (Scalar.ofBits .bf16 0x3F00#16)))) (broadcast S64x128 (Scalar.ofBits .bf16 0x40E0#16))
  let _ ← load .l (R2 (128 * (c.val / 2) + 64 * (c.val % 2)) (128 * b.val) 64 128 (by have := c.isLt; omega) (by omega)).toLoadRect h_S64x128
  store .l (R2 (128 * (c.val / 2) + 64 * (c.val % 2)) (128 * b.val) 64 128 (by have := c.isLt; omega) (by omega)) h_S64x128
    (.inr (packed2 _ _ (by omega) (by decide))) (shapeCast S64x128 lv shapeCasts_S64x128_S64x128)

/-- The softmax of a block of queries. -/
def block (i : grid0.Coords) (qs : FVec F S1x512 .f32) (b : Fin 4) : Act F PUnit := do
  let mx0 ← loop (4 * (b.val + 1)) (pass1 b (qsb b qs)) (broadcast S32x128 (Scalar.ofBits .f32 0xF149F2CA#32))
  let mx := colMax mx0
  let sm0 ← loop (4 * (b.val + 1)) (pass2 b (broadcastTo S32x128 (shapeCast S1x128 mx shapeCasts_S1x128_S1x128) broadcasts_S1x128_S32x128))
    (broadcast S32x128 (Scalar.ofBits .f32 0x00000000#32))
  let sm := colSum sm0
  putLse i b (lseOf b.val mx sm)
  loop (2 * (b.val + 1)) (fun c _ => pass3 b (invb sm) c) ⟨⟩

/-! ## The levels of one half of the queries -/

/-- A block of 128 keys and 128 queries of a level, put into the first half's matrix and multiplied by the values. -/
def times0 (blk : (kb cb : Nat) → kb < 2 → cb < 2 → Act F (FVec F S128x128 .bf16)) : Act F (FVec F S64x256 .f32) := do
  let vt : Vec F S64x256 .bf16 ← load .vt (R2 0 0 64 256 (by decide) (by decide)).toLoadRect h_S64x256
  let b00 ← blk 0 0 (by decide) (by decide)
  let b01 ← blk 0 1 (by decide) (by decide)
  let b11 ← blk 1 1 (by decide) (by decide)
  let z : FVec F S128x128 .bf16 := broadcast S128x128 (Scalar.ofBits .bf16 0x0000#16)
  pure (matmul dot_S64x256_S256x256_S64x256_1_0_0_1_n_n none vt
    (concatenate S256x256 0 [⟨S128x256, concatenate S128x256 1 [⟨S128x128, b00⟩, ⟨S128x128, b01⟩] concatenates_S128x128_S128x128_S128x256_d1⟩,
      ⟨S128x256, concatenate S128x256 1 [⟨S128x128, z⟩, ⟨S128x128, b11⟩] concatenates_S128x128_S128x128_S128x256_d1⟩] concatenates_S128x256_S128x256_S256x256_d0)
    (constant S64x256 .f32 0x00000000#32))

/-- The same of the second half. -/
def times1 (blk : (kb cb : Nat) → kb < 4 → cb < 2 → Act F (FVec F S128x128 .bf16)) : Act F (FVec F S64x256 .f32) := do
  let vt : Vec F S64x512 .bf16 ← load .vt (R2 0 0 64 512 (by decide) (by decide)).toLoadRect h_S64x512
  let b00 ← blk 0 0 (by decide) (by decide)
  let b01 ← blk 0 1 (by decide) (by decide)
  let b10 ← blk 1 0 (by decide) (by decide)
  let b11 ← blk 1 1 (by decide) (by decide)
  let b20 ← blk 2 0 (by decide) (by decide)
  let b21 ← blk 2 1 (by decide) (by decide)
  let b31 ← blk 3 1 (by decide) (by decide)
  let z : FVec F S128x128 .bf16 := broadcast S128x128 (Scalar.ofBits .bf16 0x0000#16)
  pure (matmul dot_S64x512_S512x256_S64x256_1_0_0_1_n_n none vt
    (concatenate S512x256 0 [⟨S128x256, concatenate S128x256 1 [⟨S128x128, b00⟩, ⟨S128x128, b01⟩] concatenates_S128x128_S128x128_S128x256_d1⟩,
      ⟨S128x256, concatenate S128x256 1 [⟨S128x128, b10⟩, ⟨S128x128, b11⟩] concatenates_S128x128_S128x128_S128x256_d1⟩,
      ⟨S128x256, concatenate S128x256 1 [⟨S128x128, b20⟩, ⟨S128x128, b21⟩] concatenates_S128x128_S128x128_S128x256_d1⟩,
      ⟨S128x256, concatenate S128x256 1 [⟨S128x128, z⟩, ⟨S128x128, b31⟩] concatenates_S128x128_S128x128_S128x256_d1⟩] concatenates_S128x256_S128x256_S128x256_S128x256_S512x256_d0)
    (constant S64x256 .f32 0x00000000#32))

/-- Both halves' product by its half. -/
def times (j : Fin 2) (blk : (kb cb : Nat) → kb < 2 * (j.val + 1) → cb < 2 → Act F (FVec F S128x128 .bf16)) : Act F (FVec F S64x256 .f32) :=
  match j, blk with
  | 0, blk => times0 blk
  | 1, blk => times1 blk

section Blocks

variable (j : Fin 2) (kb cb : Nat) (hk : kb < 2 * (j.val + 1)) (hc : cb < 2)

include hk hc in
/-- A block of a buffer of 512 keys by 512 queries. -/
abbrev bR : Rect S512x512 :=
  R2 (n0 := 512) (n1 := 512) (128 * kb) (256 * j.val + 128 * cb) 128 128 (by omega) (by omega)

include hk hc in
/-- A block of the two buffers of levels. -/
abbrev yR (sl : Fin 2) : Rect S2x512x512 :=
  R3 (n0 := 2) (n1 := 512) (n2 := 512) sl.val (128 * kb) (256 * j.val + 128 * cb) 1 128 128 (by omega) (by omega) (by omega)

/-- A block of the probabilities times sixteen. -/
def blkP : Act F (FVec F S128x128 .bf16) := load .pb (bR j kb cb hk hc).toLoadRect h_S128x128

/-- A block of the large levels. -/
def blkL : Act F (FVec F S128x128 .bf16) := load .l (bR j kb cb hk hc).toLoadRect h_S128x128

/-- A number of the narrow format over a block. -/
abbrev c16 (w : BitVec 16) : FVec F S128x128 .bf16 := broadcast S128x128 (Scalar.ofBits .bf16 w)

/-- A level rounded and kept below eight. -/
def lvl (y : FVec F S128x128 .bf16) : FVec F S128x128 .bf16 := minimumf (roundeven y) (c16 0x40E0#16)

/-- The first two levels. -/
def blk12 (sl : Fin 2) (pw : BitVec 16) : Act F (FVec F S128x128 .bf16) := do
  let y0 : Vec F S1x128x128 .bf16 ← load .y (yR j kb cb hk hc sl).toLoadRect h_S1x128x128
  let y : FVec F S128x128 .bf16 := shapeCast S128x128 y0 shapeCasts_S1x128x128_S128x128
  let l : Vec F S128x128 .bf16 ← load .l (bR j kb cb hk hc).toLoadRect h_S128x128
  pure (select (cmpf .olt y (c16 0x4100#16)) (lvl y) (mulf l (c16 pw)))

/-- Four times what is below two, nothing of the rest. -/
def quad (y : FVec F S128x128 .bf16) : FVec F S128x128 .bf16 := mulf (select (cmpf .olt y (c16 0x4000#16)) y (c16 0x0000#16)) (c16 0x4080#16)

/-- Takes a level's buffer two levels on: returns what it was and what it is. -/
def step (sl : Fin 2) : Act F (FVec F S128x128 .bf16 × FVec F S128x128 .bf16) := do
  let y0 : Vec F S1x128x128 .bf16 ← load .y (yR j kb cb hk hc sl).toLoadRect h_S1x128x128
  let y : FVec F S128x128 .bf16 := shapeCast S128x128 y0 shapeCasts_S1x128x128_S128x128
  let _ ← load .y (yR j kb cb hk hc sl).toLoadRect h_S1x128x128
  store .y (yR j kb cb hk hc sl) h_S1x128x128 (.inr (packed3 _ _ _ (by omega) (by decide))) (shapeCast S1x128x128 (quad y) shapeCasts_S128x128_S1x128x128)
  pure (y, quad y)

/-- The third level. -/
def blk3 : Act F (FVec F S128x128 .bf16) := do
  let yz ← step j kb cb hk hc 0
  let l : Vec F S128x128 .bf16 ← load .l (bR j kb cb hk hc).toLoadRect h_S128x128
  pure (select (cmpf .olt yz.1 (c16 0x4000#16)) (lvl yz.2) (mulf l (c16 0x4100#16)))

/-- A level after the third. -/
def blkN (sl : Fin 2) : Act F (FVec F S128x128 .bf16) := do
  let yz ← step j kb cb hk hc sl
  pure (lvl yz.2)

/-- One of the last two levels. -/
def blkZ (sl : Fin 2) : Act F (FVec F S128x128 .bf16) := do
  let y0 : Vec F S1x128x128 .bf16 ← load .y (yR j kb cb hk hc sl).toLoadRect h_S1x128x128
  let y : FVec F S128x128 .bf16 := shapeCast S128x128 y0 shapeCasts_S1x128x128_S128x128
  pure (lvl (quad y))

end Blocks

/-- Which of the two buffers a level is made from: level `m + 1`. -/
abbrev slot (m : Nat) : Fin 2 := ⟨m % 2, Nat.mod_lt _ (by decide)⟩

/-- A block of level `m + 1`. -/
def blkM (j : Fin 2) (m : Nat) (kb cb : Nat) (hk : kb < 2 * (j.val + 1)) (hc : cb < 2) : Act F (FVec F S128x128 .bf16) :=
  match m with
  | 0 => blk12 j kb cb hk hc 0 0x4000#16
  | 1 => blk12 j kb cb hk hc 1 0x4080#16
  | 2 => blk3 j kb cb hk hc
  | 14 => blkZ j kb cb hk hc 0
  | 15 => blkZ j kb cb hk hc 1
  | m => blkN j kb cb hk hc (slot m)

/-- The power of two by which level `m + 1` is multiplied. -/
abbrev pw (m : Nat) : BitVec 32 := BitVec.ofNat 32 ((123 - m) * 8388608)

/-- A number over a half's outputs. -/
abbrev c64 (w : BitVec 32) : FVec F S64x256 .f32 := broadcast S64x256 (Scalar.ofBits .f32 w)

/-- What the level's product is added to. -/
def baseM (m : Nat) (oref bl : FVec F S64x256 .f32) : FVec F S64x256 .f32 :=
  match m with
  | 0 => subf (c64 0x00000000#32) oref
  | 1 => subf (c64 0x00000000#32) oref
  | 2 => subf (c64 0x00000000#32) oref
  | _ => bl

/-- The weighted square of a difference. -/
def sqOf (g2 d : FVec F S64x256 .f32) : FVec F S64x256 .f32 := mulf g2 (mulf d d)

/-- Sums 64 rows to eight. -/
def rows8 (x : FVec F S64x256 .f32) : FVec F S8x256 .f32 :=
  addf (addf (addf (addf (addf (addf (addf (extractStridedSlice S8x256 ![0, 0] x slices_S64x256_o0_0_S8x256)
    (extractStridedSlice S8x256 ![8, 0] x slices_S64x256_o8_0_S8x256)) (extractStridedSlice S8x256 ![16, 0] x slices_S64x256_o16_0_S8x256))
    (extractStridedSlice S8x256 ![24, 0] x slices_S64x256_o24_0_S8x256)) (extractStridedSlice S8x256 ![32, 0] x slices_S64x256_o32_0_S8x256))
    (extractStridedSlice S8x256 ![40, 0] x slices_S64x256_o40_0_S8x256)) (extractStridedSlice S8x256 ![48, 0] x slices_S64x256_o48_0_S8x256))
    (extractStridedSlice S8x256 ![56, 0] x slices_S64x256_o56_0_S8x256)

/-- Eight rows' partial sums of one level. -/
def level (j : Fin 2) (g2 oref bl : FVec F S64x256 .f32) (m : Nat) : Act F (FVec F S8x256 .f32) := do
  let acc ← times j (blkM j m)
  pure (rows8 (sqOf g2 (addf (mulf acc (c64 (pw m))) (baseM m oref bl))))

/-- Which rows are even in a bit. -/
def evenBit (k : BitVec 32) : IVec S8x256 1 :=
  cmpi .eq (andi (iota .tc S8x256 32 [0] iota_S8x256_d0_w32) (broadcast S8x256 k)) (broadcast S8x256 0#32)

/-- One step of the sum over eight rows of several levels. -/
def fold (k : BitVec 32) (x y : FVec F S8x256 .f32) : FVec F S8x256 .f32 :=
  addf (select (evenBit k) x y) (dynamicRotate 0 k none (select (evenBit k) y x) rotates_S8x256_d0)

/-- Row `i` of the result is the sum of the rows of the `i`-th. -/
def fold8 (x0 x1 x2 x3 x4 x5 x6 x7 : FVec F S8x256 .f32) : FVec F S8x256 .f32 :=
  fold 4#32 (fold 2#32 (fold 1#32 x0 x1) (fold 1#32 x2 x3)) (fold 2#32 (fold 1#32 x4 x5) (fold 1#32 x6 x7))

/-- Eight levels, and their sums written. -/
def levels8 (j : Fin 2) (g2 oref bl : FVec F S64x256 .f32) (u : Fin 2) : Act F PUnit := do
  let x0 ← level j g2 oref bl (8 * u.val)
  let x1 ← level j g2 oref bl (8 * u.val + 1)
  let x2 ← level j g2 oref bl (8 * u.val + 2)
  let x3 ← level j g2 oref bl (8 * u.val + 3)
  let x4 ← level j g2 oref bl (8 * u.val + 4)
  let x5 ← level j g2 oref bl (8 * u.val + 5)
  let x6 ← level j g2 oref bl (8 * u.val + 6)
  let x7 ← level j g2 oref bl (8 * u.val + 7)
  let _ ← load .row (R4 0 0 (8 * u.val) (256 * j.val) 1 1 8 256 (by decide) (by decide) (by omega) (by omega)).toLoadRect h_S1x1x8x256
  store .row (R4 0 0 (8 * u.val) (256 * j.val) 1 1 8 256 (by decide) (by decide) (by omega) (by omega)) h_S1x1x8x256 (.inl rfl)
    (shapeCast S1x1x8x256 (fold8 x0 x1 x2 x3 x4 x5 x6 x7) shapeCasts_S8x256_S1x1x8x256)

/-- One half of the queries. -/
def half (j : Fin 2) : Act F PUnit := do
  let d0 : Vec F S1x1x64x256 .bf16 ← load .d (R4 0 0 0 (256 * j.val) 1 1 64 256 (by decide) (by decide) (by decide) (by omega)).toLoadRect h_S1x1x64x256
  let d : FVec F S64x256 .f32 := extf .f32 (shapeCast S64x256 d0 shapeCasts_S1x1x64x256_S64x256) bitsLt_bf16_f32
  let g2 := mulf d d
  let o ← times j (blkP j)
  let oref := mulf o (c64 0x3D800000#32)
  let ol ← times j (blkL j)
  let bl := subf (mulf ol (c64 0x3E000000#32)) oref
  levels8 j g2 oref bl 0
  levels8 j g2 oref bl 1

/-! ## The loss -/

/-- The loss with the head's column added. -/
def lossOf (i : grid0.Coords) (row : Vec F S1x1x16x512 .f32) (old : Vec F S16x32 .f32) : FVec F S16x32 .f32 :=
  addf (Scalar.select (Scalar.andi (Scalar.cmpi .eq (BitVec.ofNat 32 (i 0).val) 0#32) (Scalar.cmpi .eq (hd i) 0#32))
      (broadcast S16x32 (Scalar.ofBits .f32 0x00000000#32)) (shapeCast S16x32 old shapeCasts_S16x32_S16x32))
    (select (cmpi .eq (iota .tc S16x32 32 [1] iota_S16x32_d1_w32) (broadcast S16x32 (hd i)))
      (broadcastTo S16x32 (shapeCast S16x1 (shapeCast S16x1 (multiReduction .add [1] S16 (shapeCast S16x512 row shapeCasts_S1x1x16x512_S16x512 : FVec F S16x512 .f32) 0x00000000#32 reduces_S16x512_S16 (.inl rfl) rfl) shapeCasts_S16_S16x1) shapeCasts_S16x1_S16x1) broadcasts_S16x1_S16x32)
      (broadcast S16x32 (Scalar.ofBits .f32 0x00000000#32)))

/-- The loss. -/
def lossAct (i : grid0.Coords) : Act F PUnit := do
  let row : Vec F S1x1x16x512 .f32 ← load .row (R4 0 0 0 0 1 1 16 512 (by decide) (by decide) (by decide) (by decide)).toLoadRect h_S1x1x16x512
  let old : Vec F S16x32 .f32 ← load .loss (R2 0 0 16 32 (by decide) (by decide)).toLoadRect h_S16x32
  let _ ← load .loss (R2 0 0 16 32 (by decide) (by decide)).toLoadRect h_S16x32
  store .loss (R2 0 0 16 32 (by decide) (by decide)) h_S16x32 (.inl rfl) (lossOf i row old)

/-- The body. -/
def body (i : grid0.Coords) : Act F PUnit := do
  let qs ← prep i
  scores0
  scores1
  loop 4 (fun b _ => block i qs b) ⟨⟩
  loop 2 (fun j _ => half j) ⟨⟩
  lossAct i

end Cert.KernelIdeal.Hand
-- ==== Proof.Read.lean ====
/-
  Reading what the actions read and leave: rectangles at an index, loops by an invariant.
-/
module

public import proofs.«01_k».proof.Proof.Body
public import Idealize.ShloMosaic.Lib.Pointwise

@[expose] public section

set_option maxRecDepth 16384

noncomputable section

namespace Cert.KernelIdeal.Hand

open Cert.KernelIdeal
open Idealize.ShloMosaic Idealize.ShloMosaic.TcCoe

variable {F : FTy → Type} [FloatOps F] [Named F]

/-! ## Rectangles -/

theorem R2_idx {n0 n1 o0 o1 z0 z1 : Nat} (h0 : o0 + z0 ≤ n0) (h1 : o1 + z1 ≤ n1) (a : Fin z0) (b : Fin z1) :
    (R2 (n0 := n0) (n1 := n1) o0 o1 z0 z1 h0 h1).toLoadRect.idx (ix2 a b) = ix2 ⟨o0 + a.val, by omega⟩ ⟨o1 + b.val, by omega⟩ := by
  funext x
  match x with
  | ⟨0, _⟩ => exact Fin.ext (show o0 + 1 * a.val = o0 + a.val by omega)
  | ⟨1, _⟩ => exact Fin.ext (show o1 + 1 * b.val = o1 + b.val by omega)

theorem R3_idx {n0 n1 n2 o0 o1 o2 z0 z1 z2 : Nat} (h0 : o0 + z0 ≤ n0) (h1 : o1 + z1 ≤ n1) (h2 : o2 + z2 ≤ n2) (a : Fin z0) (b : Fin z1) (c : Fin z2) :
    (R3 (n0 := n0) (n1 := n1) (n2 := n2) o0 o1 o2 z0 z1 z2 h0 h1 h2).toLoadRect.idx (ix3 a b c)
      = ix3 ⟨o0 + a.val, by omega⟩ ⟨o1 + b.val, by omega⟩ ⟨o2 + c.val, by omega⟩ := by
  funext x
  match x with
  | ⟨0, _⟩ => exact Fin.ext (show o0 + 1 * a.val = o0 + a.val by omega)
  | ⟨1, _⟩ => exact Fin.ext (show o1 + 1 * b.val = o1 + b.val by omega)
  | ⟨2, _⟩ => exact Fin.ext (show o2 + 1 * c.val = o2 + c.val by omega)

theorem R4_idx {n0 n1 n2 n3 o0 o1 o2 o3 z0 z1 z2 z3 : Nat} (h0 : o0 + z0 ≤ n0) (h1 : o1 + z1 ≤ n1) (h2 : o2 + z2 ≤ n2) (h3 : o3 + z3 ≤ n3)
    (a : Fin z0) (b : Fin z1) (c : Fin z2) (d : Fin z3) :
    (R4 (n0 := n0) (n1 := n1) (n2 := n2) (n3 := n3) o0 o1 o2 o3 z0 z1 z2 z3 h0 h1 h2 h3).toLoadRect.idx (ix4 a b c d)
      = ix4 ⟨o0 + a.val, by omega⟩ ⟨o1 + b.val, by omega⟩ ⟨o2 + c.val, by omega⟩ ⟨o3 + d.val, by omega⟩ := by
  funext x
  match x with
  | ⟨0, _⟩ => exact Fin.ext (show o0 + 1 * a.val = o0 + a.val by omega)
  | ⟨1, _⟩ => exact Fin.ext (show o1 + 1 * b.val = o1 + b.val by omega)
  | ⟨2, _⟩ => exact Fin.ext (show o2 + 1 * c.val = o2 + c.val by omega)
  | ⟨3, _⟩ => exact Fin.ext (show o3 + 1 * d.val = o3 + d.val by omega)

theorem put_R2 {e : EltTy} {n0 n1 o0 o1 z0 z1 : Nat} (h0 : o0 + z0 ≤ n0) (h1 : o1 + z1 ≤ n1)
    (w : (R2 (n0 := n0) (n1 := n1) o0 o1 z0 z1 h0 h1).shape.Idx → Elt F e) (f : (⟨2, ![n0, n1]⟩ : Shape).Idx → Elt F e) (a : Fin n0) (b : Fin n1) :
    put (R2 (n0 := n0) (n1 := n1) o0 o1 z0 z1 h0 h1) w f (ix2 a b)
      = if h : (o0 ≤ a.val ∧ a.val < o0 + z0) ∧ (o1 ≤ b.val ∧ b.val < o1 + z1) then w (ix2 ⟨a.val - o0, by omega⟩ ⟨b.val - o1, by omega⟩) else f (ix2 a b) := by
  split
  · next h =>
    have e : (R2 (n0 := n0) (n1 := n1) o0 o1 z0 z1 h0 h1).emb (ix2 ⟨a.val - o0, by omega⟩ ⟨b.val - o1, by omega⟩) = ix2 a b := by
      refine (R2_idx h0 h1 _ _).trans ?_
      congr 1 <;> exact Fin.ext (by dsimp only; omega)
    rw [← put_emb (R2 (n0 := n0) (n1 := n1) o0 o1 z0 z1 h0 h1) w f, e]
  · next h =>
    refine put_of_not _ w f _ fun y he => h ?_
    have e0 := congrArg Fin.val (congrFun he 0)
    have e1 := congrArg Fin.val (congrFun he 1)
    have l0 : (y 0).val < z0 := (y 0).isLt
    have l1 : (y 1).val < z1 := (y 1).isLt
    replace e0 : o0 + 1 * (y 0).val = a.val := e0
    replace e1 : o1 + 1 * (y 1).val = b.val := e1
    omega

theorem put_R3 {e : EltTy} {n0 n1 n2 o0 o1 o2 z0 z1 z2 : Nat} (h0 : o0 + z0 ≤ n0) (h1 : o1 + z1 ≤ n1) (h2 : o2 + z2 ≤ n2)
    (w : (R3 (n0 := n0) (n1 := n1) (n2 := n2) o0 o1 o2 z0 z1 z2 h0 h1 h2).shape.Idx → Elt F e) (f : (⟨3, ![n0, n1, n2]⟩ : Shape).Idx → Elt F e)
    (a : Fin n0) (b : Fin n1) (c : Fin n2) :
    put (R3 (n0 := n0) (n1 := n1) (n2 := n2) o0 o1 o2 z0 z1 z2 h0 h1 h2) w f (ix3 a b c)
      = if h : (o0 ≤ a.val ∧ a.val < o0 + z0) ∧ (o1 ≤ b.val ∧ b.val < o1 + z1) ∧ (o2 ≤ c.val ∧ c.val < o2 + z2)
        then w (ix3 ⟨a.val - o0, by omega⟩ ⟨b.val - o1, by omega⟩ ⟨c.val - o2, by omega⟩) else f (ix3 a b c) := by
  split
  · next h =>
    have e : (R3 (n0 := n0) (n1 := n1) (n2 := n2) o0 o1 o2 z0 z1 z2 h0 h1 h2).emb (ix3 ⟨a.val - o0, by omega⟩ ⟨b.val - o1, by omega⟩ ⟨c.val - o2, by omega⟩) = ix3 a b c := by
      refine (R3_idx h0 h1 h2 _ _ _).trans ?_
      congr 1 <;> exact Fin.ext (by dsimp only; omega)
    rw [← put_emb (R3 (n0 := n0) (n1 := n1) (n2 := n2) o0 o1 o2 z0 z1 z2 h0 h1 h2) w f, e]
  · next h =>
    refine put_of_not _ w f _ fun y he => h ?_
    have e0 := congrArg Fin.val (congrFun he 0)
    have e1 := congrArg Fin.val (congrFun he 1)
    have e2 := congrArg Fin.val (congrFun he 2)
    have l0 : (y 0).val < z0 := (y 0).isLt
    have l1 : (y 1).val < z1 := (y 1).isLt
    have l2 : (y 2).val < z2 := (y 2).isLt
    replace e0 : o0 + 1 * (y 0).val = a.val := e0
    replace e1 : o1 + 1 * (y 1).val = b.val := e1
    replace e2 : o2 + 1 * (y 2).val = c.val := e2
    omega

theorem put_R4 {e : EltTy} {n0 n1 n2 n3 o0 o1 o2 o3 z0 z1 z2 z3 : Nat} (h0 : o0 + z0 ≤ n0) (h1 : o1 + z1 ≤ n1) (h2 : o2 + z2 ≤ n2) (h3 : o3 + z3 ≤ n3)
    (w : (R4 (n0 := n0) (n1 := n1) (n2 := n2) (n3 := n3) o0 o1 o2 o3 z0 z1 z2 z3 h0 h1 h2 h3).shape.Idx → Elt F e) (f : (⟨4, ![n0, n1, n2, n3]⟩ : Shape).Idx → Elt F e)
    (a : Fin n0) (b : Fin n1) (c : Fin n2) (d : Fin n3) :
    put (R4 (n0 := n0) (n1 := n1) (n2 := n2) (n3 := n3) o0 o1 o2 o3 z0 z1 z2 z3 h0 h1 h2 h3) w f (ix4 a b c d)
      = if h : (o0 ≤ a.val ∧ a.val < o0 + z0) ∧ (o1 ≤ b.val ∧ b.val < o1 + z1) ∧ (o2 ≤ c.val ∧ c.val < o2 + z2) ∧ (o3 ≤ d.val ∧ d.val < o3 + z3)
        then w (ix4 ⟨a.val - o0, by omega⟩ ⟨b.val - o1, by omega⟩ ⟨c.val - o2, by omega⟩ ⟨d.val - o3, by omega⟩) else f (ix4 a b c d) := by
  split
  · next h =>
    have e : (R4 (n0 := n0) (n1 := n1) (n2 := n2) (n3 := n3) o0 o1 o2 o3 z0 z1 z2 z3 h0 h1 h2 h3).emb (ix4 ⟨a.val - o0, by omega⟩ ⟨b.val - o1, by omega⟩ ⟨c.val - o2, by omega⟩ ⟨d.val - o3, by omega⟩) = ix4 a b c d := by
      refine (R4_idx h0 h1 h2 h3 _ _ _ _).trans ?_
      congr 1 <;> exact Fin.ext (by dsimp only; omega)
    rw [← put_emb (R4 (n0 := n0) (n1 := n1) (n2 := n2) (n3 := n3) o0 o1 o2 o3 z0 z1 z2 z3 h0 h1 h2 h3) w f, e]
  · next h =>
    refine put_of_not _ w f _ fun y he => h ?_
    have e0 := congrArg Fin.val (congrFun he 0)
    have e1 := congrArg Fin.val (congrFun he 1)
    have e2 := congrArg Fin.val (congrFun he 2)
    have e3 := congrArg Fin.val (congrFun he 3)
    have l0 : (y 0).val < z0 := (y 0).isLt
    have l1 : (y 1).val < z1 := (y 1).isLt
    have l2 : (y 2).val < z2 := (y 2).isLt
    have l3 : (y 3).val < z3 := (y 3).isLt
    replace e0 : o0 + 1 * (y 0).val = a.val := e0
    replace e1 : o1 + 1 * (y 1).val = b.val := e1
    replace e2 : o2 + 1 * (y 2).val = c.val := e2
    replace e3 : o3 + 1 * (y 3).val = d.val := e3
    omega

/-! ## Loops -/

theorem Act.loopFrom_spec {α : Type} (n : Nat) (f : Fin n → α → Act F α) (Inv : Nat → α → St F → Prop)
    (hs : ∀ (k : Fin n) y s, Inv k.val y s → Inv (k.val + 1) ((f k y).val s) ((f k y).next s)) :
    ∀ (m : Nat) (h : m ≤ n) (x : α) (st : St F), Inv (n - m) x st →
      Inv n ((Act.loopFrom n f m h x).val st) ((Act.loopFrom n f m h x).next st)
  | 0, _, _, _, hi => hi
  | m + 1, h, x, st, hi => by
    refine Act.loopFrom_spec n f Inv hs m (by omega) _ _ ?_
    have := hs ⟨n - (m + 1), by omega⟩ x st hi
    rwa [show (⟨n - (m + 1), by omega⟩ : Fin n).val + 1 = n - m by dsimp only; omega] at this

/-- What holds before the first iteration, and after each one if it did before it, holds after the loop. -/
theorem Act.loop_spec {α : Type} (n : Nat) (f : Fin n → α → Act F α) (Inv : Nat → α → St F → Prop)
    (hs : ∀ (k : Fin n) y s, Inv k.val y s → Inv (k.val + 1) ((f k y).val s) ((f k y).next s))
    (x : α) (st : St F) (h : Inv 0 x st) : Inv n ((Act.loop n f x).val st) ((Act.loop n f x).next st) :=
  Act.loopFrom_spec n f Inv hs n (le_refl n) x st (by rwa [Nat.sub_self])

/-! ## Steps -/

variable {α β : Type}

theorem bind_val (p : Act F α) (q : α → Act F β) (st : St F) : (p >>= q).val st = (q (p.val st)).val (p.next st) := rfl
theorem bind_next (p : Act F α) (q : α → Act F β) (st : St F) : (p >>= q).next st = (q (p.val st)).next (p.next st) := rfl
theorem pure_val (x : α) (st : St F) : (pure x : Act F α).val st = x := rfl
theorem pure_next (x : α) (st : St F) : (pure x : Act F α).next st = st := rfl
theorem load_next (r : Buf') (lr : LoadRect r.shape) (h : 0 < lr.shape.numel) (st : St F) : (Act.load r lr h).next st = st := rfl
theorem load_val (r : Buf') (lr : LoadRect r.shape) (h : 0 < lr.shape.numel) (st : St F) : (Act.load r lr h).val st = fun x => st r (lr.idx x) := rfl
theorem store_next (r : Buf') (rc : Rect r.shape) (h : 0 < rc.shape.numel) (hp : r.elt.bits = 32 ∨ rc.PackedRows r.elt.packing)
    (w : rc.shape.Idx → Elt F r.elt) (st : St F) : (Act.store r rc h hp w).next st = Function.update st r (put rc w (st r)) := rfl

end Cert.KernelIdeal.Hand
-- ==== Proof.Soft.lean ====
/-
  What the softmax part of the body computes over the extended reals.
-/
module

public import proofs.«01_k».proof.Proof.Read

@[expose] public section

set_option maxRecDepth 16384

noncomputable section

namespace Cert.KernelIdeal.Hand

open Cert.KernelIdeal
open Idealize.ShloMosaic Idealize.ShloMosaic.TcCoe
open Facts₀ Facts

/-! ## A head -/

/-- What one head is given: queries, keys in their own order, their scales, values, weights. -/
structure Head where
  Q : Fin 64 → Fin 512 → EReal
  K : Fin 512 → Fin 64 → EReal
  qs : Fin 512 → EReal
  ks : Fin 512 → EReal
  V : Fin 64 → Fin 512 → EReal
  D : Fin 64 → Fin 512 → EReal

/-- Where a key lies in the kernel's order of keys: in every block of 128 the even ones, then the odd ones. -/
def pos (k : Fin 512) : Fin 512 := ⟨128 * (k.val / 128) + 64 * (k.val % 2) + k.val % 128 / 2, by omega⟩

/-- The chunk a key belongs to. -/
def chunk (k : Fin 512) : Nat := 4 * (k.val / 128) + 2 * (k.val / 64 % 2) + k.val % 2

/-- The chunk's row that a key is. -/
def crow (k : Fin 512) : Fin 32 := ⟨k.val % 64 / 2, by omega⟩

/-- The key of a chunk's row. -/
def keyOf (c : Nat) (hc : c < 16) (r : Fin 32) : Fin 512 := ⟨128 * (c / 4) + 64 * (c / 2 % 2) + 2 * r.val + c % 2, by omega⟩

theorem chunk_keyOf (c : Nat) (hc : c < 16) (r : Fin 32) : chunk (keyOf c hc r) = c := by
  unfold chunk keyOf; dsimp only; omega

theorem crow_keyOf (c : Nat) (hc : c < 16) (r : Fin 32) : crow (keyOf c hc r) = r := by
  apply Fin.ext; unfold crow keyOf; dsimp only; omega

theorem keyOf_chunk (k : Fin 512) (hc : chunk k < 16) : keyOf (chunk k) hc (crow k) = k := by
  apply Fin.ext; unfold chunk crow keyOf; dsimp only; omega

theorem chunk_lt (k : Fin 512) : chunk k < 16 := by unfold chunk; omega

theorem pos_keyOf (c : Nat) (hc : c < 16) (r : Fin 32) : (pos (keyOf c hc r)).val = cat c + r.val := by
  unfold pos keyOf cat; dsimp only; omega

theorem val_of_pos : ∀ k : Fin 512, k.val = 128 * ((pos k).val / 128) + 2 * ((pos k).val % 64) + (pos k).val / 64 % 2 := by
  decide +kernel

theorem pos_inj {a b : Fin 512} (h : pos a = pos b) : a = b := by
  apply Fin.ext; rw [val_of_pos a, val_of_pos b, h]

theorem pos_val (k : Fin 512) : (pos k).val = cat (chunk k) + (crow k).val := by
  unfold pos chunk crow cat; dsimp only; omega

/-- The scale of the exponent. -/
def c2 : EReal := (((1 / 8) * (Real.log 2)⁻¹ : ℝ) : EReal)

/-- What the kernel's maximum starts from. -/
def M0 : EReal := Ideal.ofBits .f32 0xF149F2CA#32

namespace Head

variable (H : Head)

/-- The raw score. -/
def raw (k q : Fin 512) : EReal := ∑ d, H.K k d * H.Q d q

/-- The scaled, masked score. -/
def T (k q : Fin 512) : EReal := if k.val ≤ q.val then H.raw k q * H.ks k * (H.qs q * c2) else ⊥

/-- The maximum. -/
def mx (q : Fin 512) : EReal := max M0 (Finset.univ.sup fun k => H.T k q)

/-- The exponential. -/
def E (k q : Fin 512) : EReal := Ideal.exp2 (H.T k q - H.mx q)

/-- The sum of the exponentials. -/
def tot (q : Fin 512) : EReal := ∑ k, H.E k q

end Head

/-- The head that a point's buffers hold. -/
def headOf (i : grid0.Coords) (st : St Ideal) : Head where
  Q d q := st .q (ix4 0 0 d q)
  K k d := st .kp (ix4 0 0 (pos k) d)
  qs q := st .qs (ix3 0 (i 1) q)
  ks k := st .ks (ix3 0 (i 1) k)
  V d k := st .v (ix4 0 0 d k)
  D d q := st .d (ix4 0 0 d q)

/-! ## Preparation and scores -/

theorem off1_idx (i : grid0.Coords) (h) (q : Fin 512) :
    (Rect.unit (s := S1x32x512) (k0_off1 i) S1x1x512.size h).toLoadRect.idx (ix3 0 0 q) = ix3 0 (i 1) q := by
  funext x
  have e := Gen.k0_off1_eq i
  match x with
  | ⟨0, _⟩ => exact Fin.ext (show k0_off1 i 0 + 1 * 0 = 0 by rw [e]; rfl)
  | ⟨1, _⟩ => exact Fin.ext (show k0_off1 i 1 + 1 * 0 = (i 1).val by rw [e]; rfl)
  | ⟨2, _⟩ => exact Fin.ext (show k0_off1 i 2 + 1 * q.val = q.val by rw [e]; show 0 + 1 * q.val = q.val; omega)

theorem c2_eq : (Named.named (F := Ideal) κ "scale_log2e" (φ := .f32) 0x3E38AA3B#32) = c2 := by
  exact named_eq _ _ _

theorem prep_val (i : grid0.Coords) (st : St Ideal) (q : Fin 512) :
    (prep i).val st (ix2 0 q) = (headOf i st).qs q * c2 := by
  show mulf _ _ _ = _
  pointwise
  rw [load_val]
  dsimp only
  rw [off1_idx, c2_eq]; rfl

theorem prep_kc (i : grid0.Coords) (st : St Ideal) (k : Fin 512) (j : Fin 128) :
    (prep i).next st .kc (ix2 k j) = (headOf i st).ks k := by
  show put _ _ _ _ = _
  rw [put_R2, dif_pos (by omega)]
  pointwise
  rw [load_val]
  dsimp only
  rw [off1_idx]; rfl

theorem prep_vt (i : grid0.Coords) (st : St Ideal) (d : Fin 64) (k : Fin 512) :
    (prep i).next st .vt (ix2 d k) = (headOf i st).V d k := by
  show put _ _ _ _ = _
  rw [put_R2, dif_pos (by omega)]
  pointwise
  rw [load_val]
  simp only [R4_idx, Nat.zero_add, Fin.eta, Nat.sub_zero, Fin.zero_eta]
  rfl

theorem scores0_s (st : St Ideal) (k q : Fin 512) :
    scores0.next st .s (ix2 k q) = if k.val < 256 ∧ q.val < 256 then ∑ d : Fin 64, st .kp (ix4 0 0 k d) * st .q (ix4 0 0 d q) else st .s (ix2 k q) := by
  show put _ _ _ _ = _
  rw [put_R2]
  split
  · rw [if_pos (by omega)]
    pointwise
    refine Finset.sum_congr rfl fun d _ => ?_
    simp only [load_val, load_next]
    erw [R4_idx, R4_idx]
    congr 2 <;> congr 1 <;> exact Fin.ext (by dsimp only; omega)
  · rw [if_neg (by omega)]; rfl

theorem scores1_s (st : St Ideal) (k q : Fin 512) :
    scores1.next st .s (ix2 k q) = if 256 ≤ q.val then ∑ d : Fin 64, st .kp (ix4 0 0 k d) * st .q (ix4 0 0 d q) else st .s (ix2 k q) := by
  show put _ _ _ _ = _
  rw [put_R2]
  split
  · rw [if_pos (by omega)]
    pointwise
    refine Finset.sum_congr rfl fun d _ => ?_
    simp only [load_val, load_next]
    erw [R4_idx, R4_idx]
    congr 2 <;> congr 1 <;> exact Fin.ext (by dsimp only; omega)
  · rw [if_neg (by omega)]; rfl

end Cert.KernelIdeal.Hand
-- ==== Proof.Same.lean ====
/-
  The printed body is the program of the action.
-/
module

public import proofs.«01_k».proof.Proof.Body

@[expose] public section

set_option maxRecDepth 100000
set_option maxHeartbeats 0

noncomputable section

namespace Cert.KernelIdeal.Hand

open Cert.KernelIdeal
open Idealize.ShloMosaic Idealize.ShloMosaic.TcCoe

variable {F : FTy → Type} [FloatOps F] [Named F]

/-- The body's buffers. -/
abbrev mkArgs (arg2 : Memref sig .tc .vmem S1x1x64x512 .fp8e4m3) (harg2 : arg2.IsWhole) (arg3 : Memref sig .tc .vmem S1x32x512 .f32) (harg3 : arg3.IsWhole) (arg4 : Memref sig .tc .vmem S1x1x512x64 .fp8e4m3) (harg4 : arg4.IsWhole) (arg5 : Memref sig .tc .vmem S1x32x512 .f32) (harg5 : arg5.IsWhole) (arg6 : Memref sig .tc .vmem S1x1x64x512 .bf16) (harg6 : arg6.IsWhole) (arg7 : Memref sig .tc .vmem S1x1x64x512 .bf16) (harg7 : arg7.IsWhole) (arg8 : Memref sig .tc .vmem S16x32 .f32) (harg8 : arg8.IsWhole) (arg9 : Memref sig .tc .vmem S1x1x16x512 .f32) (harg9 : arg9.IsWhole) (arg10 : Memref sig .tc .vmem S1x32x512 .f32) (harg10 : arg10.IsWhole) (arg11 : Memref sig .tc .vmem S512x512 .f32) (harg11 : arg11.IsWhole) (arg12 : Memref sig .tc .vmem S512x128 .f32) (harg12 : arg12.IsWhole) (arg13 : Memref sig .tc .vmem S64x512 .bf16) (harg13 : arg13.IsWhole) (arg14 : Memref sig .tc .vmem S2x512x512 .bf16) (harg14 : arg14.IsWhole) (arg15 : Memref sig .tc .vmem S512x512 .bf16) (harg15 : arg15.IsWhole) (arg16 : Memref sig .tc .vmem S512x512 .bf16) (harg16 : arg16.IsWhole) : Args where
  mem r := match r with
    | .q => arg2
    | .qs => arg3
    | .kp => arg4
    | .ks => arg5
    | .v => arg6
    | .d => arg7
    | .loss => arg8
    | .row => arg9
    | .lse => arg10
    | .s => arg11
    | .kc => arg12
    | .vt => arg13
    | .y => arg14
    | .l => arg15
    | .pb => arg16
  whole r := match r with
    | .q => harg2
    | .qs => harg3
    | .kp => harg4
    | .ks => harg5
    | .v => harg6
    | .d => harg7
    | .loss => harg8
    | .row => harg9
    | .lse => harg10
    | .s => harg11
    | .kc => harg12
    | .vt => harg13
    | .y => harg14
    | .l => harg15
    | .pb => harg16

theorem body_eq (i : grid0.Coords) (arg2 : Memref sig .tc .vmem S1x1x64x512 .fp8e4m3) (harg2 : arg2.IsWhole) (arg3 : Memref sig .tc .vmem S1x32x512 .f32) (harg3 : arg3.IsWhole) (arg4 : Memref sig .tc .vmem S1x1x512x64 .fp8e4m3) (harg4 : arg4.IsWhole) (arg5 : Memref sig .tc .vmem S1x32x512 .f32) (harg5 : arg5.IsWhole) (arg6 : Memref sig .tc .vmem S1x1x64x512 .bf16) (harg6 : arg6.IsWhole) (arg7 : Memref sig .tc .vmem S1x1x64x512 .bf16) (harg7 : arg7.IsWhole) (arg8 : Memref sig .tc .vmem S16x32 .f32) (harg8 : arg8.IsWhole) (arg9 : Memref sig .tc .vmem S1x1x16x512 .f32) (harg9 : arg9.IsWhole) (arg10 : Memref sig .tc .vmem S1x32x512 .f32) (harg10 : arg10.IsWhole) (arg11 : Memref sig .tc .vmem S512x512 .f32) (harg11 : arg11.IsWhole) (arg12 : Memref sig .tc .vmem S512x128 .f32) (harg12 : arg12.IsWhole) (arg13 : Memref sig .tc .vmem S64x512 .bf16) (harg13 : arg13.IsWhole) (arg14 : Memref sig .tc .vmem S2x512x512 .bf16) (harg14 : arg14.IsWhole) (arg15 : Memref sig .tc .vmem S512x512 .bf16) (harg15 : arg15.IsWhole) (arg16 : Memref sig .tc .vmem S512x512 .bf16) (harg16 : arg16.IsWhole) :
    cc0__body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 = (body (F := F) i).prog (mkArgs arg2 harg2 arg3 harg3 arg4 harg4 arg5 harg5 arg6 harg6 arg7 harg7 arg8 harg8 arg9 harg9 arg10 harg10 arg11 harg11 arg12 harg12 arg13 harg13 arg14 harg14 arg15 harg15 arg16 harg16) .ret := by
  rfl

end Cert.KernelIdeal.Hand
-- ==== Proof.Run.lean ====
/-
  The kernel's run: at every point the body does to its buffers what the action does.
-/
module

public import proofs.«01_k».proof.Proof.Same
public import proofs.«01_k».proof.Proof.IFrame.Frame
public import Idealize.ShloMosaic.Lib.Pipeline.ArrRel

@[expose] public section

set_option maxRecDepth 16384

noncomputable section

namespace Cert.KernelIdeal.Hand

open Cert.KernelIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-! ## Buffers the body leaves alone -/

/-- The action leaves the buffer as it found it. -/
def Keeps {α : Type} (r : Buf') (p : Act F α) : Prop := ∀ st, p.next st r = st r

section Keeps

variable {α β : Type} {r : Buf'}

theorem Keeps.pure (x : α) : Keeps r (Pure.pure x : Act F α) := fun _ => rfl

theorem Keeps.bind {p : Act F α} {q : α → Act F β} (hp : Keeps r p) (hq : ∀ x, Keeps r (q x)) : Keeps r (p >>= q) :=
  fun st => (hq _ _).trans (hp st)

theorem Keeps.load (b : Buf') (lr : LoadRect b.shape) (h : 0 < lr.shape.numel) : Keeps r (Act.load (F := F) b lr h) := fun _ => rfl

theorem Keeps.store (b : Buf') (hb : r ≠ b) (rc : Rect b.shape) (h : 0 < rc.shape.numel) (hp : b.elt.bits = 32 ∨ rc.PackedRows b.elt.packing)
    (w : rc.shape.Idx → Elt F b.elt) : Keeps r (Act.store b rc h hp w) := fun st => Function.update_of_ne hb _ _

theorem Keeps.loopFrom (n : Nat) (f : Fin n → α → Act F α) (hf : ∀ k x, Keeps r (f k x)) (m : Nat) (hm : m ≤ n) (x : α) :
    Keeps r (Act.loopFrom n f m hm x) := by
  induction m generalizing x with
  | zero => exact fun _ => rfl
  | succ m ih => exact fun st => (ih _ _ _).trans (hf _ _ _)

end Keeps

theorem Keeps.prep {r : Buf'} (hkc : r ≠ .kc) (hvt : r ≠ .vt) (i : grid0.Coords) : Keeps r (Hand.prep (F := F) i) := by
  unfold Hand.prep
  repeat' with_reducible (first | exact Keeps.load _ _ _ | exact Keeps.store _ hkc _ _ _ _ | exact Keeps.store _ hvt _ _ _ _ | exact Keeps.pure _ | refine Keeps.bind ?_ fun _ => ?_)

theorem Keeps.scores0 {r : Buf'} (hs : r ≠ .s)  : Keeps r (Hand.scores0 (F := F) ) := by
  unfold Hand.scores0
  repeat' with_reducible (first | exact Keeps.load _ _ _ | exact Keeps.store _ hs _ _ _ _ | exact Keeps.pure _ | refine Keeps.bind ?_ fun _ => ?_)

theorem Keeps.scores1 {r : Buf'} (hs : r ≠ .s)  : Keeps r (Hand.scores1 (F := F) ) := by
  unfold Hand.scores1
  repeat' with_reducible (first | exact Keeps.load _ _ _ | exact Keeps.store _ hs _ _ _ _ | exact Keeps.pure _ | refine Keeps.bind ?_ fun _ => ?_)

theorem Keeps.pass1 {r : Buf'} (hs : r ≠ .s) (b : Fin 4) (q : FVec F S32x128 .f32) (c : Fin (4 * (b.val + 1))) (x : FVec F S32x128 .f32) : Keeps r (Hand.pass1 (F := F) b q c x) := by
  unfold Hand.pass1
  repeat' with_reducible (first | exact Keeps.load _ _ _ | exact Keeps.store _ hs _ _ _ _ | exact Keeps.pure _ | refine Keeps.bind ?_ fun _ => ?_)

theorem Keeps.pass2 {r : Buf'} (hs : r ≠ .s) (b : Fin 4) (q : FVec F S32x128 .f32) (c : Fin (4 * (b.val + 1))) (x : FVec F S32x128 .f32) : Keeps r (Hand.pass2 (F := F) b q c x) := by
  unfold Hand.pass2
  repeat' with_reducible (first | exact Keeps.load _ _ _ | exact Keeps.store _ hs _ _ _ _ | exact Keeps.pure _ | refine Keeps.bind ?_ fun _ => ?_)

theorem Keeps.putLse {r : Buf'} (hlse : r ≠ .lse) (i : grid0.Coords) (b : Fin 4) (x : FVec F S1x128 .f32) : Keeps r (Hand.putLse (F := F) i b x) := by
  unfold Hand.putLse
  repeat' with_reducible (first | exact Keeps.load _ _ _ | exact Keeps.store _ hlse _ _ _ _ | exact Keeps.pure _ | refine Keeps.bind ?_ fun _ => ?_)

theorem Keeps.pass3 {r : Buf'} (hpb : r ≠ .pb) (hy : r ≠ .y) (hl : r ≠ .l) (b : Fin 4) (x : FVec F S32x128 .f32) (c : Fin (2 * (b.val + 1))) : Keeps r (Hand.pass3 (F := F) b x c) := by
  unfold Hand.pass3
  repeat' with_reducible (first | exact Keeps.load _ _ _ | exact Keeps.store _ hpb _ _ _ _ | exact Keeps.store _ hy _ _ _ _ | exact Keeps.store _ hl _ _ _ _ | exact Keeps.pure _ | refine Keeps.bind ?_ fun _ => ?_)

theorem Keeps.block {r : Buf'} (hs : r ≠ .s) (hlse : r ≠ .lse) (hpb : r ≠ .pb) (hy : r ≠ .y) (hl : r ≠ .l) (i : grid0.Coords) (q : FVec F S1x512 .f32) (b : Fin 4) : Keeps r (Hand.block (F := F) i q b) := by
  unfold Hand.block
  repeat' with_reducible (first | exact Keeps.load _ _ _ | exact Keeps.store _ hs _ _ _ _ | exact Keeps.store _ hlse _ _ _ _ | exact Keeps.store _ hpb _ _ _ _ | exact Keeps.store _ hy _ _ _ _ | exact Keeps.store _ hl _ _ _ _ | exact Keeps.pure _ | exact Keeps.loopFrom _ _ (fun _ _ => Keeps.pass1 hs _ _ _ _) _ _ _ | exact Keeps.loopFrom _ _ (fun _ _ => Keeps.pass2 hs _ _ _ _) _ _ _ | exact Keeps.loopFrom _ _ (fun _ _ => Keeps.pass3 hpb hy hl _ _ _) _ _ _ | exact Keeps.putLse hlse _ _ _ | refine Keeps.bind ?_ fun _ => ?_)

theorem Keeps.blk12 {r : Buf'}  (j : Fin 2) (kb cb : Nat) (hk : kb < 2 * (j.val + 1)) (hc : cb < 2) (sl : Fin 2) (pw : BitVec 16) : Keeps r (Hand.blk12 (F := F) j kb cb hk hc sl pw) := by
  unfold Hand.blk12
  repeat' with_reducible (first | exact Keeps.load _ _ _ | exact Keeps.pure _ | refine Keeps.bind ?_ fun _ => ?_)

theorem Keeps.step {r : Buf'} (hy : r ≠ .y) (j : Fin 2) (kb cb : Nat) (hk : kb < 2 * (j.val + 1)) (hc : cb < 2) (sl : Fin 2) : Keeps r (Hand.step (F := F) j kb cb hk hc sl) := by
  unfold Hand.step
  repeat' with_reducible (first | exact Keeps.load _ _ _ | exact Keeps.store _ hy _ _ _ _ | exact Keeps.pure _ | refine Keeps.bind ?_ fun _ => ?_)

theorem Keeps.blk3 {r : Buf'} (hy : r ≠ .y) (j : Fin 2) (kb cb : Nat) (hk : kb < 2 * (j.val + 1)) (hc : cb < 2) : Keeps r (Hand.blk3 (F := F) j kb cb hk hc) := by
  unfold Hand.blk3
  repeat' with_reducible (first | exact Keeps.load _ _ _ | exact Keeps.store _ hy _ _ _ _ | exact Keeps.pure _ | exact Keeps.step hy _ _ _ _ _ _ | refine Keeps.bind ?_ fun _ => ?_)

theorem Keeps.blkN {r : Buf'} (hy : r ≠ .y) (j : Fin 2) (kb cb : Nat) (hk : kb < 2 * (j.val + 1)) (hc : cb < 2) (sl : Fin 2) : Keeps r (Hand.blkN (F := F) j kb cb hk hc sl) := by
  unfold Hand.blkN
  repeat' with_reducible (first | exact Keeps.load _ _ _ | exact Keeps.store _ hy _ _ _ _ | exact Keeps.pure _ | exact Keeps.step hy _ _ _ _ _ _ | refine Keeps.bind ?_ fun _ => ?_)

theorem Keeps.blkZ {r : Buf'}  (j : Fin 2) (kb cb : Nat) (hk : kb < 2 * (j.val + 1)) (hc : cb < 2) (sl : Fin 2) : Keeps r (Hand.blkZ (F := F) j kb cb hk hc sl) := by
  unfold Hand.blkZ
  repeat' with_reducible (first | exact Keeps.load _ _ _ | exact Keeps.pure _ | refine Keeps.bind ?_ fun _ => ?_)

theorem Keeps.blkM {r : Buf'} (hy : r ≠ .y) (j : Fin 2) (m : Nat) (kb cb : Nat) (hk : kb < 2 * (j.val + 1)) (hc : cb < 2) :
    Keeps r (Hand.blkM (F := F) j m kb cb hk hc) := by
  unfold Hand.blkM
  split <;> with_reducible first | exact Keeps.blk12 _ _ _ _ _ _ _ | exact Keeps.blk3 hy _ _ _ _ _ | exact Keeps.blkZ _ _ _ _ _ _ | exact Keeps.blkN hy _ _ _ _ _ _

theorem Keeps.times {r : Buf'} (j : Fin 2) (blk : (kb cb : Nat) → kb < 2 * (j.val + 1) → cb < 2 → Act F (FVec F S128x128 .bf16))
    (h : ∀ kb cb hk hc, Keeps r (blk kb cb hk hc)) : Keeps r (Hand.times j blk) := by
  match j, blk, h with
  | 0, blk, h =>
    show Keeps r (times0 blk)
    unfold times0
    repeat' with_reducible (first | exact Keeps.load _ _ _ | exact Keeps.pure _ | exact h _ _ _ _ | refine Keeps.bind ?_ fun _ => ?_)
  | 1, blk, h =>
    show Keeps r (times1 blk)
    unfold times1
    repeat' with_reducible (first | exact Keeps.load _ _ _ | exact Keeps.pure _ | exact h _ _ _ _ | refine Keeps.bind ?_ fun _ => ?_)

theorem Keeps.level {r : Buf'} (hy : r ≠ .y) (j : Fin 2) (g2 oref bl : FVec F S64x256 .f32) (m : Nat) : Keeps r (Hand.level (F := F) j g2 oref bl m) := by
  unfold Hand.level
  repeat' with_reducible (first | exact Keeps.load _ _ _ | exact Keeps.store _ hy _ _ _ _ | exact Keeps.pure _ | exact Keeps.times _ _ fun _ _ _ _ => Keeps.blkM hy _ _ _ _ _ _ | refine Keeps.bind ?_ fun _ => ?_)

theorem Keeps.levels8 {r : Buf'} (hy : r ≠ .y) (hrow : r ≠ .row) (j : Fin 2) (g2 oref bl : FVec F S64x256 .f32) (u : Fin 2) : Keeps r (Hand.levels8 (F := F) j g2 oref bl u) := by
  unfold Hand.levels8
  repeat' with_reducible (first | exact Keeps.load _ _ _ | exact Keeps.store _ hy _ _ _ _ | exact Keeps.store _ hrow _ _ _ _ | exact Keeps.pure _ | exact Keeps.level hy _ _ _ _ _ | refine Keeps.bind ?_ fun _ => ?_)

theorem Keeps.half {r : Buf'} (hy : r ≠ .y) (hrow : r ≠ .row) (j : Fin 2) : Keeps r (Hand.half (F := F) j) := by
  unfold Hand.half
  repeat' with_reducible (first | exact Keeps.load _ _ _ | exact Keeps.store _ hy _ _ _ _ | exact Keeps.store _ hrow _ _ _ _ | exact Keeps.pure _ | exact Keeps.levels8 hy hrow _ _ _ _ _ | exact Keeps.times _ _ fun _ _ _ _ => Keeps.load _ _ _ | refine Keeps.bind ?_ fun _ => ?_)

theorem Keeps.lossAct {r : Buf'} (hloss : r ≠ .loss) (i : grid0.Coords) : Keeps r (Hand.lossAct (F := F) i) := by
  unfold Hand.lossAct
  repeat' with_reducible (first | exact Keeps.load _ _ _ | exact Keeps.store _ hloss _ _ _ _ | exact Keeps.pure _ | refine Keeps.bind ?_ fun _ => ?_)

theorem Keeps.body {r : Buf'} (hkc : r ≠ .kc) (hvt : r ≠ .vt) (hs : r ≠ .s) (hlse : r ≠ .lse) (hpb : r ≠ .pb) (hy : r ≠ .y) (hl : r ≠ .l) (hrow : r ≠ .row) (hloss : r ≠ .loss) (i : grid0.Coords) : Keeps r (Hand.body (F := F) i) := by
  unfold Hand.body
  repeat' with_reducible (first | exact Keeps.load _ _ _ | exact Keeps.store _ hkc _ _ _ _ | exact Keeps.store _ hvt _ _ _ _ | exact Keeps.store _ hs _ _ _ _ | exact Keeps.store _ hlse _ _ _ _ | exact Keeps.store _ hpb _ _ _ _ | exact Keeps.store _ hy _ _ _ _ | exact Keeps.store _ hl _ _ _ _ | exact Keeps.store _ hrow _ _ _ _ | exact Keeps.store _ hloss _ _ _ _ | exact Keeps.pure _ | exact Keeps.prep hkc hvt _ | exact Keeps.scores0 hs | exact Keeps.scores1 hs | exact Keeps.loopFrom _ _ (fun _ _ => Keeps.block hs hlse hpb hy hl _ _ _) _ _ _ | exact Keeps.loopFrom _ _ (fun _ _ => Keeps.half hy hrow _) _ _ _ | exact Keeps.lossAct hloss _ | refine Keeps.bind ?_ fun _ => ?_)

/-! ## The proof data -/

variable (m : (ℓ : Loc nD τ sig) → Buf (Elt F) ℓ) (ρ : Dev nD → PrngReg)

/-- The input buffers hold the point's blocks. -/
structure Inputs (c : Dev nD) (t : Fin cfg0.N) (st : St F) : Prop where
  q : st .q = Gen.iblk m c 0 t
  qs : st .qs = Gen.iblk m c 1 t
  kp : st .kp = Gen.iblk m c 2 t
  ks : st .ks = Gen.iblk m c 3 t
  v : st .v = Gen.iblk m c 4 t
  d : st .d = Gen.iblk m c 5 t

/-- What the body leaves in an output's buffer, of what it found there. -/
def OutRel (c : Dev nD) (r : Buf') (t : Fin cfg0.N) (Y X : Vec F r.shape r.elt) : Prop :=
  ∃ st : St F, Inputs m c t st ∧ st r = Y ∧ X = (body (F := F) (grid0.coords t)).next st r

/-- The outputs' relations. -/
def ovr (c : Dev nD) : (w : Fin cfg0.W) → Option (Fin cfg0.N → (Y X : (cfg0.win w).block.Idx → Elt F (cfg0.win w).elt) → Prop)
  | ⟨6, _⟩ => some (OutRel m c .loss)
  | ⟨7, _⟩ => some (OutRel m c .row)
  | ⟨8, _⟩ => some (OutRel m c .lse)
  | _ => none

/-- The run's proof data: an input's buffer holds its block, an output's what the body leaves. -/
def rdat (c : Dev nD) : Pipeline.RDat τ (Elt F) Unit ℕ (UR sig nD τ) ℕ cfg0 c := (Gen.dats m 0 c).toR.override (ovr m c)

theorem finds_in (c : Dev nD) (w : Fin cfg0.W) (hw : ovr m c w = none) (t : Fin cfg0.N) (X) (h : (rdat m c).Finds w t X) :
    ∃ d, X = (Gen.dats m 0 c).before w t d :=
  (Gen.dats m 0 c).toR_finds w t X (((Gen.dats m 0 c).toR.override_finds (ovr := ovr m c) hw t X).mp h)

theorem after_in (c : Dev nD) (w : Fin cfg0.W) (hw : ovr m c w = none) (hi : ∀ t, (Gen.dats (F := F) m 0 c).Leaves w t ((Gen.dats m 0 c).after w t)) (t : Fin cfg0.N) (Y) :
    (rdat m c).after w t Y ((Gen.dats m 0 c).after w t) := by
  unfold rdat
  rw [(Gen.dats m 0 c).toR.override_after_of_eq_none hw]
  exact hi t

set_option maxHeartbeats 1200000 in
theorem body_obligation (c : Dev nD) : (rdat (F := F) m c).BodyObligation (defs₀ (F := F)) Variants.none () Set.univ := fun t Y hY => by
  have e0 : Y 0 = Gen.iblk m c 0 t := by obtain ⟨d, h⟩ := finds_in m c 0 rfl t _ (hY 0); rw [h, Gen.before0_0]
  have e1 : Y 1 = Gen.iblk m c 1 t := by obtain ⟨d, h⟩ := finds_in m c 1 rfl t _ (hY 1); rw [h, Gen.before0_1]
  have e2 : Y 2 = Gen.iblk m c 2 t := by obtain ⟨d, h⟩ := finds_in m c 2 rfl t _ (hY 2); rw [h, Gen.before0_2]
  have e3 : Y 3 = Gen.iblk m c 3 t := by obtain ⟨d, h⟩ := finds_in m c 3 rfl t _ (hY 3); rw [h, Gen.before0_3]
  have e4 : Y 4 = Gen.iblk m c 4 t := by obtain ⟨d, h⟩ := finds_in m c 4 rfl t _ (hY 4); rw [h, Gen.before0_4]
  have e5 : Y 5 = Gen.iblk m c 5 t := by obtain ⟨d, h⟩ := finds_in m c 5 rfl t _ (hY 5); rw [h, Gen.before0_5]
  rw [Gen.bigSep_W0, Gen.bigSep_W0, Gen.defs₀_row]
  rw [show (rdat m c).Φ t.succ = Pipeline.ΦA spec0 c from rfl, show (rdat m c).owesAt () t.succ = (rdat m c).owesAt () t.castSucc from rfl,
    show (rdat m c).Φ t.castSucc = Pipeline.ΦA spec0 c from rfl, Gen.PhiA0_eq]
  unfold Gen.bodyAt0
  rw [body_eq]
  iintro ⟨⟨⟨⟨%s0, HS0⟩, ⟨%s1, HS1⟩, ⟨%s2, HS2⟩, ⟨%s3, HS3⟩, ⟨%s4, HS4⟩, ⟨%s5, HS5⟩⟩, Hg⟩, Ho, H0, H1, H2, H3, H4, H5, H6, H7, H8⟩
  let st : St F := fun r => match r with
    | .q => Y 0 | .qs => Y 1 | .kp => Y 2 | .ks => Y 3 | .v => Y 4 | .d => Y 5 | .loss => Y 6 | .row => Y 7 | .lse => Y 8
    | .s => s0 | .kc => s1 | .vt => s2 | .y => s3 | .l => s4 | .pb => s5
  have hin : Inputs m c t st := ⟨e0, e1, e2, e3, e4, e5⟩
  iapply ((body (F := F) (grid0.coords t)).sound c _ Set.univ st _ _)
  unfold Own
  isplitl [H0 H1 H2 H3 H4 H5 H6 H7 H8 HS0 HS1 HS2 HS3 HS4 HS5]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HS0]; · iexact HS0
    isplitl [HS1]; · iexact HS1
    isplitl [HS2]; · iexact HS2
    isplitl [HS3]; · iexact HS3
    isplitl [HS4]; · iexact HS4
    iexact HS5
  iintro ⟨H0, H1, H2, H3, H4, H5, H6, H7, H8, HS0, HS1, HS2, HS3, HS4, HS5⟩
  have k (r : Buf') (h1 : r ≠ .kc) (h2 : r ≠ .vt) (h3 : r ≠ .s) (h4 : r ≠ .lse) (h5 : r ≠ .pb) (h6 : r ≠ .y) (h7 : r ≠ .l) (h8 : r ≠ .row) (h9 : r ≠ .loss) :
      (body (F := F) (grid0.coords t)).next st r = st r := Keeps.body h1 h2 h3 h4 h5 h6 h7 h8 h9 _ st
  rw [k .q (by decide) (by decide) (by decide) (by decide) (by decide) (by decide) (by decide) (by decide) (by decide),
    k .qs (by decide) (by decide) (by decide) (by decide) (by decide) (by decide) (by decide) (by decide) (by decide),
    k .kp (by decide) (by decide) (by decide) (by decide) (by decide) (by decide) (by decide) (by decide) (by decide),
    k .ks (by decide) (by decide) (by decide) (by decide) (by decide) (by decide) (by decide) (by decide) (by decide),
    k .v (by decide) (by decide) (by decide) (by decide) (by decide) (by decide) (by decide) (by decide) (by decide),
    k .d (by decide) (by decide) (by decide) (by decide) (by decide) (by decide) (by decide) (by decide) (by decide)]
  sl_step
  isplitl [HS0 HS1 HS2 HS3 HS4 HS5 Hg]
  · isplitl [HS0 HS1 HS2 HS3 HS4 HS5]
    · isplitl [HS0]
      · iexists _; iexact HS0
      isplitl [HS1]
      · iexists _; iexact HS1
      isplitl [HS2]
      · iexists _; iexact HS2
      isplitl [HS3]
      · iexists _; iexact HS3
      isplitl [HS4]
      · iexists _; iexact HS4
      iexists _; iexact HS5
    iexact Hg
  isplitl [Ho]; · iexact Ho
  isplitl [H0]
  · iexists _; isplitr
    · ipureintro; exact (show (rdat m c).after 0 t _ (Y 0) by rw [e0, ← Gen.after0_0]; exact after_in m c 0 rfl (fun _ => rfl) t _)
    iexact H0
  isplitl [H1]
  · iexists _; isplitr
    · ipureintro; exact (show (rdat m c).after 1 t _ (Y 1) by rw [e1, ← Gen.after0_1]; exact after_in m c 1 rfl (fun _ => rfl) t _)
    iexact H1
  isplitl [H2]
  · iexists _; isplitr
    · ipureintro; exact (show (rdat m c).after 2 t _ (Y 2) by rw [e2, ← Gen.after0_2]; exact after_in m c 2 rfl (fun _ => rfl) t _)
    iexact H2
  isplitl [H3]
  · iexists _; isplitr
    · ipureintro; exact (show (rdat m c).after 3 t _ (Y 3) by rw [e3, ← Gen.after0_3]; exact after_in m c 3 rfl (fun _ => rfl) t _)
    iexact H3
  isplitl [H4]
  · iexists _; isplitr
    · ipureintro; exact (show (rdat m c).after 4 t _ (Y 4) by rw [e4, ← Gen.after0_4]; exact after_in m c 4 rfl (fun _ => rfl) t _)
    iexact H4
  isplitl [H5]
  · iexists _; isplitr
    · ipureintro; exact (show (rdat m c).after 5 t _ (Y 5) by rw [e5, ← Gen.after0_5]; exact after_in m c 5 rfl (fun _ => rfl) t _)
    iexact H5
  isplitl [H6]
  · iexists _; isplitr
    · ipureintro; exact (show (rdat m c).after 6 t (Y 6) _ from ⟨st, hin, rfl, rfl⟩)
    iexact H6
  isplitl [H7]
  · iexists _; isplitr
    · ipureintro; exact (show (rdat m c).after 7 t (Y 7) _ from ⟨st, hin, rfl, rfl⟩)
    iexact H7
  iexists _; isplitr
  · ipureintro; exact (show (rdat m c).after 8 t (Y 8) _ from ⟨st, hin, rfl, rfl⟩)
  iexact H8

set_option backward.isDefEq.respectTransparency.types false in
/-- The run. -/
theorem run_main : θ_run defs (onTc (τ := τ) (main (F := F))) (s₀ m ρ) (Pipeline.RDat.FramePost (cfgs 0) (rdat m) (Gen.V m)) :=
  Pipeline.RDat.θ_run_frame cfgs 0 Gen.launch0 defs₀ Variants.none (rdat m) m ρ main
    (hbody := body_obligation m) (hshare := fun c => (Gen.dats m 0 c).share_full fun _ => rfl)
    (howed := fun _ _ => rfl) (V := Gen.V m) (hmain := Gen.hmain m Variants.none) (hA := Gen.A_eq m) (hΦ := fun _ _ => rfl)

end Cert.KernelIdeal.Hand
-- ==== Proof.Pass.lean ====
/-
  What the softmax of one block of queries computes over the extended reals.
-/
module

public import proofs.«01_k».proof.Proof.Soft
public import proofs.«01_k».proof.Proof.Run

@[expose] public section

set_option maxRecDepth 16384

noncomputable section

namespace Cert.KernelIdeal.Hand

open Cert.KernelIdeal
open Idealize.ShloMosaic Idealize.ShloMosaic.TcCoe
open Facts₀ Facts

/-- A query of a block. -/
def qOf (b : Fin 4) (j : Fin 128) : Fin 512 := ⟨128 * b.val + j.val, by omega⟩

variable {b : Fin 4}

theorem clt (c : Fin (4 * (b.val + 1))) : c.val < 16 := by have := c.isLt; have := b.isLt; omega

theorem kR_idx (c : Fin (4 * (b.val + 1))) (r : Fin 32) (j : Fin 128) : (kR b c).idx (ix2 r j) = ix2 (keyOf c.val (clt c) r) j := by
  funext x
  match x with
  | ⟨0, _⟩ => exact Fin.ext (show 128 * (c.val / 4) + 64 * (c.val / 2 % 2) + c.val % 2 + 2 * r.val = 128 * (c.val / 4) + 64 * (c.val / 2 % 2) + 2 * r.val + c.val % 2 by omega)
  | ⟨1, _⟩ => exact Fin.ext (show 0 + 1 * j.val = j.val by omega)

theorem sR_idx (c : Fin (4 * (b.val + 1))) (r : Fin 32) (j : Fin 128) : (sR b c).toLoadRect.idx (ix2 r j) = ix2 (pos (keyOf c.val (clt c) r)) (qOf b j) := by
  refine (R2_idx _ _ r j).trans ?_
  congr 1
  exact Fin.ext (pos_keyOf _ _ _).symm

theorem chunk_of_pos : ∀ (k : Fin 512) (c : Fin 16), cat c.val ≤ (pos k).val ∧ (pos k).val < cat c.val + 32 → chunk k = c.val := by
  decide +kernel

/-- Writing a chunk of the score buffer. -/
theorem put_sR (c : Fin (4 * (b.val + 1))) (w : FVec Ideal S32x128 .f32) (f : FVec Ideal S512x512 .f32) (k q : Fin 512) :
    put (F := Ideal) (e := .f32) (sR b c) w f (ix2 (pos k) q)
      = if h : q.val / 128 = b.val ∧ chunk k = c.val then w (ix2 (crow k) ⟨q.val - 128 * b.val, by omega⟩) else f (ix2 (pos k) q) := by
  rw [put_R2]
  have hp := pos_val k
  have hc := c.isLt
  have hb := b.isLt
  by_cases h : q.val / 128 = b.val ∧ chunk k = c.val
  · have h1 : cat c.val ≤ (pos k).val ∧ (pos k).val < cat c.val + 32 := by rw [hp, h.2]; omega
    rw [dif_pos h, dif_pos ⟨h1, by omega⟩]
    congr 2
    exact Fin.ext (by dsimp only; rw [hp, h.2]; omega)
  · rw [dif_neg h, dif_neg ?_]
    rintro ⟨h1, h2⟩
    apply h
    refine ⟨by omega, ?_⟩
    exact chunk_of_pos k ⟨c.val, clt c⟩ h1

/-- A vector cast to its own shape. -/
theorem cast_self (x : FVec Ideal S32x128 .f32) (h) (j) : shapeCast S32x128 x h j = x j := by pointwise

theorem causal_bit : ∀ (r : Fin 32) (x y : Fin 2) (j : Fin 128),
    IntOp.cmpi .sle (IntOp.addi (IntOp.muli (2#32) (IntOp.addi (BitVec.ofNat 32 r.val) (BitVec.ofNat 32 (32 * x.val)))) (BitVec.ofNat 32 y.val)) (BitVec.ofNat 32 j.val)
      = if 2 * (r.val + 32 * x.val) + y.val ≤ j.val then 1#1 else 0#1 := by
  decide +kernel

/-- The pattern of minus infinity. -/
theorem ninf : Ideal.ofBits .f32 0xFF800000#32 = ⊥ := by simp [Ideal.ofBits, Ideal.ieee]

theorem masked_apply (c : Nat) (hc : c < 16) (bb : Nat) (t : FVec Ideal S32x128 .f32) (r : Fin 32) (j : Fin 128) :
    masked bb c t (ix2 r j) = if c / 4 = bb ∧ ¬ (2 * (r.val + 32 * (c / 2 % 2)) + c % 2 ≤ j.val) then ⊥ else t (ix2 r j) := by
  unfold masked
  by_cases hb : c / 4 = bb
  · rw [show Nat.beq (c / 4) bb = true from by simpa using hb, cond_true]
    unfold causal
    pointwise
    have e := causal_bit r ⟨c / 2 % 2, by omega⟩ ⟨c % 2, by omega⟩ j
    dsimp only at e
    rw [e, ninf]
    by_cases hj : 2 * (r.val + 32 * (c / 2 % 2)) + c % 2 ≤ j.val
    · rw [if_pos hj, if_neg (by tauto)]; rfl
    · rw [if_neg hj, if_pos ⟨hb, hj⟩]; rfl
  · rw [show Nat.beq (c / 4) bb = false from by rw [Bool.eq_false_iff]; simpa using hb, cond_false, if_neg (by tauto)]

theorem pass1_val (qv : FVec Ideal S32x128 .f32) (c : Fin (4 * (b.val + 1))) (mx : FVec Ideal S32x128 .f32) (st : St Ideal) :
    (pass1 b qv c mx).val st = maximumf mx (masked b.val c.val (scaled (fun x => st .s ((sR b c).toLoadRect.idx x)) (fun x => st .kc ((kR b c).idx x)) qv)) := rfl

theorem pass1_next (qv : FVec Ideal S32x128 .f32) (c : Fin (4 * (b.val + 1))) (mx : FVec Ideal S32x128 .f32) (st : St Ideal) (k q : Fin 512) :
    (pass1 b qv c mx).next st .s (ix2 (pos k) q) = if h : q.val / 128 = b.val ∧ chunk k = c.val then
      masked b.val c.val (scaled (fun x => st .s ((sR b c).toLoadRect.idx x)) (fun x => st .kc ((kR b c).idx x)) qv) (ix2 (crow k) ⟨q.val - 128 * b.val, by omega⟩) else st .s (ix2 (pos k) q) := by
  refine (put_sR c _ _ k q).trans ?_
  split
  · exact cast_self _ _ _
  · rfl

/-- What holds of the buffers before a block of queries. -/
structure Before (H : Head) (b : Fin 4) (qv : FVec Ideal S32x128 .f32) (st : St Ideal) : Prop where
  kc : ∀ k j, st .kc (ix2 k j) = H.ks k
  s : ∀ k q, q.val / 128 = b.val → chunk k < 4 * (b.val + 1) → st .s (ix2 (pos k) q) = H.raw k q
  q : ∀ r j, qv (ix2 r j) = H.qs (qOf b j) * c2

/-- The first pass so far. -/
structure Pass1 (H : Head) (b : Fin 4) (st : St Ideal) (c : Nat) (mx : FVec Ideal S32x128 .f32) (s : St Ideal) : Prop where
  kc : s .kc = st .kc
  s : ∀ k q, s .s (ix2 (pos k) q) = if q.val / 128 = b.val ∧ chunk k < c then H.T k q else st .s (ix2 (pos k) q)
  mx : ∀ r j z, mx (ix2 r j) ≤ z ↔ M0 ≤ z ∧ ∀ k, chunk k < c → crow k = r → H.T k (qOf b j) ≤ z

variable {H : Head} {qv : FVec Ideal S32x128 .f32} {st : St Ideal}

theorem term1 (hb : Before H b qv st) (c : Fin (4 * (b.val + 1))) {mx : FVec Ideal S32x128 .f32} {s : St Ideal} (hp : Pass1 H b st c.val mx s) (r : Fin 32) (j : Fin 128) :
    masked b.val c.val (scaled (fun x => s .s ((sR b c).toLoadRect.idx x)) (fun x => s .kc ((kR b c).idx x)) qv) (ix2 r j) = H.T (keyOf c.val (clt c) r) (qOf b j) := by
  have hc := c.isLt
  have hbb := b.isLt
  rw [masked_apply c.val (clt c)]
  have e : scaled (fun x => s .s ((sR b c).toLoadRect.idx x)) (fun x => s .kc ((kR b c).idx x)) qv (ix2 r j)
      = H.raw (keyOf c.val (clt c) r) (qOf b j) * H.ks (keyOf c.val (clt c) r) * (H.qs (qOf b j) * c2) := by
    show s .s ((sR b c).toLoadRect.idx (ix2 r j)) * s .kc ((kR b c).idx (ix2 r j)) * qv (ix2 r j) = _
    rw [sR_idx, kR_idx, hp.s, if_neg (by rw [chunk_keyOf]; omega), hp.kc, hb.kc, hb.q,
      hb.s _ _ (by unfold qOf; dsimp only; omega) (by rw [chunk_keyOf]; exact hc)]
  rw [e]
  unfold Head.T
  have hk : (keyOf c.val (clt c) r).val ≤ (qOf b j).val ↔ ¬ (c.val / 4 = b.val ∧ ¬ (2 * (r.val + 32 * (c.val / 2 % 2)) + c.val % 2 ≤ j.val)) := by
    unfold keyOf qOf; dsimp only
    omega
  by_cases h : c.val / 4 = b.val ∧ ¬ (2 * (r.val + 32 * (c.val / 2 % 2)) + c.val % 2 ≤ j.val)
  · rw [if_pos h, if_neg (by rw [hk]; exact not_not.mpr h)]
  · rw [if_neg h, if_pos (hk.mpr h)]

theorem key_of (c : Nat) (hc : c < 16) (k : Fin 512) (h : chunk k = c) : k = keyOf c hc (crow k) := by
  subst h; exact (keyOf_chunk k hc).symm

theorem pass1_step (hb : Before H b qv st) (c : Fin (4 * (b.val + 1))) (mx : FVec Ideal S32x128 .f32) (s : St Ideal) (hp : Pass1 H b st c.val mx s) :
    Pass1 H b st (c.val + 1) ((pass1 b qv c mx).val s) ((pass1 b qv c mx).next s) where
  kc := (Keeps.pass1 (by decide) _ _ _ _ s).trans hp.kc
  s k q := by
    rw [pass1_next]
    split
    · next h =>
      rw [term1 hb c hp, if_pos ⟨h.1, by omega⟩, ← key_of c.val (clt c) k h.2]
      congr 1
      exact Fin.ext (by unfold qOf; dsimp only; omega)
    · next h =>
      rw [hp.s]
      congr 1
      exact propext ⟨fun g => ⟨g.1, by omega⟩, fun g => ⟨g.1, by have : ¬ chunk k = c.val := (fun e => h ⟨g.1, e⟩); omega⟩⟩
  mx r j z := by
    rw [pass1_val]
    show max (mx (ix2 r j)) _ ≤ z ↔ _
    rw [term1 hb c hp, max_le_iff, hp.mx]
    constructor
    · rintro ⟨⟨h0, h1⟩, h2⟩
      refine ⟨h0, fun k hk hr => ?_⟩
      by_cases e : chunk k = c.val
      · rw [key_of c.val (clt c) k e, hr]; exact h2
      · exact h1 k (by omega) hr
    · rintro ⟨h0, h1⟩
      exact ⟨⟨h0, fun k hk hr => h1 k (by omega) hr⟩, h1 _ (by rw [chunk_keyOf]; omega) (crow_keyOf _ _ _)⟩

/-- The first pass. -/
theorem pass1_loop (hb : Before H b qv st) (mx0 : FVec Ideal S32x128 .f32) (h0 : ∀ r j, mx0 (ix2 r j) = M0) :
    Pass1 H b st (4 * (b.val + 1)) ((Act.loop (4 * (b.val + 1)) (pass1 b qv) mx0).val st) ((Act.loop (4 * (b.val + 1)) (pass1 b qv) mx0).next st) :=
  Act.loop_spec _ _ (Pass1 H b st) (pass1_step hb) _ _
    ⟨rfl, fun k q => by rw [if_neg (by omega)], fun r j z => by rw [h0]; exact ⟨fun h => ⟨h, fun k hk => absurd hk (by omega)⟩, fun h => h.1⟩⟩

/-- The maximum of a block's column. -/
theorem colMax_eq (mx : FVec Ideal S32x128 .f32) (h : ∀ r j z, mx (ix2 r j) ≤ z ↔ M0 ≤ z ∧ ∀ k, chunk k < 4 * (b.val + 1) → crow k = r → H.T k (qOf b j) ≤ z) (j : Fin 128) :
    colMax mx (ix2 0 j) = H.mx (qOf b j) := by
  unfold colMax
  pointwise
  rw [ninf]
  refine eq_of_forall_ge_iff fun z => ?_
  unfold Head.mx
  rw [max_le_iff, Finset.sup_le_iff]
  refine (Finset.fold_max_le (b := ⊥) (s := Finset.univ) z).trans ?_
  constructor
  · rintro ⟨-, h1⟩
    refine ⟨((h 0 j z).mp (h1 0 (Finset.mem_univ _))).1, fun k _ => ?_⟩
    by_cases hk : chunk k < 4 * (b.val + 1)
    · exact ((h (crow k) j z).mp (h1 _ (Finset.mem_univ _))).2 k hk rfl
    · unfold Head.T
      rw [if_neg (by unfold qOf chunk at *; dsimp only; omega)]
      exact bot_le
  · rintro ⟨h0, h1⟩
    exact ⟨bot_le, fun r _ => (h r j z).mpr ⟨h0, fun k _ _ => h1 k (Finset.mem_univ _)⟩⟩

end Cert.KernelIdeal.Hand
-- ==== Proof.Pass2.lean ====
/-
  The second and third passes of the softmax of one block of queries, over the extended reals.
-/
module

public import proofs.«01_k».proof.Proof.Pass

@[expose] public section

set_option maxRecDepth 16384

noncomputable section

namespace Cert.KernelIdeal.Hand

open Cert.KernelIdeal
open Idealize.ShloMosaic Idealize.ShloMosaic.TcCoe
open Facts₀ Facts

variable {b : Fin 4} {H : Head} {st : St Ideal}

/-- Nothing masked has an exponential. -/
theorem E_masked (H : Head) (k q : Fin 512) (h : ¬ k.val ≤ q.val) : H.E k q = 0 := by
  unfold Head.E Head.T
  rw [if_neg h, EReal.bot_sub]; rfl

/-! ## The second pass -/

/-- The second pass so far. -/
structure Pass2 (H : Head) (b : Fin 4) (st : St Ideal) (c : Nat) (sm : FVec Ideal S32x128 .f32) (s : St Ideal) : Prop where
  s : ∀ k q, s .s (ix2 (pos k) q) = if q.val / 128 = b.val ∧ chunk k < c then H.E k q else st .s (ix2 (pos k) q)
  sm : ∀ r j, sm (ix2 r j) = ∑ k, if chunk k < c ∧ crow k = r then H.E k (qOf b j) else 0

theorem pass2_next (mxb : FVec Ideal S32x128 .f32) (c : Fin (4 * (b.val + 1))) (sm : FVec Ideal S32x128 .f32) (s : St Ideal) (k q : Fin 512) :
    (pass2 b mxb c sm).next s .s (ix2 (pos k) q) = if h : q.val / 128 = b.val ∧ chunk k = c.val then
      Ideal.exp2 (s .s ((sR b c).toLoadRect.idx (ix2 (crow k) ⟨q.val - 128 * b.val, by omega⟩)) - mxb (ix2 (crow k) ⟨q.val - 128 * b.val, by omega⟩)) else s .s (ix2 (pos k) q) := by
  refine (put_sR c _ _ k q).trans ?_
  split
  · exact cast_self _ _ _
  · rfl

theorem pass2_step (mxb : FVec Ideal S32x128 .f32) (hm : ∀ r j, mxb (ix2 r j) = H.mx (qOf b j))
    (hs : ∀ k q, q.val / 128 = b.val → chunk k < 4 * (b.val + 1) → st .s (ix2 (pos k) q) = H.T k q)
    (c : Fin (4 * (b.val + 1))) (sm : FVec Ideal S32x128 .f32) (s : St Ideal) (hp : Pass2 H b st c.val sm s) :
    Pass2 H b st (c.val + 1) ((pass2 b mxb c sm).val s) ((pass2 b mxb c sm).next s) := by
  have term : ∀ r j, Ideal.exp2 (s .s ((sR b c).toLoadRect.idx (ix2 r j)) - mxb (ix2 r j)) = H.E (keyOf c.val (clt c) r) (qOf b j) := by
    intro r j
    rw [sR_idx, hp.s, if_neg (by rw [chunk_keyOf]; omega), hm,
      hs _ _ (by unfold qOf; dsimp only; omega) (by rw [chunk_keyOf]; exact c.isLt)]
    rfl
  constructor
  · intro k q
    rw [pass2_next]
    split
    · next h =>
      rw [term, if_pos ⟨h.1, by omega⟩, ← key_of c.val (clt c) k h.2]
      congr 1
      exact Fin.ext (by unfold qOf; dsimp only; omega)
    · next h =>
      rw [hp.s]
      congr 1
      exact propext ⟨fun g => ⟨g.1, by omega⟩, fun g => ⟨g.1, by have : ¬ chunk k = c.val := (fun e => h ⟨g.1, e⟩); omega⟩⟩
  · intro r j
    show sm (ix2 r j) + Ideal.exp2 (s .s ((sR b c).toLoadRect.idx (ix2 r j)) - mxb (ix2 r j)) = _
    rw [term, hp.sm]
    have e : H.E (keyOf c.val (clt c) r) (qOf b j) = ∑ k, if k = keyOf c.val (clt c) r then H.E k (qOf b j) else 0 := by
      rw [Finset.sum_ite_eq' Finset.univ, if_pos (Finset.mem_univ _)]
    rw [e, ← Finset.sum_add_distrib]
    refine Finset.sum_congr rfl fun k _ => ?_
    by_cases hk : k = keyOf c.val (clt c) r
    · subst hk
      rw [if_neg (by rw [chunk_keyOf]; omega), if_pos rfl, if_pos (by rw [chunk_keyOf, crow_keyOf]; exact ⟨by omega, rfl⟩), zero_add]
    · rw [if_neg hk, add_zero]
      congr 1
      refine propext ⟨fun g => ⟨by omega, g.2⟩, fun g => ⟨?_, g.2⟩⟩
      have : ¬ chunk k = c.val := fun e => hk (by rw [← g.2]; exact key_of c.val (clt c) k e)
      omega

theorem pass2_loop (mxb : FVec Ideal S32x128 .f32) (hm : ∀ r j, mxb (ix2 r j) = H.mx (qOf b j))
    (hs : ∀ k q, q.val / 128 = b.val → chunk k < 4 * (b.val + 1) → st .s (ix2 (pos k) q) = H.T k q)
    (sm0 : FVec Ideal S32x128 .f32) (h0 : ∀ r j, sm0 (ix2 r j) = 0) :
    Pass2 H b st (4 * (b.val + 1)) ((Act.loop (4 * (b.val + 1)) (pass2 b mxb) sm0).val st) ((Act.loop (4 * (b.val + 1)) (pass2 b mxb) sm0).next st) :=
  Act.loop_spec _ _ (Pass2 H b st) (pass2_step mxb hm hs) _ _
    ⟨fun k q => by rw [if_neg (by omega)], fun r j => by rw [h0]; exact (Finset.sum_eq_zero fun k _ => by rw [if_neg (by omega)]).symm⟩

/-- The sum of a block's column. -/
theorem colSum_eq (sm : FVec Ideal S32x128 .f32) (h : ∀ r j, sm (ix2 r j) = ∑ k, if chunk k < 4 * (b.val + 1) ∧ crow k = r then H.E k (qOf b j) else 0) (j : Fin 128) :
    colSum sm (ix2 0 j) = H.tot (qOf b j) := by
  unfold colSum
  pointwise
  simp only [h]
  rw [Finset.sum_comm]
  unfold Head.tot
  refine Finset.sum_congr rfl fun k _ => ?_
  by_cases hk : chunk k < 4 * (b.val + 1)
  · simp only [hk, true_and]
    rw [Finset.sum_ite_eq Finset.univ, if_pos (Finset.mem_univ _)]
  · rw [E_masked _ _ _ (by unfold qOf chunk at *; dsimp only; omega)]
    exact Finset.sum_eq_zero fun r _ => by rw [ite_self]

/-! ## The logarithm of the sum -/

/-- The logarithm of the sum of exponentials, less that of the number of keys. -/
def Head.lse (H : Head) (q : Fin 512) : EReal :=
  H.mx q * ((Real.log 2 : ℝ) : EReal) + Ideal.log (H.tot q) - Ideal.log (((q.val + 1 : ℕ) : ℝ) : EReal)

theorem ln2_eq : (Named.named (F := Ideal) κ "ln2" (φ := .f32) 0x3F317218#32) = ((Real.log 2 : ℝ) : EReal) := by
  exact named_eq _ _ _

theorem count_word : ∀ (b : Fin 4) (j : Fin 128), (IntOp.addi (BitVec.ofNat 32 j.val) (BitVec.ofNat 32 (128 * b.val + 1))).toInt = ((128 * b.val + j.val + 1 : ℕ) : ℤ) := by
  decide +kernel

theorem lseOf_eq (mx sm : FVec Ideal S1x128 .f32) (j : Fin 128) (hm : mx (ix2 0 j) = H.mx (qOf b j)) (hs : sm (ix2 0 j) = H.tot (qOf b j)) :
    lseOf b.val mx sm (ix2 0 j) = H.lse (qOf b j) := by
  unfold lseOf Head.lse
  pointwise
  rw [hm, hs, ln2_eq]
  congr 2
  show ((((IntOp.addi (BitVec.ofNat 32 j.val) (BitVec.ofNat 32 (128 * b.val + 1))).toInt : ℤ) : ℝ) : EReal) = _
  rw [count_word]
  rfl

theorem put_unit {e : EltTy} (o o' : Fin 3 → Nat) (ho : o = o') (h h') (w : S1x8x128.Idx → Elt Ideal e) (f : S1x32x512.Idx → Elt Ideal e) :
    put (Rect.unit (s := S1x32x512) o S1x8x128.size h) w f = put (Rect.unit (s := S1x32x512) o' S1x8x128.size h') w f := by
  subst ho; rfl

theorem idx_unit (o o' : Fin 3 → Nat) (ho : o = o') (h h') (x : S1x8x128.Idx) :
    (Rect.unit (s := S1x32x512) o S1x8x128.size h).toLoadRect.idx x = (Rect.unit (s := S1x32x512) o' S1x8x128.size h').toLoadRect.idx x := by
  subst ho; rfl

theorem rem_word : ∀ (h : Fin 32) (r : Fin 8), Scalar.cmpi .eq (BitVec.ofNat 32 r.val) (Gen.headRow (BitVec.ofNat 32 h.val)) = if r.val = h.val % 8 then 1#1 else 0#1 := by
  decide +kernel

theorem rem_zero : ∀ h : Fin 32, Scalar.cmpi .eq (Gen.headRow (BitVec.ofNat 32 h.val)) 0#32 = if h.val % 8 = 0 then 1#1 else 0#1 := by
  decide +kernel

theorem lseOff_eq (i : grid0.Coords) (b : Nat) : lseOff i b = ![0, 8 * ((i 1).val / 8), 128 * b] := by
  unfold lseOff
  rw [Gen.tileStart_eq (i 1)]

theorem lseTile_apply (i : grid0.Coords) (x : FVec Ideal S1x128 .f32) (old : FVec Ideal S1x8x128 .f32) (r : Fin 8) (j : Fin 128) :
    lseTile i x old (ix3 0 r j) = if r.val = (i 1).val % 8 then x (ix2 0 j) else if (i 1).val % 8 = 0 then 0 else old (ix3 0 r j) := by
  unfold lseTile
  rw [rem_zero (i 1)]
  pointwise
  have e : IntOp.cmpi CmpIPredicate.eq (BitVec.ofNat 32 r.val) (Gen.headRow (hd i)) = if r.val = (i 1).val % 8 then 1#1 else 0#1 := rem_word (i 1) r
  rw [e]
  by_cases h1 : r.val = (i 1).val % 8
  · rw [if_pos h1, if_pos h1]; rfl
  · rw [if_neg h1, if_neg h1]
    by_cases h2 : (i 1).val % 8 = 0
    · rw [if_pos h2, if_pos h2]; rfl
    · rw [if_neg h2, if_neg h2]; rfl

theorem putLse_lse (i : grid0.Coords) (x : FVec Ideal S1x128 .f32) (s : St Ideal) (h : Fin 32) (q : Fin 512) :
    (putLse i b x).next s .lse (ix3 0 h q) = if hq : q.val / 128 = b.val ∧ h.val / 8 = (i 1).val / 8 then
      (if h.val = (i 1).val then x (ix2 0 ⟨q.val - 128 * b.val, by omega⟩) else if (i 1).val % 8 = 0 then 0 else s .lse (ix3 0 h q)) else s .lse (ix3 0 h q) := by
  have hi : (i 1).val < 32 := (i 1).isLt
  have hb := b.isLt
  show put _ _ _ _ = _
  rw [put_unit _ ![0, 8 * ((i 1).val / 8), 128 * b.val] (lseOff_eq i b.val) _ (fun a => match a with
    | 0 => by show 0 + 1 ≤ 1; omega
    | 1 => by show 8 * ((i 1).val / 8) + 8 ≤ 32; omega
    | 2 => by show 128 * b.val + 128 ≤ 512; omega)]
  refine (put_R3 (o0 := 0) (o1 := 8 * ((i 1).val / 8)) (o2 := 128 * b.val) (z0 := 1) (z1 := 8) (z2 := 128) (by omega) (by omega) (by omega) _ _ 0 h q).trans ?_
  by_cases hq : q.val / 128 = b.val ∧ h.val / 8 = (i 1).val / 8
  · rw [dif_pos hq, dif_pos (by omega)]
    refine (lseTile_apply i x _ ⟨h.val - 8 * ((i 1).val / 8), by omega⟩ ⟨q.val - 128 * b.val, by omega⟩).trans ?_
    by_cases he : h.val = (i 1).val
    · rw [if_pos (by dsimp only; omega), if_pos he]
    · rw [if_neg (by dsimp only; intro e; exact he (by omega)), if_neg he]
      congr 1
      rw [load_val]
      dsimp only
      rw [idx_unit _ ![0, 8 * ((i 1).val / 8), 128 * b.val] (lseOff_eq i b.val) _ (fun a => match a with
        | 0 => by show 0 + 1 ≤ 1; omega
        | 1 => by show 8 * ((i 1).val / 8) + 8 ≤ 32; omega
        | 2 => by show 128 * b.val + 128 ≤ 512; omega)]
      erw [R3_idx (n0 := 1) (n1 := 32) (n2 := 512) (o0 := 0) (o1 := 8 * ((i 1).val / 8)) (o2 := 128 * b.val) (z0 := 1) (z1 := 8) (z2 := 128) (by omega) (by omega) (by omega)]
      congr 1
      congr 1 <;> exact Fin.ext (by dsimp only; omega)
  · rw [dif_neg hq, dif_neg (by omega)]; rfl

/-! ## The third pass -/

/-- Sixteen times the softmax. -/
def Head.Z (H : Head) (k q : Fin 512) : EReal := H.E k q * Ideal.div 16 (H.tot q)

theorem w16 : Ideal.ofBits .f32 0x41800000#32 = 16 := by
  simp [Ideal.ofBits, Ideal.ieee, -EReal.coe_mul]; norm_num; rfl

theorem invb_eq (sm : FVec Ideal S1x128 .f32) (r : Fin 32) (j : Fin 128) (hs : sm (ix2 0 j) = H.tot (qOf b j)) :
    invb sm (ix2 r j) = Ideal.div 16 (H.tot (qOf b j)) := by
  unfold invb
  pointwise
  rw [hs, w16]

theorem roundOdd_eq (x : FVec Ideal S32x128 .f32) : roundOdd x = x := by
  funext i
  show Scalar.select (IntOp.ori (Ideal.cmp .oeq (x i) (x i)) _) (x i) _ = x i
  have e : Ideal.cmp .oeq (x i) (x i) = 1#1 := by simp [Ideal.cmp]
  rw [e]
  have o : ∀ w : BitVec 1, IntOp.ori 1#1 w = 1#1 := by decide
  rw [o]; rfl

theorem pair_apply (x y : FVec Ideal S32x128 .f32) (r : Fin 64) (j : Fin 128) :
    pair x y (ix2 r j) = if r.val % 2 = 0 then x (ix2 ⟨r.val / 2, by omega⟩ j) else y (ix2 ⟨r.val / 2, by omega⟩ j) := by
  unfold pair
  pointwise

/-- A number rounded and kept below eight. -/
def capped (x : EReal) : EReal := min (Ideal.liftRound Ideal.roundHalfEven x) 7

theorem b2 : Ideal.ofBits .bf16 0x4000#16 = 2 := by
  simp [Ideal.ofBits, Ideal.ieee, -EReal.coe_mul]; norm_num; rfl
theorem bhalf : Ideal.ofBits .bf16 0x3F00#16 = ((1 / 2 : ℝ) : EReal) := by
  simp [Ideal.ofBits, Ideal.ieee, -EReal.coe_mul]; norm_num
theorem b7 : Ideal.ofBits .bf16 0x40E0#16 = 7 := by
  simp [Ideal.ofBits, Ideal.ieee, -EReal.coe_mul]; norm_num; rfl

/-- The third pass so far. -/
structure Pass3 (H : Head) (b : Fin 4) (st : St Ideal) (c : Nat) (s : St Ideal) : Prop where
  keep : s .s = st .s
  pb : ∀ k q, s .pb (ix2 k q) = if q.val / 128 = b.val ∧ k.val / 64 < c then H.Z k q else st .pb (ix2 k q)
  y0 : ∀ k q, s .y (ix3 0 k q) = if q.val / 128 = b.val ∧ k.val / 64 < c then H.Z k q else st .y (ix3 0 k q)
  y1 : ∀ k q, s .y (ix3 1 k q) = if q.val / 128 = b.val ∧ k.val / 64 < c then H.Z k q * 2 else st .y (ix3 1 k q)
  l : ∀ k q, s .l (ix2 k q) = if q.val / 128 = b.val ∧ k.val / 64 < c then capped (H.Z k q * ((1 / 2 : ℝ) : EReal)) else st .l (ix2 k q)

section

variable (c : Fin (2 * (b.val + 1)))

/-- A pair of chunks' exponentials times the inverse. -/
def pairE (inv : FVec Ideal S32x128 .f32) (s : FVec Ideal S512x512 .f32) : FVec Ideal S32x128 .f32 × FVec Ideal S32x128 .f32 :=
  (mulf (fun x => s ((R2 (n0 := 512) (n1 := 512) (128 * (c.val / 2) + 32 * (c.val % 2)) (128 * b.val) 32 128 (by have := c.isLt; omega) (by omega)).toLoadRect.idx x)) inv,
    mulf (fun x => s ((R2 (n0 := 512) (n1 := 512) (128 * (c.val / 2) + 32 * (c.val % 2) + 64) (128 * b.val) 32 128 (by have := c.isLt; omega) (by omega)).toLoadRect.idx x)) inv)

/-- Where a pair of chunks goes. -/
abbrev dR : Rect S512x512 := R2 (n0 := 512) (n1 := 512) (128 * (c.val / 2) + 64 * (c.val % 2)) (128 * b.val) 64 128 (by have := c.isLt; omega) (by omega)
/-- Where a pair of chunks goes in the levels' buffers. -/
abbrev dR3 (z : Fin 2) : Rect S2x512x512 :=
  R3 (n0 := 2) (n1 := 512) (n2 := 512) z.val (128 * (c.val / 2) + 64 * (c.val % 2)) (128 * b.val) 1 64 128 (by omega) (by have := c.isLt; omega) (by omega)

theorem pass3_pair (inv : FVec Ideal S32x128 .f32) (hi : ∀ r j, inv (ix2 r j) = Ideal.div 16 (H.tot (qOf b j)))
    (s : FVec Ideal S512x512 .f32)
    (hs : ∀ k q, q.val / 128 = b.val → chunk k < 4 * (b.val + 1) → s (ix2 (pos k) q) = H.E k q)
    (k q : Fin 512) (k' : Fin 64) (j : Fin 128) (hk : k.val = 64 * c.val + k'.val) (hq : q.val = 128 * b.val + j.val) :
    pair (pairE c inv s).1 (pairE c inv s).2 (ix2 k' j) = H.Z k q := by
  have hc := c.isLt
  have hb := b.isLt
  have hqo : qOf b j = q := Fin.ext (by unfold qOf; dsimp only; omega)
  have hck : chunk k < 4 * (b.val + 1) := by unfold chunk; omega
  rw [pair_apply]
  unfold pairE
  split
  · show s _ * inv _ = _
    rw [hi, hqo, R2_idx]
    unfold Head.Z
    rw [← hs k q (by omega) hck]
    congr 3
    exact Fin.ext (by unfold pos; dsimp only; omega)
  · show s _ * inv _ = _
    rw [hi, hqo, R2_idx]
    unfold Head.Z
    rw [← hs k q (by omega) hck]
    congr 3
    exact Fin.ext (by unfold pos; dsimp only; omega)

theorem pass3_s (inv : FVec Ideal S32x128 .f32) (s : St Ideal) : (pass3 b inv c).next s .s = s .s := rfl

/-- Writes a pair of chunks of the probabilities. -/
def p3pb (w : FVec Ideal S64x128 .bf16) (s : St Ideal) : St Ideal := Function.update s .pb (put (F := Ideal) (e := .bf16) (dR c) w (s .pb))
/-- Writes a pair of chunks of the levels. -/
def p3y (z : Fin 2) (w : FVec Ideal S1x64x128 .bf16) (s : St Ideal) : St Ideal := Function.update s .y (put (F := Ideal) (e := .bf16) (dR3 c z) w (s .y))
/-- Writes a pair of chunks of the large levels. -/
def p3l (w : FVec Ideal S64x128 .bf16) (s : St Ideal) : St Ideal := Function.update s .l (put (F := Ideal) (e := .bf16) (dR c) w (s .l))

theorem pass3_next (inv : FVec Ideal S32x128 .f32) (s : St Ideal) : (pass3 b inv c).next s
    = p3l c (shapeCast S64x128 (minimumf (roundeven (mulf (pair (roundOdd (pairE c inv (s .s)).1) (roundOdd (pairE c inv (s .s)).2)) (broadcast S64x128 (Scalar.ofBits .bf16 0x3F00#16)))) (broadcast S64x128 (Scalar.ofBits .bf16 0x40E0#16))) shapeCasts_S64x128_S64x128)
      (p3y c 1 (shapeCast S1x64x128 (mulf (pair (roundOdd (pairE c inv (s .s)).1) (roundOdd (pairE c inv (s .s)).2)) (broadcast S64x128 (Scalar.ofBits .bf16 0x4000#16))) shapeCasts_S64x128_S1x64x128)
      (p3y c 0 (shapeCast S1x64x128 (pair (roundOdd (pairE c inv (s .s)).1) (roundOdd (pairE c inv (s .s)).2)) shapeCasts_S64x128_S1x64x128)
      (p3pb c (shapeCast S64x128 (pair (pairE c inv (s .s)).1 (pairE c inv (s .s)).2) shapeCasts_S64x128_S64x128) s))) := by
  unfold pass3
  rw [bind_next, load_next, load_val]
  extract_lets even
  rw [bind_next, load_next, load_val]
  extract_lets odd
  rw [bind_next, load_next, bind_next, store_next]
  rw [bind_next, load_next, bind_next, store_next]
  rw [bind_next, load_next, bind_next, store_next]
  rw [bind_next, load_next, store_next]
  rfl

theorem pass3_pb (inv : FVec Ideal S32x128 .f32) (s : St Ideal) : (pass3 b inv c).next s .pb
    = put (F := Ideal) (e := .bf16) (dR c) (shapeCast S64x128 (pair (pairE c inv (s .s)).1 (pairE c inv (s .s)).2) shapeCasts_S64x128_S64x128) (s .pb) := by
  rw [pass3_next, p3l, Function.update_of_ne (by decide), p3y, Function.update_of_ne (by decide), p3y, Function.update_of_ne (by decide), p3pb, Function.update_self]

theorem pass3_y (inv : FVec Ideal S32x128 .f32) (s : St Ideal) : (pass3 b inv c).next s .y
    = put (F := Ideal) (e := .bf16) (dR3 c 1) (shapeCast S1x64x128 (mulf (pair (roundOdd (pairE c inv (s .s)).1) (roundOdd (pairE c inv (s .s)).2)) (broadcast S64x128 (Scalar.ofBits .bf16 0x4000#16))) shapeCasts_S64x128_S1x64x128)
      (put (F := Ideal) (e := .bf16) (dR3 c 0) (shapeCast S1x64x128 (pair (roundOdd (pairE c inv (s .s)).1) (roundOdd (pairE c inv (s .s)).2)) shapeCasts_S64x128_S1x64x128) (s .y)) := by
  rw [pass3_next, p3l, Function.update_of_ne (by decide), p3y, Function.update_self, p3y, Function.update_self, p3pb, Function.update_of_ne (by decide)]

theorem pass3_l (inv : FVec Ideal S32x128 .f32) (s : St Ideal) : (pass3 b inv c).next s .l
    = put (F := Ideal) (e := .bf16) (dR c) (shapeCast S64x128 (minimumf (roundeven (mulf (pair (roundOdd (pairE c inv (s .s)).1) (roundOdd (pairE c inv (s .s)).2)) (broadcast S64x128 (Scalar.ofBits .bf16 0x3F00#16)))) (broadcast S64x128 (Scalar.ofBits .bf16 0x40E0#16))) shapeCasts_S64x128_S64x128) (s .l) := by
  rw [pass3_next, p3l, Function.update_self, p3y, Function.update_of_ne (by decide), p3y, Function.update_of_ne (by decide), p3pb, Function.update_of_ne (by decide)]

end

theorem cast64 (x : FVec Ideal S64x128 .bf16) (h) (j) : shapeCast S64x128 x h j = x j := by pointwise

theorem cast64_3 (x : FVec Ideal S64x128 .bf16) (h) (z : Fin 1) (a : Fin 64) (j : Fin 128) : shapeCast S1x64x128 x h (ix3 z a j) = x (ix2 a j) := by pointwise

theorem pass3_step (inv : FVec Ideal S32x128 .f32) (hi : ∀ r j, inv (ix2 r j) = Ideal.div 16 (H.tot (qOf b j)))
    (hs : ∀ k q, q.val / 128 = b.val → chunk k < 4 * (b.val + 1) → st .s (ix2 (pos k) q) = H.E k q)
    (c : Fin (2 * (b.val + 1))) (s : St Ideal) (hp : Pass3 H b st c.val s) : Pass3 H b st (c.val + 1) ((pass3 b inv c).next s) := by
  have hc := c.isLt
  have hb := b.isLt
  have hs' : ∀ k q, q.val / 128 = b.val → chunk k < 4 * (b.val + 1) → s .s (ix2 (pos k) q) = H.E k q := by rw [hp.keep]; exact hs
  have hz := pass3_pair c inv hi (s .s) hs'
  generalize he : pairE c inv (s .s) = pe at hz
  constructor
  · rw [pass3_s, hp.keep]
  · intro k q
    rw [pass3_pb, put_R2, he]
    split
    · next h =>
      rw [if_pos (by omega), cast64]
      exact hz k q _ _ (by dsimp only; omega) (by dsimp only; omega)
    · next h =>
      rw [hp.pb k q]
      congr 1
      exact propext ⟨fun g => by omega, fun g => by omega⟩
  · intro k q
    rw [pass3_y, put_R3, dif_neg (by show ¬ ((1 ≤ 0 ∧ _) ∧ _); omega), put_R3, he]
    split
    · next h =>
      rw [if_pos (by omega), cast64_3, roundOdd_eq, roundOdd_eq]
      exact hz k q _ _ (by dsimp only; omega) (by dsimp only; omega)
    · next h =>
      rw [hp.y0 k q]
      congr 1
      refine propext ⟨fun g => by omega, fun g => ?_⟩
      have h' : ¬ ((128 * (c.val / 2) + 64 * (c.val % 2) ≤ k.val ∧ k.val < 128 * (c.val / 2) + 64 * (c.val % 2) + 64) ∧ 128 * b.val ≤ q.val ∧ q.val < 128 * b.val + 128) :=
        fun e => h ⟨by decide, e⟩
      omega
  · intro k q
    rw [pass3_y, put_R3, he]
    split
    · next h =>
      rw [if_pos (by omega), cast64_3, roundOdd_eq, roundOdd_eq]
      show _ * Ideal.ofBits .bf16 0x4000#16 = _
      rw [b2]
      congr 1
      exact hz k q _ _ (by dsimp only; omega) (by dsimp only; omega)
    · next h =>
      rw [put_R3, dif_neg (by show ¬ ((_ ∧ 1 < 0 + 1) ∧ _); omega), hp.y1 k q]
      congr 1
      refine propext ⟨fun g => by omega, fun g => ?_⟩
      have h' : ¬ ((128 * (c.val / 2) + 64 * (c.val % 2) ≤ k.val ∧ k.val < 128 * (c.val / 2) + 64 * (c.val % 2) + 64) ∧ 128 * b.val ≤ q.val ∧ q.val < 128 * b.val + 128) :=
        fun e => h ⟨by decide, e⟩
      omega
  · intro k q
    rw [pass3_l, put_R2, he]
    split
    · next h =>
      rw [if_pos (by omega), cast64, roundOdd_eq, roundOdd_eq]
      show min (Ideal.liftRound Ideal.roundHalfEven (_ * Ideal.ofBits .bf16 0x3F00#16)) (Ideal.ofBits .bf16 0x40E0#16) = _
      rw [b7, bhalf]
      unfold capped
      congr 3
      exact hz k q _ _ (by dsimp only; omega) (by dsimp only; omega)
    · next h =>
      rw [hp.l k q]
      congr 1
      exact propext ⟨fun g => by omega, fun g => by omega⟩

theorem pass3_loop (inv : FVec Ideal S32x128 .f32) (hi : ∀ r j, inv (ix2 r j) = Ideal.div 16 (H.tot (qOf b j)))
    (hs : ∀ k q, q.val / 128 = b.val → chunk k < 4 * (b.val + 1) → st .s (ix2 (pos k) q) = H.E k q) :
    Pass3 H b st (2 * (b.val + 1)) ((Act.loop (2 * (b.val + 1)) (fun c _ => pass3 b inv c) ⟨⟩).next st) :=
  Act.loop_spec _ (fun c (_ : PUnit) => pass3 b inv c) (fun c _ s => Pass3 H b st c s) (fun c _ s h => pass3_step inv hi hs c s h) ⟨⟩ st
    ⟨rfl, fun k q => by rw [if_neg (by omega)], fun k q => by rw [if_neg (by omega)], fun k q => by rw [if_neg (by omega)], fun k q => by rw [if_neg (by omega)]⟩

end Cert.KernelIdeal.Hand
-- ==== Proof.Level.lean ====
/-
  What the levels of one half of the queries compute over the extended reals.
-/
module

public import proofs.«01_k».proof.Proof.Pass2

@[expose] public section

set_option maxRecDepth 16384

noncomputable section

namespace Cert.KernelIdeal.Hand

open Cert.KernelIdeal
open Idealize.ShloMosaic Idealize.ShloMosaic.TcCoe
open Facts₀ Facts

/-! ## Products with the values -/

/-- A query of a half. -/
def qH (j : Fin 2) (c : Fin 256) : Fin 512 := ⟨256 * j.val + c.val, by omega⟩

/-- A coefficient where keys and queries can meet. -/
def meet (C : Fin 512 → Fin 512 → EReal) (k q : Fin 512) : EReal := if k.val / 128 ≤ q.val / 128 then C k q else 0

theorem meet_zero (C : Fin 512 → Fin 512 → EReal) (k q : Fin 512) (h : ¬ k.val / 128 ≤ q.val / 128) : meet C k q = 0 := if_neg h

theorem sum4 (f : Fin 512 → EReal) : ∑ k, f k = (((∑ x : Fin 128, f ⟨x.val, by omega⟩) + ∑ x : Fin 128, f ⟨128 + x.val, by omega⟩)
    + ∑ x : Fin 128, f ⟨256 + x.val, by omega⟩) + ∑ x : Fin 128, f ⟨384 + x.val, by omega⟩ := by
  refine (Fin.sum_univ_add (a := 384) (b := 128) f).trans ?_
  refine congrArg₂ _ ?_ rfl
  refine (Fin.sum_univ_add (a := 256) (b := 128) _).trans ?_
  refine congrArg₂ _ ?_ rfl
  exact Fin.sum_univ_add (a := 128) (b := 128) _

theorem zero_block : Ideal.ofBits .bf16 0x0000#16 = 0 := Ideal.ofBits_zero_bf16

section

variable (C : Fin 512 → Fin 512 → EReal) (vt : Fin 64 → Fin 512 → EReal)

theorem prod0 (w : FVec Ideal S64x256 .bf16) (b00 b01 b11 : FVec Ideal S128x128 .bf16) (d : Fin 64) (c : Fin 256)
    (hw : ∀ d k, w (ix2 d k) = vt d ⟨k.val, by omega⟩)
    (h00 : ∀ a c, b00 (ix2 a c) = C ⟨a.val, by omega⟩ ⟨c.val, by omega⟩) (h01 : ∀ a c, b01 (ix2 a c) = C ⟨a.val, by omega⟩ ⟨128 + c.val, by omega⟩)
    (h11 : ∀ a c, b11 (ix2 a c) = C ⟨128 + a.val, by omega⟩ ⟨128 + c.val, by omega⟩) :
    matmul dot_S64x256_S256x256_S64x256_1_0_0_1_n_n none w
      (concatenate S256x256 0 [⟨S128x256, concatenate S128x256 1 [⟨S128x128, b00⟩, ⟨S128x128, b01⟩] concatenates_S128x128_S128x128_S128x256_d1⟩,
        ⟨S128x256, concatenate S128x256 1 [⟨S128x128, (broadcast S128x128 (Scalar.ofBits .bf16 0x0000#16) : FVec Ideal S128x128 .bf16)⟩, ⟨S128x128, b11⟩] concatenates_S128x128_S128x128_S128x256_d1⟩] concatenates_S128x256_S128x256_S256x256_d0)
      (constant S64x256 .f32 0x00000000#32) (ix2 d c) = ∑ k, vt d k * meet C k (qH 0 c) := by
  pointwise
  rw [sum4]
  have hc := c.isLt
  have n2 : (∑ x : Fin 128, vt d ⟨256 + x.val, by omega⟩ * meet C ⟨256 + x.val, by omega⟩ (qH 0 c)) = 0 := Finset.sum_eq_zero fun x _ => by
    unfold meet qH
    rw [if_neg (by show ¬ ((256 + x.val) / 128 ≤ (256 * 0 + c.val) / 128); omega), mul_zero]
  have n3 : (∑ x : Fin 128, vt d ⟨384 + x.val, by omega⟩ * meet C ⟨384 + x.val, by omega⟩ (qH 0 c)) = 0 := Finset.sum_eq_zero fun x _ => by
    unfold meet qH
    rw [if_neg (by show ¬ ((384 + x.val) / 128 ≤ (256 * 0 + c.val) / 128); omega), mul_zero]
  rw [n2, n3, add_zero, add_zero]
  have m00 : ∀ (x y : Fin 128) (k q : Fin 512), k.val = x.val → q.val = y.val → b00 (ix2 x y) = meet C k q := by
    intro x y k q hk hq
    unfold meet
    rw [h00, if_pos (by omega)]
    congr 1 <;> exact Fin.ext (by dsimp only; omega)
  have m01 : ∀ (x y : Fin 128) (k q : Fin 512), k.val = x.val → q.val = 128 + y.val → b01 (ix2 x y) = meet C k q := by
    intro x y k q hk hq
    unfold meet
    rw [h01, if_pos (by omega)]
    congr 1 <;> exact Fin.ext (by dsimp only; omega)
  have m11 : ∀ (x y : Fin 128) (k q : Fin 512), k.val = 128 + x.val → q.val = 128 + y.val → b11 (ix2 x y) = meet C k q := by
    intro x y k q hk hq
    unfold meet
    rw [h11, if_pos (by omega)]
    congr 1 <;> exact Fin.ext (by dsimp only; omega)
  congr 1 <;> refine Finset.sum_congr rfl fun x _ => ?_
  · rw [hw]
    refine congrArg _ ?_
    split_ifs <;> first
      | exact m00 _ _ _ _ (by simp [qH] <;> omega) (by simp [qH] <;> omega)
      | exact m01 _ _ _ _ (by simp [qH] <;> omega) (by simp [qH] <;> omega)
  · rw [hw]
    refine congrArg _ ?_
    split_ifs <;> first
      | exact m11 _ _ _ _ (by simp [qH] <;> omega) (by simp [qH] <;> omega)
      | exact (meet_zero _ _ _ (by simp [qH] <;> omega)).symm

theorem prod1 (w : FVec Ideal S64x512 .bf16) (b : Fin 4 → Fin 2 → FVec Ideal S128x128 .bf16) (d : Fin 64) (c : Fin 256)
    (hw : ∀ d k, w (ix2 d k) = vt d k)
    (hb : ∀ kb cb, kb.val ≤ 2 + cb.val → ∀ a c, b kb cb (ix2 a c) = C ⟨128 * kb.val + a.val, by omega⟩ ⟨256 + 128 * cb.val + c.val, by omega⟩) :
    matmul dot_S64x512_S512x256_S64x256_1_0_0_1_n_n none w
    (concatenate S512x256 0 [⟨S128x256, concatenate S128x256 1 [⟨S128x128, b 0 0⟩, ⟨S128x128, b 0 1⟩] concatenates_S128x128_S128x128_S128x256_d1⟩,
      ⟨S128x256, concatenate S128x256 1 [⟨S128x128, b 1 0⟩, ⟨S128x128, b 1 1⟩] concatenates_S128x128_S128x128_S128x256_d1⟩,
      ⟨S128x256, concatenate S128x256 1 [⟨S128x128, b 2 0⟩, ⟨S128x128, b 2 1⟩] concatenates_S128x128_S128x128_S128x256_d1⟩,
      ⟨S128x256, concatenate S128x256 1 [⟨S128x128, (broadcast S128x128 (Scalar.ofBits .bf16 0x0000#16) : FVec Ideal S128x128 .bf16)⟩, ⟨S128x128, b 3 1⟩] concatenates_S128x128_S128x128_S128x256_d1⟩] concatenates_S128x256_S128x256_S128x256_S128x256_S512x256_d0)
    (constant S64x256 .f32 0x00000000#32) (ix2 d c) = ∑ k, vt d k * meet C k (qH 1 c) := by
  pointwise
  have hc := c.isLt
  have hb' : ∀ (kb : Fin 4) (cb : Fin 2) (_ : kb.val ≤ 2 + cb.val) (x : Fin 128) (y : Fin 128) (k q : Fin 512), k.val = 128 * kb.val + x.val → q.val = 256 + 128 * cb.val + y.val →
      b kb cb (ix2 x y) = meet C k q := by
    intro kb cb h x y k q hk hq
    unfold meet
    rw [hb kb cb h, if_pos (by omega)]
    congr 1 <;> exact Fin.ext (by dsimp only; omega)
  refine Finset.sum_congr rfl fun x _ => ?_
  have hx := x.isLt
  rw [hw]
  refine congrArg _ ?_
  split_ifs <;> first
      | (exfalso; dsimp only at *; omega)
      | exact hb' _ _ (by decide) _ _ _ _ (by simp [qH] <;> omega) (by simp [qH] <;> omega)
      | exact (meet_zero _ _ _ (by simp [qH] <;> omega)).symm

end

/-- A half's product, block by block: what each block needs, what it leaves, and that blocks do not disturb one another. -/
theorem times_spec (j : Fin 2) (blk : (kb cb : Nat) → kb < 2 * (j.val + 1) → cb < 2 → Act Ideal (FVec Ideal S128x128 .bf16))
    (C : Fin 512 → Fin 512 → EReal) (vt : Fin 64 → Fin 512 → EReal) (P D : Nat → Nat → St Ideal → Prop)
    (hv : ∀ kb cb (hk : kb < 2 * (j.val + 1)) (hc : cb < 2) s, P kb cb s → ∀ a c,
      (blk kb cb hk hc).val s (ix2 a c) = C ⟨128 * kb + a.val, by omega⟩ ⟨256 * j.val + 128 * cb + c.val, by omega⟩)
    (hd : ∀ kb cb hk hc s, P kb cb s → D kb cb ((blk kb cb hk hc).next s))
    (hP : ∀ kb cb hk hc s kb' cb', (kb', cb') ≠ (kb, cb) → P kb' cb' s → P kb' cb' ((blk kb cb hk hc).next s))
    (hD : ∀ kb cb hk hc s kb' cb', (kb', cb') ≠ (kb, cb) → D kb' cb' s → D kb' cb' ((blk kb cb hk hc).next s))
    (st : St Ideal) (hvt : ∀ d k, st .vt (ix2 d k) = vt d k) (h0 : ∀ kb cb, kb ≤ 2 * j.val + cb → cb < 2 → P kb cb st) :
    (∀ d c, (times j blk).val st (ix2 d c) = ∑ k, vt d k * meet C k (qH j c))
      ∧ ∀ kb cb, kb ≤ 2 * j.val + cb → cb < 2 → D kb cb ((times j blk).next st) := by
  match j with
  | 0 =>
    have z : (2 : Nat) * (0 : Fin 2).val = 0 := rfl
    obtain ⟨s1, e1⟩ : ∃ s1, (blk 0 0 (by decide) (by decide)).next st = s1 := ⟨_, rfl⟩
    obtain ⟨s2, e2⟩ : ∃ s2, (blk 0 1 (by decide) (by decide)).next s1 = s2 := ⟨_, rfl⟩
    have p00 := h0 0 0 (by decide) (by decide)
    have p01 : P 0 1 s1 := by rw [← e1]; exact hP _ _ _ _ _ _ _ (by decide) (h0 0 1 (by decide) (by decide))
    have p11 : P 1 1 s2 := by
      rw [← e2]; refine hP _ _ _ _ _ _ _ (by decide) ?_
      rw [← e1]; exact hP _ _ _ _ _ _ _ (by decide) (h0 1 1 (by decide) (by decide))
    have d00 : D 0 0 s1 := by rw [← e1]; exact hd _ _ _ _ _ p00
    have d01 : D 0 1 s2 := by rw [← e2]; exact hd _ _ _ _ _ p01
    have d00' : D 0 0 s2 := by rw [← e2]; exact hD _ _ _ _ _ _ _ (by decide) d00
    have en : (times 0 blk).next st = (blk 1 1 (by decide) (by decide)).next s2 := by subst e1 e2; rfl
    refine ⟨fun d c => ?_, fun kb cb hk hc => ?_⟩
    · have ev : (times 0 blk).val st = matmul (φ₁ := .bf16) dot_S64x256_S256x256_S64x256_1_0_0_1_n_n none ((fun x => st .vt ((R2 (n0 := 64) (n1 := 512) 0 0 64 256 (by decide) (by decide)).toLoadRect.idx x)) : FVec Ideal S64x256 .bf16)
          (concatenate S256x256 0 [⟨S128x256, concatenate S128x256 1 [⟨S128x128, (blk 0 0 (by decide) (by decide)).val st⟩, ⟨S128x128, (blk 0 1 (by decide) (by decide)).val s1⟩] concatenates_S128x128_S128x128_S128x256_d1⟩,
            ⟨S128x256, concatenate S128x256 1 [⟨S128x128, (broadcast S128x128 (Scalar.ofBits .bf16 0x0000#16) : FVec Ideal S128x128 .bf16)⟩, ⟨S128x128, (blk 1 1 (by decide) (by decide)).val s2⟩] concatenates_S128x128_S128x128_S128x256_d1⟩] concatenates_S128x256_S128x256_S256x256_d0)
          (constant S64x256 .f32 0x00000000#32) := by subst e1 e2; rfl
      rw [ev]
      refine prod0 C vt _ _ _ _ d c (fun d k => ?_) (fun a c => ?_) (fun a c => ?_) (fun a c => ?_)
      · rw [R2_idx, ← hvt]; congr 2 <;> exact Fin.ext (by dsimp only; omega)
      · rw [hv _ _ _ _ _ p00]; congr 1 <;> exact Fin.ext (by simp)
      · rw [hv _ _ _ _ _ p01]; congr 1 <;> exact Fin.ext (by simp)
      · rw [hv _ _ _ _ _ p11]; congr 1 <;> exact Fin.ext (by simp)
    · rw [en]
      rw [z] at hk
      have hcases : (kb = 0 ∧ cb = 0) ∨ (kb = 0 ∧ cb = 1) ∨ (kb = 1 ∧ cb = 1) := by omega
      rcases hcases with ⟨rfl, rfl⟩ | ⟨rfl, rfl⟩ | ⟨rfl, rfl⟩
      · exact hD _ _ _ _ _ _ _ (by decide) d00'
      · exact hD _ _ _ _ _ _ _ (by decide) d01
      · exact hd _ _ _ _ _ p11
  | 1 =>
    have z : (2 : Nat) * (1 : Fin 2).val = 2 := rfl
    obtain ⟨s1, e1⟩ : ∃ s1, (blk 0 0 (by decide) (by decide)).next st = s1 := ⟨_, rfl⟩
    obtain ⟨s2, e2⟩ : ∃ s2, (blk 0 1 (by decide) (by decide)).next s1 = s2 := ⟨_, rfl⟩
    obtain ⟨s3, e3⟩ : ∃ s3, (blk 1 0 (by decide) (by decide)).next s2 = s3 := ⟨_, rfl⟩
    obtain ⟨s4, e4⟩ : ∃ s4, (blk 1 1 (by decide) (by decide)).next s3 = s4 := ⟨_, rfl⟩
    obtain ⟨s5, e5⟩ : ∃ s5, (blk 2 0 (by decide) (by decide)).next s4 = s5 := ⟨_, rfl⟩
    obtain ⟨s6, e6⟩ : ∃ s6, (blk 2 1 (by decide) (by decide)).next s5 = s6 := ⟨_, rfl⟩
    have P1 : ∀ kb cb, (kb, cb) ≠ (0, 0) → P kb cb st → P kb cb s1 := fun kb cb h g => by rw [← e1]; exact hP _ _ _ _ _ _ _ h g
    have P2 : ∀ kb cb, (kb, cb) ≠ (0, 1) → P kb cb s1 → P kb cb s2 := fun kb cb h g => by rw [← e2]; exact hP _ _ _ _ _ _ _ h g
    have P3 : ∀ kb cb, (kb, cb) ≠ (1, 0) → P kb cb s2 → P kb cb s3 := fun kb cb h g => by rw [← e3]; exact hP _ _ _ _ _ _ _ h g
    have P4 : ∀ kb cb, (kb, cb) ≠ (1, 1) → P kb cb s3 → P kb cb s4 := fun kb cb h g => by rw [← e4]; exact hP _ _ _ _ _ _ _ h g
    have P5 : ∀ kb cb, (kb, cb) ≠ (2, 0) → P kb cb s4 → P kb cb s5 := fun kb cb h g => by rw [← e5]; exact hP _ _ _ _ _ _ _ h g
    have P6 : ∀ kb cb, (kb, cb) ≠ (2, 1) → P kb cb s5 → P kb cb s6 := fun kb cb h g => by rw [← e6]; exact hP _ _ _ _ _ _ _ h g
    have D2 : ∀ kb cb, (kb, cb) ≠ (0, 1) → D kb cb s1 → D kb cb s2 := fun kb cb h g => by rw [← e2]; exact hD _ _ _ _ _ _ _ h g
    have D3 : ∀ kb cb, (kb, cb) ≠ (1, 0) → D kb cb s2 → D kb cb s3 := fun kb cb h g => by rw [← e3]; exact hD _ _ _ _ _ _ _ h g
    have D4 : ∀ kb cb, (kb, cb) ≠ (1, 1) → D kb cb s3 → D kb cb s4 := fun kb cb h g => by rw [← e4]; exact hD _ _ _ _ _ _ _ h g
    have D5 : ∀ kb cb, (kb, cb) ≠ (2, 0) → D kb cb s4 → D kb cb s5 := fun kb cb h g => by rw [← e5]; exact hD _ _ _ _ _ _ _ h g
    have D6 : ∀ kb cb, (kb, cb) ≠ (2, 1) → D kb cb s5 → D kb cb s6 := fun kb cb h g => by rw [← e6]; exact hD _ _ _ _ _ _ _ h g
    have D7 : ∀ kb cb, (kb, cb) ≠ (3, 1) → D kb cb s6 → D kb cb ((blk 3 1 (by decide) (by decide)).next s6) := fun kb cb h g => hD _ _ _ _ _ _ _ h g
    have q00 := h0 0 0 (by decide) (by decide)
    have q01 := P1 0 1 (by decide) (h0 0 1 (by decide) (by decide))
    have q10 := P2 1 0 (by decide) (P1 1 0 (by decide) (h0 1 0 (by decide) (by decide)))
    have q11 := P3 1 1 (by decide) (P2 1 1 (by decide) (P1 1 1 (by decide) (h0 1 1 (by decide) (by decide))))
    have q20 := P4 2 0 (by decide) (P3 2 0 (by decide) (P2 2 0 (by decide) (P1 2 0 (by decide) (h0 2 0 (by decide) (by decide)))))
    have q21 := P5 2 1 (by decide) (P4 2 1 (by decide) (P3 2 1 (by decide) (P2 2 1 (by decide) (P1 2 1 (by decide) (h0 2 1 (by decide) (by decide))))))
    have q31 := P6 3 1 (by decide) (P5 3 1 (by decide) (P4 3 1 (by decide) (P3 3 1 (by decide) (P2 3 1 (by decide) (P1 3 1 (by decide) (h0 3 1 (by decide) (by decide)))))))
    have d00 : D 0 0 s1 := by rw [← e1]; exact hd _ _ _ _ _ q00
    have d01 : D 0 1 s2 := by rw [← e2]; exact hd _ _ _ _ _ q01
    have d10 : D 1 0 s3 := by rw [← e3]; exact hd _ _ _ _ _ q10
    have d11 : D 1 1 s4 := by rw [← e4]; exact hd _ _ _ _ _ q11
    have d20 : D 2 0 s5 := by rw [← e5]; exact hd _ _ _ _ _ q20
    have d21 : D 2 1 s6 := by rw [← e6]; exact hd _ _ _ _ _ q21
    have en : (times 1 blk).next st = (blk 3 1 (by decide) (by decide)).next s6 := by subst e1 e2 e3 e4 e5 e6; rfl
    refine ⟨fun d c => ?_, fun kb cb hk hc => ?_⟩
    · obtain ⟨b, eb⟩ : ∃ b : Fin 4 → Fin 2 → FVec Ideal S128x128 .bf16, b = fun kb cb => match kb, cb with
          | 0, 0 => (blk 0 0 (by decide) (by decide)).val st
          | 0, 1 => (blk 0 1 (by decide) (by decide)).val s1
          | 1, 0 => (blk 1 0 (by decide) (by decide)).val s2
          | 1, 1 => (blk 1 1 (by decide) (by decide)).val s3
          | 2, 0 => (blk 2 0 (by decide) (by decide)).val s4
          | 2, 1 => (blk 2 1 (by decide) (by decide)).val s5
          | 3, 0 => (blk 3 1 (by decide) (by decide)).val s6
          | 3, 1 => (blk 3 1 (by decide) (by decide)).val s6 := ⟨_, rfl⟩
      have ev : (times 1 blk).val st = matmul (φ₁ := .bf16) dot_S64x512_S512x256_S64x256_1_0_0_1_n_n none ((fun x => st .vt ((R2 (n0 := 64) (n1 := 512) 0 0 64 512 (by decide) (by decide)).toLoadRect.idx x)) : FVec Ideal S64x512 .bf16)
          (concatenate S512x256 0 [⟨S128x256, concatenate S128x256 1 [⟨S128x128, b 0 0⟩, ⟨S128x128, b 0 1⟩] concatenates_S128x128_S128x128_S128x256_d1⟩,
            ⟨S128x256, concatenate S128x256 1 [⟨S128x128, b 1 0⟩, ⟨S128x128, b 1 1⟩] concatenates_S128x128_S128x128_S128x256_d1⟩,
            ⟨S128x256, concatenate S128x256 1 [⟨S128x128, b 2 0⟩, ⟨S128x128, b 2 1⟩] concatenates_S128x128_S128x128_S128x256_d1⟩,
            ⟨S128x256, concatenate S128x256 1 [⟨S128x128, (broadcast S128x128 (Scalar.ofBits .bf16 0x0000#16) : FVec Ideal S128x128 .bf16)⟩, ⟨S128x128, b 3 1⟩] concatenates_S128x128_S128x128_S128x256_d1⟩] concatenates_S128x256_S128x256_S128x256_S128x256_S512x256_d0)
          (constant S64x256 .f32 0x00000000#32) := by subst eb e1 e2 e3 e4 e5 e6; rfl
      rw [ev]
      refine prod1 C vt _ b d c (fun d k => ?_) (fun kb cb h a c => ?_)
      · rw [R2_idx, ← hvt]; congr 2 <;> exact Fin.ext (by dsimp only; omega)
      · have key : ∀ (kb : Fin 4) (cb : Fin 2) (n m : Nat) (hn hm s), P n m s → n = kb.val → m = cb.val → (blk n m hn hm).val s (ix2 a c) = C ⟨128 * kb.val + a.val, by omega⟩ ⟨256 + 128 * cb.val + c.val, by omega⟩ := by
          intro kb cb n m hn hm s hp e e'
          rw [hv _ _ _ _ _ hp]
          congr 1
          · exact Fin.ext (by dsimp only; rw [e])
          · exact Fin.ext (by show 256 * 1 + 128 * m + c.val = _; rw [e'])
        rw [eb]
        match kb, cb, h with
        | 0, 0, _ => exact key _ _ 0 0 _ _ _ q00 rfl rfl
        | 0, 1, _ => exact key _ _ 0 1 _ _ _ q01 rfl rfl
        | 1, 0, _ => exact key _ _ 1 0 _ _ _ q10 rfl rfl
        | 1, 1, _ => exact key _ _ 1 1 _ _ _ q11 rfl rfl
        | 2, 0, _ => exact key _ _ 2 0 _ _ _ q20 rfl rfl
        | 2, 1, _ => exact key _ _ 2 1 _ _ _ q21 rfl rfl
        | 3, 0, h => exact absurd h (by decide)
        | 3, 1, _ => exact key _ _ 3 1 _ _ _ q31 rfl rfl
    · rw [en]
      rw [z] at hk
      have hcases : (kb = 0 ∧ cb = 0) ∨ (kb = 0 ∧ cb = 1) ∨ (kb = 1 ∧ cb = 0) ∨ (kb = 1 ∧ cb = 1) ∨ (kb = 2 ∧ cb = 0) ∨ (kb = 2 ∧ cb = 1) ∨ (kb = 3 ∧ cb = 1) := by omega
      rcases hcases with ⟨rfl, rfl⟩ | ⟨rfl, rfl⟩ | ⟨rfl, rfl⟩ | ⟨rfl, rfl⟩ | ⟨rfl, rfl⟩ | ⟨rfl, rfl⟩ | ⟨rfl, rfl⟩
      · exact D7 _ _ (by decide) (D6 _ _ (by decide) (D5 _ _ (by decide) (D4 _ _ (by decide) (D3 _ _ (by decide) (D2 _ _ (by decide) d00)))))
      · exact D7 _ _ (by decide) (D6 _ _ (by decide) (D5 _ _ (by decide) (D4 _ _ (by decide) (D3 _ _ (by decide) d01))))
      · exact D7 _ _ (by decide) (D6 _ _ (by decide) (D5 _ _ (by decide) (D4 _ _ (by decide) d10)))
      · exact D7 _ _ (by decide) (D6 _ _ (by decide) (D5 _ _ (by decide) d11))
      · exact D7 _ _ (by decide) (D6 _ _ (by decide) d20)
      · exact D7 _ _ (by decide) d21
      · exact hd _ _ _ _ _ q31

/-- What every block keeps, the product keeps. -/
theorem times_keeps (j : Fin 2) (blk : (kb cb : Nat) → kb < 2 * (j.val + 1) → cb < 2 → Act Ideal (FVec Ideal S128x128 .bf16)) (R : St Ideal → Prop)
    (h : ∀ kb cb hk hc s, R s → R ((blk kb cb hk hc).next s)) (st : St Ideal) (h0 : R st) : R ((times j blk).next st) := by
  match j with
  | 0 => exact h _ _ _ _ _ (h _ _ _ _ _ (h _ _ _ _ _ h0))
  | 1 => exact h _ _ _ _ _ (h _ _ _ _ _ (h _ _ _ _ _ (h _ _ _ _ _ (h _ _ _ _ _ (h _ _ _ _ _ (h _ _ _ _ _ h0))))))

end Cert.KernelIdeal.Hand
-- ==== Proof.Lev.lean ====
/-
  What a block of one level computes over the extended reals, and what it leaves for the levels after it.
-/
module

public import proofs.«01_k».proof.Proof.Level

@[expose] public section

set_option maxRecDepth 16384

noncomputable section

namespace Cert.KernelIdeal.Hand

open Cert.KernelIdeal
open Idealize.ShloMosaic Idealize.ShloMosaic.TcCoe
open Facts₀ Facts

/-- Four times what is below two, nothing of the rest. -/
def quadE (y : EReal) : EReal := (if y < 2 then y else 0) * 4

/-- A level from what its buffer holds and the large level. -/
def levFrom (m : Nat) (y l : EReal) : EReal :=
  match m with
  | 0 => if y < 8 then capped y else l * 2
  | 1 => if y < 8 then capped y else l * 4
  | 2 => if y < 2 then capped (quadE y) else l * 8
  | _ => capped (quadE y)

theorem b0 : Ideal.ofBits .bf16 0x0000#16 = 0 := Ideal.ofBits_zero_bf16
theorem b4 : Ideal.ofBits .bf16 0x4080#16 = 4 := by
  simp [Ideal.ofBits, Ideal.ieee, -EReal.coe_mul]; norm_num; rfl
theorem b8 : Ideal.ofBits .bf16 0x4100#16 = 8 := by
  simp [Ideal.ofBits, Ideal.ieee, -EReal.coe_mul]; norm_num; rfl

theorem select_olt (x y a b : EReal) : Scalar.select (Ideal.cmp .olt x y) a b = if x < y then a else b := by
  by_cases h : x < y <;> simp [Ideal.cmp, h, Scalar.select]

theorem quad_apply (y : FVec Ideal S128x128 .bf16) (i) : quad y i = quadE (y i) := by
  show Scalar.select (Ideal.cmp .olt (y i) (Ideal.ofBits .bf16 0x4000#16)) (y i) (Ideal.ofBits .bf16 0x0000#16) * Ideal.ofBits .bf16 0x4080#16 = _
  rw [select_olt, b2, b0, b4]; rfl

theorem lvl_apply (y : FVec Ideal S128x128 .bf16) (i) : lvl y i = capped (y i) := by
  show min (Ideal.liftRound Ideal.roundHalfEven (y i)) (Ideal.ofBits .bf16 0x40E0#16) = _
  rw [b7]; rfl

section

variable (j : Fin 2) (kb cb : Nat) (hk : kb < 2 * (j.val + 1)) (hc : cb < 2) (sl : Fin 2) (s : St Ideal)

/-- What a block of a level's buffer holds. -/
def yOf : FVec Ideal S128x128 .bf16 :=
  shapeCast S128x128 ((fun x => s .y ((yR j kb cb hk hc sl).toLoadRect.idx x)) : FVec Ideal S1x128x128 .bf16) shapeCasts_S1x128x128_S128x128
/-- What a block of the large levels holds. -/
def lOf : FVec Ideal S128x128 .bf16 := fun x => s .l ((bR j kb cb hk hc).toLoadRect.idx x)

theorem yOf_apply (a c : Fin 128) : yOf j kb cb hk hc sl s (ix2 a c) = s .y (ix3 sl ⟨128 * kb + a.val, by omega⟩ ⟨256 * j.val + 128 * cb + c.val, by omega⟩) := by
  unfold yOf
  pointwise

theorem lOf_apply (a c : Fin 128) : lOf j kb cb hk hc s (ix2 a c) = s .l (ix2 ⟨128 * kb + a.val, by omega⟩ ⟨256 * j.val + 128 * cb + c.val, by omega⟩) := by
  unfold lOf
  erw [R2_idx]

theorem blk12_val (pw : BitVec 16) : (blk12 j kb cb hk hc sl pw).val s = select (cmpf .olt (yOf j kb cb hk hc sl s) (c16 0x4100#16)) (lvl (yOf j kb cb hk hc sl s)) (mulf (lOf j kb cb hk hc s) (c16 pw)) := rfl
theorem blk12_next (pw : BitVec 16) : (blk12 j kb cb hk hc sl pw).next s = s := rfl

/-- A block of a level's buffer replaced. -/
def putY (w : FVec Ideal S1x128x128 .bf16) : St Ideal := Function.update s .y (put (F := Ideal) (e := .bf16) (yR j kb cb hk hc sl) w (s .y))

theorem step_val : (step j kb cb hk hc sl).val s = (yOf j kb cb hk hc sl s, quad (yOf j kb cb hk hc sl s)) := rfl
theorem step_next : (step j kb cb hk hc sl).next s = putY j kb cb hk hc sl s (shapeCast S1x128x128 (quad (yOf j kb cb hk hc sl s)) shapeCasts_S128x128_S1x128x128) := rfl

theorem blk3_val : (blk3 j kb cb hk hc).val s = select (cmpf .olt (yOf j kb cb hk hc 0 s) (c16 0x4000#16)) (lvl (quad (yOf j kb cb hk hc 0 s))) (mulf (lOf j kb cb hk hc s) (c16 0x4100#16)) := by
  unfold blk3
  rw [bind_val, step_val, bind_val, load_val, step_next]
  rfl
theorem blk3_next : (blk3 j kb cb hk hc).next s = (step j kb cb hk hc 0).next s := rfl
theorem blkN_val : (blkN j kb cb hk hc sl).val s = lvl (quad (yOf j kb cb hk hc sl s)) := rfl
theorem blkN_next : (blkN j kb cb hk hc sl).next s = (step j kb cb hk hc sl).next s := rfl
theorem blkZ_val : (blkZ j kb cb hk hc sl).val s = lvl (quad (yOf j kb cb hk hc sl s)) := rfl
theorem blkZ_next : (blkZ j kb cb hk hc sl).next s = s := rfl

theorem step_y (z : Fin 2) (k q : Fin 512) : (step j kb cb hk hc sl).next s .y (ix3 z k q)
    = if z = sl ∧ k.val / 128 = kb ∧ q.val / 128 = 2 * j.val + cb then quadE (s .y (ix3 z k q)) else s .y (ix3 z k q) := by
  rw [step_next]
  unfold putY
  rw [Function.update_self, put_R3]
  by_cases h : z = sl ∧ k.val / 128 = kb ∧ q.val / 128 = 2 * j.val + cb
  · obtain ⟨rfl, h1, h2⟩ := h
    rw [if_pos ⟨rfl, h1, h2⟩, dif_pos (by omega)]
    have e : ∀ (x : FVec Ideal S128x128 .bf16) (h) (z : Fin 1) (a c : Fin 128), shapeCast S1x128x128 x h (ix3 z a c) = x (ix2 a c) := by
      intro x h z a c; pointwise
    rw [e, quad_apply, yOf_apply]
    congr 2
    congr 1 <;> exact Fin.ext (by dsimp only; omega)
  · rw [if_neg h, dif_neg]
    intro g
    exact h ⟨Fin.ext (by omega), by omega, by omega⟩

theorem blkM_val (m : Nat) (hm : m < 16) (a c : Fin 128) : (blkM j m kb cb hk hc).val s (ix2 a c)
    = levFrom m (s .y (ix3 (slot m) ⟨128 * kb + a.val, by omega⟩ ⟨256 * j.val + 128 * cb + c.val, by omega⟩)) (s .l (ix2 ⟨128 * kb + a.val, by omega⟩ ⟨256 * j.val + 128 * cb + c.val, by omega⟩)) := by
  rw [← lOf_apply j kb cb hk hc s, ← yOf_apply j kb cb hk hc (slot m) s]
  unfold blkM levFrom
  split
  · rw [blk12_val]
    show Scalar.select (Ideal.cmp .olt _ (Ideal.ofBits .bf16 0x4100#16)) (lvl _ _) (_ * Ideal.ofBits .bf16 0x4000#16) = _
    rw [select_olt, lvl_apply, b8, b2]; rfl
  · rw [blk12_val]
    show Scalar.select (Ideal.cmp .olt _ (Ideal.ofBits .bf16 0x4100#16)) (lvl _ _) (_ * Ideal.ofBits .bf16 0x4080#16) = _
    rw [select_olt, lvl_apply, b8, b4]; rfl
  · rw [blk3_val]
    show Scalar.select (Ideal.cmp .olt _ (Ideal.ofBits .bf16 0x4000#16)) (lvl _ _) (_ * Ideal.ofBits .bf16 0x4100#16) = _
    rw [select_olt, lvl_apply, quad_apply, b2, b8]; rfl
  · rw [blkZ_val, lvl_apply, quad_apply]; rfl
  · rw [blkZ_val, lvl_apply, quad_apply]; rfl
  · rw [blkN_val, lvl_apply, quad_apply]
    split <;> first | rfl | (exfalso; simp_all)

theorem blkM_y (m : Nat) (hm : m < 16) (z : Fin 2) (k q : Fin 512) : (blkM j m kb cb hk hc).next s .y (ix3 z k q)
    = if z = slot m ∧ (2 ≤ m ∧ m < 14) ∧ k.val / 128 = kb ∧ q.val / 128 = 2 * j.val + cb then quadE (s .y (ix3 z k q)) else s .y (ix3 z k q) := by
  unfold blkM
  split
  · rw [blk12_next, if_neg (by omega)]
  · rw [blk12_next, if_neg (by omega)]
  · rw [blk3_next, step_y]
    congr 1
    exact propext ⟨fun g => ⟨g.1, by omega, g.2⟩, fun g => ⟨g.1, g.2.2⟩⟩
  · rw [blkZ_next, if_neg (by omega)]
  · rw [blkZ_next, if_neg (by omega)]
  · next h0 h1 h2 h14 h15 =>
    rw [blkN_next, step_y]
    congr 1
    have : 2 ≤ m ∧ m < 14 := by
      refine ⟨?_, ?_⟩
      · rcases m with _ | _ | m
        · exact absurd rfl h0
        · exact absurd rfl h1
        · omega
      · have : m ≠ 14 := fun e => h14 e
        have : m ≠ 15 := fun e => h15 e
        omega
    exact propext ⟨fun g => ⟨g.1, this, g.2⟩, fun g => ⟨g.1, g.2.2⟩⟩

end

/-! ## The levels in order -/

/-- What a level's buffer holds when the level is made. -/
def Zl (Z : EReal) : Nat → EReal
  | 0 => Z
  | 1 => Z * 2
  | m + 2 => quadE (Zl Z m)

/-- Which of those a level is made from. -/
def lvlIdx (m : Nat) : Nat := if m ≤ 1 then m else m - 2

/-- What a block's buffers hold before a level. -/
def Ready (H : Head) (m : Nat) (qb kb : Nat) (s : St Ideal) : Prop :=
  ∀ k q : Fin 512, k.val / 128 = kb → q.val / 128 = qb →
    (∀ n, n = m ∨ n = m + 1 → n < 16 → s .y (ix3 (slot n) k q) = Zl (H.Z k q) (lvlIdx n))
      ∧ s .l (ix2 k q) = capped (H.Z k q * ((1 / 2 : ℝ) : EReal))

/-- A level's coefficient. -/
def Head.lev (H : Head) (m : Nat) (k q : Fin 512) : EReal := levFrom m (Zl (H.Z k q) (lvlIdx m)) (capped (H.Z k q * ((1 / 2 : ℝ) : EReal)))

theorem ready_next (H : Head) (j : Fin 2) (m : Nat) (hm : m < 16) (kb cb : Nat) (hk : kb < 2 * (j.val + 1)) (hc : cb < 2) (s : St Ideal)
    (h : Ready H m (2 * j.val + cb) kb s) : Ready H (m + 1) (2 * j.val + cb) kb ((blkM j m kb cb hk hc).next s) := by
  intro k q h1 h2
  obtain ⟨hy, hl⟩ := h k q h1 h2
  refine ⟨fun n hn hn' => ?_, ?_⟩
  · rw [blkM_y _ _ _ _ _ _ _ hm]
    rcases hn with rfl | rfl
    · rw [if_neg ?_]
      · exact hy _ (.inr rfl) hn'
      · rintro ⟨g, -⟩
        have := congrArg Fin.val g
        dsimp only at this
        omega
    · have e : slot (m + 1 + 1) = slot m := Fin.ext (by show (m + 1 + 1) % 2 = m % 2; omega)
      rw [e]
      by_cases h2m : 2 ≤ m
      · rw [if_pos ⟨rfl, ⟨h2m, by omega⟩, h1, h2⟩, hy m (.inl rfl) hm]
        unfold lvlIdx
        rw [if_neg (by omega), if_neg (by omega)]
        obtain ⟨n, rfl⟩ : ∃ n, m = n + 2 := ⟨m - 2, by omega⟩
        rfl
      · rw [if_neg (fun g => h2m g.2.1.1), hy m (.inl rfl) hm]
        unfold lvlIdx
        rw [if_pos (by omega), if_neg (by omega)]
        rfl
  · rw [Keeps.blkM (by decide)]; exact hl

theorem ready_other (H : Head) (j : Fin 2) (m : Nat) (hm : m < 16) (kb cb : Nat) (hk : kb < 2 * (j.val + 1)) (hc : cb < 2) (s : St Ideal) (n qb kb' : Nat)
    (ho : ¬ (qb = 2 * j.val + cb ∧ kb' = kb)) (h : Ready H n qb kb' s) : Ready H n qb kb' ((blkM j m kb cb hk hc).next s) := by
  intro k q h1 h2
  obtain ⟨hy, hl⟩ := h k q h1 h2
  refine ⟨fun n hn hn' => ?_, ?_⟩
  · rw [blkM_y _ _ _ _ _ _ _ hm, if_neg (fun g => ho ⟨by omega, by omega⟩)]
    exact hy n hn hn'
  · rw [Keeps.blkM (by decide)]; exact hl

/-- A level's product with the values. -/
theorem level_times (H : Head) (j : Fin 2) (m : Nat) (hm : m < 16) (vt : Fin 64 → Fin 512 → EReal) (s : St Ideal) (hvt : ∀ d k, s .vt (ix2 d k) = vt d k)
    (h : ∀ kb cb, kb ≤ 2 * j.val + cb → cb < 2 → Ready H m (2 * j.val + cb) kb s) :
    (∀ d c, (times j (blkM j m)).val s (ix2 d c) = ∑ k, vt d k * meet (H.lev m) k (qH j c))
      ∧ ∀ kb cb, kb ≤ 2 * j.val + cb → cb < 2 → Ready H (m + 1) (2 * j.val + cb) kb ((times j (blkM j m)).next s) := by
  refine times_spec j (blkM j m) (H.lev m) vt (fun kb cb s => Ready H m (2 * j.val + cb) kb s) (fun kb cb s => Ready H (m + 1) (2 * j.val + cb) kb s)
    (fun kb cb hk hc s hr a c => ?_) (fun kb cb hk hc s hr => ready_next H j m hm kb cb hk hc s hr)
    (fun kb cb hk hc s kb' cb' hne hr => ready_other H j m hm kb cb hk hc s _ _ _ (fun g => hne (by rw [g.2, show cb' = cb by omega])) hr)
    (fun kb cb hk hc s kb' cb' hne hr => ready_other H j m hm kb cb hk hc s _ _ _ (fun g => hne (by rw [g.2, show cb' = cb by omega])) hr) s hvt h
  rw [blkM_val _ _ _ _ _ _ _ hm]
  obtain ⟨hy, hl⟩ := hr ⟨128 * kb + a.val, by omega⟩ ⟨256 * j.val + 128 * cb + c.val, by omega⟩ (by dsimp only; omega) (by dsimp only; omega)
  rw [hy m (.inl rfl) hm, hl]; rfl

end Cert.KernelIdeal.Hand
-- ==== Proof.Row.lean ====
/-
  The sums a half of the queries writes, over the extended reals.
-/
module

public import proofs.«01_k».proof.Proof.Lev

@[expose] public section

set_option maxRecDepth 16384

noncomputable section

namespace Cert.KernelIdeal.Hand

open Cert.KernelIdeal
open Idealize.ShloMosaic Idealize.ShloMosaic.TcCoe
open Facts₀ Facts

/-! ## Sums over rows -/

theorem rows8_apply (x : FVec Ideal S64x256 .f32) (r : Fin 8) (c : Fin 256) : rows8 x (ix2 r c) = ∑ u : Fin 8, x (ix2 ⟨8 * u.val + r.val, by omega⟩ c) := by
  unfold rows8
  rw [Fin.sum_univ_eight]
  pointwise

theorem bit_even (k : Nat) (hk : k = 1 ∨ k = 2 ∨ k = 4) (i : Fin 8) :
    IntOp.cmpi .eq (IntOp.andi (BitVec.ofNat 32 i.val) (BitVec.ofNat 32 k)) 0#32 = if (i.val / k) % 2 = 0 then 1#1 else 0#1 := by
  rcases hk with rfl | rfl | rfl <;> revert i <;> decide

theorem select_ite {α : Type} (p : Prop) [Decidable p] (x y : α) : Scalar.select (if p then 1#1 else 0#1) x y = if p then x else y := by
  split <;> rfl

theorem fold_apply (k : Nat) (hk : k = 1 ∨ k = 2 ∨ k = 4) (x y : FVec Ideal S8x256 .f32) (i : Fin 8) (c : Fin 256) :
    fold (BitVec.ofNat 32 k) x y (ix2 i c) = (if (i.val / k) % 2 = 0 then x (ix2 i c) else y (ix2 i c))
      + (if (i.val / k) % 2 = 0 then x (ix2 ⟨(i.val + 8 - k) % 8, by omega⟩ c) else y (ix2 ⟨(i.val + 8 - k) % 8, by omega⟩ c)) := by
  unfold fold evenBit
  pointwise
  have hn : (BitVec.ofNat 32 k).toNat % 8 = k := by rcases hk with rfl | rfl | rfl <;> rfl
  simp only [hn]
  rw [bit_even k hk i, show BitVec.ofNat 32 ((i.val + 8 - k) % 8) = BitVec.ofNat 32 (⟨(i.val + 8 - k) % 8, by omega⟩ : Fin 8).val from rfl, bit_even k hk, select_ite, select_ite]
  congr 1
  have hx : ((i.val + 8 - k) % 8 / k % 2 = 0) ↔ ¬ (i.val / k % 2 = 0) := by
    rcases hk with rfl | rfl | rfl <;> omega
  by_cases h : i.val / k % 2 = 0
  · rw [if_pos h, if_neg (fun g => hx.1 g h)]
  · rw [if_neg h, if_pos (hx.2 h)]

theorem fold8_apply (x : Fin 8 → FVec Ideal S8x256 .f32) (i : Fin 8) (c : Fin 256) :
    fold8 (x 0) (x 1) (x 2) (x 3) (x 4) (x 5) (x 6) (x 7) (ix2 i c) = ∑ r : Fin 8, x i (ix2 r c) := by
  unfold fold8
  rw [Fin.sum_univ_eight]
  simp only [fold_apply 4 (by decide), fold_apply 2 (by decide), fold_apply 1 (by decide)]
  fin_cases i <;> simp [ix2] <;> abel

theorem fold8_eq (v0 v1 v2 v3 v4 v5 v6 v7 : FVec Ideal S8x256 .f32) (G : Fin 8 → Fin 8 → Fin 256 → EReal)
    (h0 : ∀ r c, v0 (ix2 r c) = G 0 r c) (h1 : ∀ r c, v1 (ix2 r c) = G 1 r c) (h2 : ∀ r c, v2 (ix2 r c) = G 2 r c) (h3 : ∀ r c, v3 (ix2 r c) = G 3 r c)
    (h4 : ∀ r c, v4 (ix2 r c) = G 4 r c) (h5 : ∀ r c, v5 (ix2 r c) = G 5 r c) (h6 : ∀ r c, v6 (ix2 r c) = G 6 r c) (h7 : ∀ r c, v7 (ix2 r c) = G 7 r c)
    (i : Fin 8) (c : Fin 256) : fold8 v0 v1 v2 v3 v4 v5 v6 v7 (ix2 i c) = ∑ r : Fin 8, G i r c := by
  refine (fold8_apply ![v0, v1, v2, v3, v4, v5, v6, v7] i c).trans (Finset.sum_congr rfl fun r _ => ?_)
  match i with
  | 0 => exact h0 r c
  | 1 => exact h1 r c
  | 2 => exact h2 r c
  | 3 => exact h3 r c
  | 4 => exact h4 r c
  | 5 => exact h5 r c
  | 6 => exact h6 r c
  | 7 => exact h7 r c

theorem sum64 (f : Fin 64 → EReal) : (∑ r : Fin 8, ∑ u : Fin 8, f ⟨8 * u.val + r.val, by omega⟩) = ∑ d, f d := by
  rw [Finset.sum_comm, ← Finset.sum_product']
  refine Fintype.sum_equiv (finProdFinEquiv (m := 8) (n := 8)) _ _ fun x => ?_
  congr 1
  exact Fin.ext (by simp [finProdFinEquiv]; omega)

theorem ofBits_pw (m : Nat) (hm : m < 16) : Ideal.ofBits .f32 (pw m) = (((1 / 2 : ℝ) ^ (4 + m) : ℝ) : EReal) := by
  unfold pw
  interval_cases m <;> (simp [Ideal.ofBits, Ideal.ieee, -EReal.coe_mul]; try norm_num)

theorem f16th : Ideal.ofBits .f32 0x3D800000#32 = ((1 / 16 : ℝ) : EReal) := by
  simp [Ideal.ofBits, Ideal.ieee, -EReal.coe_mul]; norm_num
theorem f8th : Ideal.ofBits .f32 0x3E000000#32 = ((1 / 8 : ℝ) : EReal) := by
  simp [Ideal.ofBits, Ideal.ieee, -EReal.coe_mul]; norm_num

end Cert.KernelIdeal.Hand
-- ==== Proof.Block.lean ====
/-
  The softmax of all four blocks of queries, over the extended reals.
-/
module

public import proofs.«01_k».proof.Proof.Pass2

@[expose] public section

set_option maxRecDepth 16384

noncomputable section

namespace Cert.KernelIdeal.Hand

open Cert.KernelIdeal
open Idealize.ShloMosaic Idealize.ShloMosaic.TcCoe
open Facts₀ Facts

variable {H : Head} {i : grid0.Coords} {st : St Ideal}

/-- What the buffers hold after some blocks of queries. -/
structure Blocks (H : Head) (i : grid0.Coords) (st : St Ideal) (b : Nat) (s : St Ideal) : Prop where
  kc : ∀ k j, s .kc (ix2 k j) = H.ks k
  sc : ∀ k q, 128 * b ≤ q.val → chunk k < 4 * (q.val / 128 + 1) → s .s (ix2 (pos k) q) = H.raw k q
  pb : ∀ k q, q.val < 128 * b → k.val / 128 ≤ q.val / 128 → s .pb (ix2 k q) = H.Z k q
  y0 : ∀ k q, q.val < 128 * b → k.val / 128 ≤ q.val / 128 → s .y (ix3 0 k q) = H.Z k q
  y1 : ∀ k q, q.val < 128 * b → k.val / 128 ≤ q.val / 128 → s .y (ix3 1 k q) = H.Z k q * 2
  l : ∀ k q, q.val < 128 * b → k.val / 128 ≤ q.val / 128 → s .l (ix2 k q) = capped (H.Z k q * ((1 / 2 : ℝ) : EReal))
  lse : ∀ h q, s .lse (ix3 0 h q) = if q.val < 128 * b ∧ h.val / 8 = (i 1).val / 8 then
      (if h.val = (i 1).val then H.lse q else if (i 1).val % 8 = 0 then 0 else st .lse (ix3 0 h q)) else st .lse (ix3 0 h q)

theorem qsb_eq (b : Fin 4) (qs : FVec Ideal S1x512 .f32) (r : Fin 32) (j : Fin 128) : qsb b qs (ix2 r j) = qs (ix2 0 (qOf b j)) := by
  unfold qsb
  pointwise
  congr 1

theorem spread_eq (x : FVec Ideal S1x128 .f32) (h h') (r : Fin 32) (j : Fin 128) :
    broadcastTo S32x128 (shapeCast S1x128 x h) h' (ix2 r j) = x (ix2 0 j) := by
  pointwise

section

variable (i) (qs : FVec Ideal S1x512 .f32) (b : Fin 4) (s : St Ideal)

/-- The first pass of a block. -/
abbrev act1 : Act Ideal (FVec Ideal S32x128 .f32) := Act.loop (4 * (b.val + 1)) (pass1 b (qsb b qs)) (broadcast S32x128 (Scalar.ofBits .f32 0xF149F2CA#32))
/-- The second pass of a block. -/
abbrev act2 (mx : FVec Ideal S1x128 .f32) : Act Ideal (FVec Ideal S32x128 .f32) :=
  Act.loop (4 * (b.val + 1)) (pass2 b (broadcastTo S32x128 (shapeCast S1x128 mx shapeCasts_S1x128_S1x128) broadcasts_S1x128_S32x128)) (broadcast S32x128 (Scalar.ofBits .f32 0x00000000#32))
/-- The third pass of a block. -/
abbrev act3 (sm : FVec Ideal S1x128 .f32) : Act Ideal PUnit := Act.loop (2 * (b.val + 1)) (fun c _ => pass3 b (invb sm) c) ⟨⟩

theorem block_next (mx : FVec Ideal S1x128 .f32) (hmx : colMax ((act1 qs b).val s) = mx) (s1 : St Ideal) (h1 : (act1 qs b).next s = s1)
    (sm : FVec Ideal S1x128 .f32) (hsm : colSum ((act2 b mx).val s1) = sm) (s2 : St Ideal) (h2 : (act2 b mx).next s1 = s2) :
    (block i qs b).next s = (act3 b sm).next ((putLse i b (lseOf b.val mx sm)).next s2) := by
  subst hmx h1 hsm h2
  unfold block
  rfl

end

theorem block_step (qs : FVec Ideal S1x512 .f32) (hq : ∀ q, qs (ix2 0 q) = H.qs q * c2) (b : Fin 4) (s : St Ideal) (hb : Blocks H i st b.val s) :
    Blocks H i st (b.val + 1) ((block i qs b).next s) := by
  have hbl := b.isLt
  have B : Before H b (qsb b qs) s := ⟨hb.kc, fun k q h1 h2 => hb.sc k q (by omega) (by omega), fun r j => by rw [qsb_eq, hq]⟩
  have P1 := pass1_loop B (broadcast S32x128 (Scalar.ofBits .f32 0xF149F2CA#32)) (fun r j => rfl)
  have K1 : ∀ r, r ≠ .s → (act1 qs b).next s r = s r := fun r hr => Keeps.loopFrom _ _ (fun c x => Keeps.pass1 hr b _ c x) _ _ _ s
  obtain ⟨mx, hmx⟩ : ∃ mx, colMax ((act1 qs b).val s) = mx := ⟨_, rfl⟩
  obtain ⟨s1, h1⟩ : ∃ s1, (act1 qs b).next s = s1 := ⟨_, rfl⟩
  have M : ∀ j, mx (ix2 0 j) = H.mx (qOf b j) := fun j => by rw [← hmx]; exact colMax_eq _ P1.mx j
  have P2 := pass2_loop (H := H) (b := b) (st := s1) (broadcastTo S32x128 (shapeCast S1x128 mx shapeCasts_S1x128_S1x128) broadcasts_S1x128_S32x128)
    (fun r j => by rw [spread_eq, M])
    (fun k q h2 h3 => by rw [← h1]; exact (P1.s k q).trans (if_pos ⟨h2, h3⟩))
    (broadcast S32x128 (Scalar.ofBits .f32 0x00000000#32)) (fun r j => Ideal.ofBits_zero_f32)
  have K2 : ∀ r, r ≠ .s → (act2 b mx).next s1 r = s1 r := fun r hr => Keeps.loopFrom _ _ (fun c x => Keeps.pass2 hr b _ c x) _ _ _ s1
  obtain ⟨sm, hsm⟩ : ∃ sm, colSum ((act2 b mx).val s1) = sm := ⟨_, rfl⟩
  obtain ⟨s2, h2⟩ : ∃ s2, (act2 b mx).next s1 = s2 := ⟨_, rfl⟩
  have S : ∀ j, sm (ix2 0 j) = H.tot (qOf b j) := fun j => by rw [← hsm]; exact colSum_eq _ P2.sm j
  rw [block_next i qs b s mx hmx s1 h1 sm hsm s2 h2]
  have e1 := h1; have e2 := h2
  rw [h1] at P1 K1
  change (act2 b mx).next s1 = s2 at h2
  have P2s : ∀ k q, s2 .s (ix2 (pos k) q) = if q.val / 128 = b.val ∧ chunk k < 4 * (b.val + 1) then H.E k q else s1 .s (ix2 (pos k) q) := by rw [← h2]; exact P2.s
  rw [h2] at K2
  obtain ⟨s3, h3⟩ : ∃ s3, (putLse i b (lseOf b.val mx sm)).next s2 = s3 := ⟨_, rfl⟩
  rw [h3]
  have K3 : ∀ r, r ≠ .lse → s3 r = s2 r := fun r hr => by rw [← h3]; exact Keeps.putLse hr i b _ s2
  have P3 := pass3_loop (H := H) (b := b) (st := s3) (invb sm) (fun r j => invb_eq sm r j (S j))
    (fun k q h4 h5 => by rw [K3 _ (by decide), P2s, if_pos ⟨h4, h5⟩])
  have K4 : ∀ r, r ≠ .pb → r ≠ .y → r ≠ .l → (act3 b sm).next s3 r = s3 r :=
    fun r a1 a2 a3 => Keeps.loopFrom _ _ (fun c x => Keeps.pass3 a1 a2 a3 b _ c) _ _ _ s3
  obtain ⟨s4, h4⟩ : ∃ s4, (act3 b sm).next s3 = s4 := ⟨_, rfl⟩
  rw [h4] at K4 P3
  rw [h4]
  have kpb : s3 .pb = s .pb := by rw [K3 _ (by decide), K2 _ (by decide), K1 _ (by decide)]
  have ky : s3 .y = s .y := by rw [K3 _ (by decide), K2 _ (by decide), K1 _ (by decide)]
  have kl : s3 .l = s .l := by rw [K3 _ (by decide), K2 _ (by decide), K1 _ (by decide)]
  have klse : s2 .lse = s .lse := by rw [K2 _ (by decide), K1 _ (by decide)]
  constructor
  · intro k j
    rw [K4 _ (by decide) (by decide) (by decide), K3 _ (by decide), K2 _ (by decide), K1 _ (by decide)]
    exact hb.kc k j
  · intro k q hq1 hq2
    rw [K4 _ (by decide) (by decide) (by decide), K3 _ (by decide), P2s, if_neg (by omega), P1.s, if_neg (by omega)]
    exact hb.sc k q (by omega) hq2
  · intro k q hq1 hq2
    rw [P3.pb]
    by_cases h : q.val / 128 = b.val
    · rw [if_pos (by omega)]
    · rw [if_neg (by omega), kpb]; exact hb.pb k q (by omega) hq2
  · intro k q hq1 hq2
    rw [P3.y0]
    by_cases h : q.val / 128 = b.val
    · rw [if_pos (by omega)]
    · rw [if_neg (by omega), ky]; exact hb.y0 k q (by omega) hq2
  · intro k q hq1 hq2
    rw [P3.y1]
    by_cases h : q.val / 128 = b.val
    · rw [if_pos (by omega)]
    · rw [if_neg (by omega), ky]; exact hb.y1 k q (by omega) hq2
  · intro k q hq1 hq2
    rw [P3.l]
    by_cases h : q.val / 128 = b.val
    · rw [if_pos (by omega)]
    · rw [if_neg (by omega), kl]; exact hb.l k q (by omega) hq2
  · intro h q
    rw [K4 _ (by decide) (by decide) (by decide), ← h3, putLse_lse, klse]
    by_cases hq0 : q.val / 128 = b.val ∧ h.val / 8 = (i 1).val / 8
    · have hqo : qOf b ⟨q.val - 128 * b.val, by omega⟩ = q := Fin.ext (by unfold qOf; dsimp only; omega)
      have hn : ¬ (q.val < 128 * b.val ∧ h.val / 8 = (i 1).val / 8) := fun g => by omega
      have hp : q.val < 128 * (b.val + 1) ∧ h.val / 8 = (i 1).val / 8 := ⟨by omega, hq0.2⟩
      rw [dif_pos hq0, lseOf_eq mx sm _ (M _) (S _), hqo, hb.lse h q, if_neg hn, if_pos hp]
    · rw [dif_neg hq0, hb.lse]
      congr 1
      exact propext ⟨fun g => ⟨by omega, g.2⟩, fun g => ⟨by omega, g.2⟩⟩

/-- All four blocks. -/
theorem blocks (qs : FVec Ideal S1x512 .f32) (hq : ∀ q, qs (ix2 0 q) = H.qs q * c2) (s : St Ideal) (hb : Blocks H i st 0 s) :
    Blocks H i st 4 ((Act.loop 4 (fun b (_ : PUnit) => block i qs b) ⟨⟩).next s) :=
  Act.loop_spec _ (fun b (_ : PUnit) => block i qs b) (fun b _ s => Blocks H i st b s) (fun b _ s h => block_step qs hq b s h) ⟨⟩ s hb

/-- The softmax part of the body. -/
theorem soft_part (i : grid0.Coords) (st : St Ideal) :
    Blocks (headOf i st) i st 4 ((Act.loop 4 (fun b (_ : PUnit) => block i ((prep i).val st) b) ⟨⟩).next (scores1.next (scores0.next ((prep i).next st)))) := by
  refine blocks _ (prep_val i st) _ ⟨fun k j => ?_, fun k q _ hk => ?_, fun k q h => absurd h (by omega), fun k q h => absurd h (by omega), fun k q h => absurd h (by omega),
    fun k q h => absurd h (by omega), fun h q => ?_⟩
  · rw [Keeps.scores1 (by decide), Keeps.scores0 (by decide)]; exact prep_kc i st k j
  · rw [scores1_s, Keeps.scores0 (by decide), Keeps.scores0 (by decide), Keeps.prep (by decide) (by decide), Keeps.prep (by decide) (by decide)]
    split
    · rfl
    · rw [scores0_s, if_pos (by unfold chunk at hk; unfold pos; dsimp only; omega), Keeps.prep (by decide) (by decide), Keeps.prep (by decide) (by decide)]
      rfl
  · rw [if_neg (by omega), Keeps.scores1 (by decide), Keeps.scores0 (by decide), Keeps.prep (by decide) (by decide)]

end Cert.KernelIdeal.Hand
-- ==== Proof.Lev8.lean ====
/-
  The rows a head writes, over the extended reals.
-/
module

public import proofs.«01_k».proof.Proof.Row
public import proofs.«01_k».proof.Proof.Block
public import proofs.«01_k».proof.Proof.Run

@[expose] public section

set_option maxRecDepth 16384

noncomputable section

namespace Cert.KernelIdeal.Hand

open Cert.KernelIdeal
open Idealize.ShloMosaic Idealize.ShloMosaic.TcCoe
open Facts₀ Facts

/-- A product with the values. -/
def Head.pv (H : Head) (C : Fin 512 → Fin 512 → EReal) (d : Fin 64) (q : Fin 512) : EReal := ∑ k, H.V d k * meet C k q

/-- The unquantised output. -/
def Head.oref (H : Head) (d : Fin 64) (q : Fin 512) : EReal := H.pv H.Z d q * ((1 / 16 : ℝ) : EReal)

/-- The coefficients of the large levels. -/
def Head.big (H : Head) (k q : Fin 512) : EReal := capped (H.Z k q * ((1 / 2 : ℝ) : EReal))

/-- The part of a difference that is no level's own. -/
def Head.base (H : Head) (m : Nat) (d : Fin 64) (q : Fin 512) : EReal :=
  if m ≤ 2 then 0 - H.oref d q else H.pv H.big d q * ((1 / 8 : ℝ) : EReal) - H.oref d q

/-- The difference of a level's output from the unquantised. -/
def Head.delta (H : Head) (m : Nat) (d : Fin 64) (q : Fin 512) : EReal :=
  H.pv (H.lev m) d q * (((1 / 2 : ℝ) ^ (4 + m) : ℝ) : EReal) + H.base m d q

/-- A level's loss at a query. -/
def Head.row (H : Head) (m : Nat) (q : Fin 512) : EReal := ∑ d, (H.D d q * H.D d q) * (H.delta m d q * H.delta m d q)

theorem ready_congr {H : Head} {m qb kb : Nat} {s s' : St Ideal} (hy : s' .y = s .y) (hl : s' .l = s .l) (h : Ready H m qb kb s) : Ready H m qb kb s' := by
  intro k q h1 h2
  rw [hy, hl]
  exact h k q h1 h2

theorem zero_sub_at (x : FVec Ideal S64x256 .f32) (d : Fin 64) (c : Fin 256) : (subf (c64 0x00000000#32) x) (ix2 d c) = 0 - x (ix2 d c) := by
  show Ideal.ofBits .f32 0x00000000#32 - x (ix2 d c) = _
  rw [Ideal.ofBits_zero_f32]

theorem baseM_at (H : Head) (j : Fin 2) (oref bl : FVec Ideal S64x256 .f32) (ho : ∀ d c, oref (ix2 d c) = H.oref d (qH j c))
    (hb : ∀ d c, bl (ix2 d c) = H.pv H.big d (qH j c) * ((1 / 8 : ℝ) : EReal) - H.oref d (qH j c)) :
    ∀ (m : Nat) (d : Fin 64) (c : Fin 256), (baseM m oref bl) (ix2 d c) = H.base m d (qH j c)
  | 0, d, c => by rw [Head.base, if_pos (by decide), ← ho]; exact zero_sub_at _ _ _
  | 1, d, c => by rw [Head.base, if_pos (by decide), ← ho]; exact zero_sub_at _ _ _
  | 2, d, c => by rw [Head.base, if_pos (by decide), ← ho]; exact zero_sub_at _ _ _
  | m + 3, d, c => by rw [Head.base, if_neg (by omega), ← hb]; rfl

section
variable (H : Head) (j : Fin 2)

/-- What a level needs of the state. -/
structure Lv (m : Nat) (s : St Ideal) : Prop where
  vt : ∀ d k, s .vt (ix2 d k) = H.V d k
  own : ∀ kb cb, kb ≤ 2 * j.val + cb → cb < 2 → Ready H m (2 * j.val + cb) kb s
  rest : ∀ kb cb, kb ≤ 2 * (1 - j.val) + cb → cb < 2 → j.val = 0 → Ready H 0 (2 * (1 - j.val) + cb) kb s

variable (g2 oref bl : FVec Ideal S64x256 .f32)

theorem level_next (m : Nat) (s : St Ideal) : (level j g2 oref bl m).next s = (times j (blkM j m)).next s := by
  unfold level
  rfl

theorem level_val (m : Nat) (s : St Ideal) :
    (level j g2 oref bl m).val s = rows8 (sqOf g2 (addf (mulf ((times j (blkM j m)).val s) (c64 (pw m))) (baseM m oref bl))) := by
  unfold level
  rfl

theorem sq_at (x y : FVec Ideal S64x256 .f32) (w : BitVec 32) (g : FVec Ideal S64x256 .f32) (d : Fin 64) (c : Fin 256) :
    sqOf g (addf (mulf x (c64 w)) y) (ix2 d c)
      = g (ix2 d c) * ((x (ix2 d c) * Ideal.ofBits .f32 w + y (ix2 d c)) * (x (ix2 d c) * Ideal.ofBits .f32 w + y (ix2 d c))) := rfl

theorem level_lv (m : Nat) (hm : m < 16) (s : St Ideal) (h : Lv H j m s) : Lv H j (m + 1) ((level j g2 oref bl m).next s) := by
  obtain ⟨t1, t2⟩ := level_times H j m hm H.V s h.vt h.own
  have en := level_next j g2 oref bl m s
  refine ⟨fun d k => ?_, fun kb cb h1 h2 => ?_, fun kb cb h1 h2 h3 => ?_⟩
  · rw [Keeps.level (by decide) j g2 oref bl m s]; exact h.vt d k
  · rw [en]; exact t2 kb cb h1 h2
  · rw [en]
    exact times_keeps j _ _ (fun kb' cb' hk hc s hr => ready_other H j m hm kb' cb' hk hc s _ _ _ (fun g => by omega) hr) s (h.rest kb cb h1 h2 h3)

theorem level_row (hg : ∀ d c, g2 (ix2 d c) = H.D d (qH j c) * H.D d (qH j c)) (ho : ∀ d c, oref (ix2 d c) = H.oref d (qH j c))
    (hb : ∀ d c, bl (ix2 d c) = H.pv H.big d (qH j c) * ((1 / 8 : ℝ) : EReal) - H.oref d (qH j c)) (m : Nat) (hm : m < 16) (s : St Ideal) (h : Lv H j m s)
    (i : Fin 8) (c : Fin 256) : (level j g2 oref bl m).val s (ix2 i c)
      = ∑ u : Fin 8, (fun d => (H.D d (qH j c) * H.D d (qH j c)) * (H.delta m d (qH j c) * H.delta m d (qH j c))) ⟨8 * u.val + i.val, by omega⟩ := by
  obtain ⟨t1, t2⟩ := level_times H j m hm H.V s h.vt h.own
  rw [level_val, rows8_apply]
  refine Finset.sum_congr rfl fun u _ => ?_
  obtain ⟨d, ed⟩ : ∃ d : Fin 64, d = ⟨8 * u.val + i.val, by omega⟩ := ⟨_, rfl⟩
  rw [← ed, sq_at, baseM_at H j oref bl ho hb, t1, hg, ofBits_pw m hm]
  dsimp only
  unfold Head.delta Head.pv
  with_reducible rfl

theorem level_step (hg : ∀ d c, g2 (ix2 d c) = H.D d (qH j c) * H.D d (qH j c)) (ho : ∀ d c, oref (ix2 d c) = H.oref d (qH j c))
    (hb : ∀ d c, bl (ix2 d c) = H.pv H.big d (qH j c) * ((1 / 8 : ℝ) : EReal) - H.oref d (qH j c)) (m : Nat) (hm : m < 16) (s : St Ideal) (h : Lv H j m s) :
    Lv H j (m + 1) ((level j g2 oref bl m).next s) ∧ ∀ (i : Fin 8) c, (level j g2 oref bl m).val s (ix2 i c)
      = ∑ u : Fin 8, (fun d => (H.D d (qH j c) * H.D d (qH j c)) * (H.delta m d (qH j c) * H.delta m d (qH j c))) ⟨8 * u.val + i.val, by omega⟩ :=
  ⟨level_lv H j g2 oref bl m hm s h, level_row H j g2 oref bl hg ho hb m hm s h⟩

theorem levels8_step (hg : ∀ d c, g2 (ix2 d c) = H.D d (qH j c) * H.D d (qH j c)) (ho : ∀ d c, oref (ix2 d c) = H.oref d (qH j c))
    (hb : ∀ d c, bl (ix2 d c) = H.pv H.big d (qH j c) * ((1 / 8 : ℝ) : EReal) - H.oref d (qH j c)) (u : Fin 2) (s : St Ideal) (h : Lv H j (8 * u.val) s) :
    Lv H j (8 * u.val + 8) ((levels8 j g2 oref bl u).next s) ∧ ∀ (m : Fin 16) q, (levels8 j g2 oref bl u).next s .row (ix4 0 0 m q)
      = if m.val / 8 = u.val ∧ q.val / 256 = j.val then H.row m q else s .row (ix4 0 0 m q) := by
  have hu := u.isLt
  have L := level_step H j g2 oref bl hg ho hb
  obtain ⟨s1, e1⟩ : ∃ s1, (level j g2 oref bl (8 * u.val)).next s = s1 := ⟨_, rfl⟩
  obtain ⟨s2, e2⟩ : ∃ s2, (level j g2 oref bl (8 * u.val + 1)).next s1 = s2 := ⟨_, rfl⟩
  obtain ⟨s3, e3⟩ : ∃ s3, (level j g2 oref bl (8 * u.val + 2)).next s2 = s3 := ⟨_, rfl⟩
  obtain ⟨s4, e4⟩ : ∃ s4, (level j g2 oref bl (8 * u.val + 3)).next s3 = s4 := ⟨_, rfl⟩
  obtain ⟨s5, e5⟩ : ∃ s5, (level j g2 oref bl (8 * u.val + 4)).next s4 = s5 := ⟨_, rfl⟩
  obtain ⟨s6, e6⟩ : ∃ s6, (level j g2 oref bl (8 * u.val + 5)).next s5 = s6 := ⟨_, rfl⟩
  obtain ⟨s7, e7⟩ : ∃ s7, (level j g2 oref bl (8 * u.val + 6)).next s6 = s7 := ⟨_, rfl⟩
  obtain ⟨s8, e8⟩ : ∃ s8, (level j g2 oref bl (8 * u.val + 7)).next s7 = s8 := ⟨_, rfl⟩
  obtain ⟨v0, w0⟩ : ∃ v, (level j g2 oref bl (8 * u.val)).val s = v := ⟨_, rfl⟩
  obtain ⟨v1, w1⟩ : ∃ v, (level j g2 oref bl (8 * u.val + 1)).val s1 = v := ⟨_, rfl⟩
  obtain ⟨v2, w2⟩ : ∃ v, (level j g2 oref bl (8 * u.val + 2)).val s2 = v := ⟨_, rfl⟩
  obtain ⟨v3, w3⟩ : ∃ v, (level j g2 oref bl (8 * u.val + 3)).val s3 = v := ⟨_, rfl⟩
  obtain ⟨v4, w4⟩ : ∃ v, (level j g2 oref bl (8 * u.val + 4)).val s4 = v := ⟨_, rfl⟩
  obtain ⟨v5, w5⟩ : ∃ v, (level j g2 oref bl (8 * u.val + 5)).val s5 = v := ⟨_, rfl⟩
  obtain ⟨v6, w6⟩ : ∃ v, (level j g2 oref bl (8 * u.val + 6)).val s6 = v := ⟨_, rfl⟩
  obtain ⟨v7, w7⟩ : ∃ v, (level j g2 oref bl (8 * u.val + 7)).val s7 = v := ⟨_, rfl⟩
  have en : (levels8 j g2 oref bl u).next s = Function.update s8 .row (put (F := Ideal) (e := .f32)
      (R4 0 0 (8 * u.val) (256 * j.val) 1 1 8 256 (by decide) (by decide) (by omega) (by omega))
      (shapeCast S1x1x8x256 (fold8 v0 v1 v2 v3 v4 v5 v6 v7) shapeCasts_S8x256_S1x1x8x256) (s8 .row)) := by
    unfold levels8
    rw [bind_next, e1, w0]
    rw [bind_next, e2, w1]
    rw [bind_next, e3, w2]
    rw [bind_next, e4, w3]
    rw [bind_next, e5, w4]
    rw [bind_next, e6, w5]
    rw [bind_next, e7, w6]
    rw [bind_next, e8, w7]
    rw [bind_next, load_next, store_next]
  have l1 := L (8 * u.val) (by omega) s h; rw [e1, w0] at l1
  have l2 := L (8 * u.val + 1) (by omega) s1 l1.1; rw [e2, w1] at l2
  have l3 := L (8 * u.val + 2) (by omega) s2 l2.1; rw [e3, w2] at l3
  have l4 := L (8 * u.val + 3) (by omega) s3 l3.1; rw [e4, w3] at l4
  have l5 := L (8 * u.val + 4) (by omega) s4 l4.1; rw [e5, w4] at l5
  have l6 := L (8 * u.val + 5) (by omega) s5 l5.1; rw [e6, w5] at l6
  have l7 := L (8 * u.val + 6) (by omega) s6 l6.1; rw [e7, w6] at l7
  have l8 := L (8 * u.val + 7) (by omega) s7 l7.1; rw [e8, w7] at l8
  obtain ⟨G, eG⟩ : ∃ G : Fin 8 → Fin 8 → Fin 256 → EReal, G = fun i r c => ∑ v : Fin 8, (fun d => (H.D d (qH j c) * H.D d (qH j c)) * (H.delta (8 * u.val + i.val) d (qH j c) * H.delta (8 * u.val + i.val) d (qH j c))) ⟨8 * v.val + r.val, by omega⟩ := ⟨_, rfl⟩
  have hx : ∀ (i : Fin 8) c, fold8 v0 v1 v2 v3 v4 v5 v6 v7 (ix2 i c) = ∑ r, G i r c := by
    refine fold8_eq v0 v1 v2 v3 v4 v5 v6 v7 G ?_ ?_ ?_ ?_ ?_ ?_ ?_ ?_ <;> rw [eG]
    exacts [l1.2, l2.2, l3.2, l4.2, l5.2, l6.2, l7.2, l8.2]
  have kr : s8 .row = s .row := by
    rw [← e8, ← e7, ← e6, ← e5, ← e4, ← e3, ← e2, ← e1]
    iterate 8 rw [Keeps.level (by decide) j g2 oref bl _ _]
  rw [en]
  refine ⟨⟨fun d k => ?_, fun kb cb h1 h2 => ?_, fun kb cb h1 h2 h3 => ?_⟩, fun m q => ?_⟩
  · rw [Function.update_of_ne (by decide)]; exact l8.1.vt d k
  · exact ready_congr (Function.update_of_ne (by decide) _ _) (Function.update_of_ne (by decide) _ _) (l8.1.own kb cb h1 h2)
  · exact ready_congr (Function.update_of_ne (by decide) _ _) (Function.update_of_ne (by decide) _ _) (l8.1.rest kb cb h1 h2 h3)
  · rw [Function.update_self, put_R4]
    by_cases hc : m.val / 8 = u.val ∧ q.val / 256 = j.val
    · rw [dif_pos (by refine ⟨?_, ?_, ?_, ?_⟩ <;> first | decide | omega), if_pos hc]
      have hcast : ∀ (w : FVec Ideal S8x256 .f32) (a b : Fin 1) (r : Fin 8) (c : Fin 256), shapeCast S1x1x8x256 w shapeCasts_S8x256_S1x1x8x256 (ix4 a b r c) = w (ix2 r c) := by
        intro w a b r c
        pointwise
      have eq : qH j ⟨q.val - 256 * j.val, by omega⟩ = q := Fin.ext (by show 256 * j.val + (q.val - 256 * j.val) = _; omega)
      have em : 8 * u.val + (m.val - 8 * u.val) = m.val := by omega
      rw [hcast, hx, eG]
      dsimp only
      rw [eq, em]
      exact sum64 fun d => (H.D d q * H.D d q) * (H.delta m.val d q * H.delta m.val d q)
    · rw [dif_neg (by omega), if_neg hc, kr]

end

end Cert.KernelIdeal.Hand
-- ==== Proof.Half.lean ====
/-
  The rows a head writes, over the extended reals.
-/
module

public import proofs.«01_k».proof.Proof.Lev8

@[expose] public section

set_option maxRecDepth 16384

noncomputable section

namespace Cert.KernelIdeal.Hand

open Cert.KernelIdeal
open Idealize.ShloMosaic Idealize.ShloMosaic.TcCoe
open Facts₀ Facts

/-- The state between the softmax and the halves. -/
structure Mid (H : Head) (s : St Ideal) : Prop where
  vt : ∀ d k, s .vt (ix2 d k) = H.V d k
  d : ∀ d q, s .d (ix4 0 0 d q) = H.D d q
  pb : ∀ k q, k.val / 128 ≤ q.val / 128 → s .pb (ix2 k q) = H.Z k q
  l : ∀ k q, k.val / 128 ≤ q.val / 128 → s .l (ix2 k q) = H.big k q

theorem mul_c (x : FVec Ideal S64x256 .f32) (w : BitVec 32) (d : Fin 64) (c : Fin 256) : (mulf x (c64 w)) (ix2 d c) = x (ix2 d c) * Ideal.ofBits .f32 w := rfl
theorem sub_at (x y : FVec Ideal S64x256 .f32) (d : Fin 64) (c : Fin 256) : (subf x y) (ix2 d c) = x (ix2 d c) - y (ix2 d c) := rfl
theorem mul_at (x y : FVec Ideal S64x256 .f32) (d : Fin 64) (c : Fin 256) : (mulf x y) (ix2 d c) = x (ix2 d c) * y (ix2 d c) := rfl

theorem ext_at (x : FVec Ideal S64x256 .bf16) (d : Fin 64) (c : Fin 256) : (extf .f32 x bitsLt_bf16_f32) (ix2 d c) = x (ix2 d c) := rfl

theorem timesP (H : Head) (j : Fin 2) (s : St Ideal) (hm : Mid H s) (d : Fin 64) (c : Fin 256) : (times j (blkP j)).val s (ix2 d c) = H.pv H.Z d (qH j c) := by
  refine (times_spec j (blkP j) H.Z H.V (fun kb cb s' => s' = s ∧ kb ≤ 2 * j.val + cb) (fun _ _ _ => True) (fun kb cb hk hc s' hs a c => ?_) (fun _ _ _ _ _ _ => trivial)
    (fun kb cb hk hc s' kb' cb' _ hs => ⟨hs.1, hs.2⟩) (fun _ _ _ _ _ _ _ _ _ => trivial) s hm.vt (fun kb cb h _ => ⟨rfl, h⟩)).1 d c
  rw [hs.1]
  unfold blkP
  rw [load_val]
  dsimp only
  rw [R2_idx]
  exact hm.pb _ _ (by have := hs.2; dsimp only; omega)

theorem timesL (H : Head) (j : Fin 2) (s : St Ideal) (hm : Mid H s) (d : Fin 64) (c : Fin 256) : (times j (blkL j)).val s (ix2 d c) = H.pv H.big d (qH j c) := by
  refine (times_spec j (blkL j) H.big H.V (fun kb cb s' => s' = s ∧ kb ≤ 2 * j.val + cb) (fun _ _ _ => True) (fun kb cb hk hc s' hs a c => ?_) (fun _ _ _ _ _ _ => trivial)
    (fun kb cb hk hc s' kb' cb' _ hs => ⟨hs.1, hs.2⟩) (fun _ _ _ _ _ _ _ _ _ => trivial) s hm.vt (fun kb cb h _ => ⟨rfl, h⟩)).1 d c
  rw [hs.1]
  unfold blkL
  rw [load_val]
  dsimp only
  rw [R2_idx]
  exact hm.l _ _ (by have := hs.2; dsimp only; omega)

theorem half_step (H : Head) (j : Fin 2) (s : St Ideal) (hm : Mid H s) (h : Lv H j 0 s) :
    Lv H j 16 ((half j).next s) ∧ ∀ (m : Fin 16) q, (half j).next s .row (ix4 0 0 m q) = if q.val / 256 = j.val then H.row m q else s .row (ix4 0 0 m q) := by
  have tP := timesP H j s hm
  have nP : (times j (blkP j)).next s = s := times_keeps j (blkP j) (· = s) (fun kb cb hk hc s' hs => hs) s rfl
  have tL := timesL H j s hm
  have nL : (times j (blkL j)).next s = s := times_keeps j (blkL j) (· = s) (fun kb cb hk hc s' hs => hs) s rfl
  obtain ⟨g2, eg⟩ : ∃ g2 : FVec Ideal S64x256 .f32, g2 = (mulf (extf .f32 (shapeCast S64x256 (((Act.load (F := Ideal) Buf'.d (R4 0 0 0 (256 * j.val) 1 1 64 256 (by decide) (by decide) (by decide) (by omega)).toLoadRect h_S1x1x64x256 : Act Ideal (Vec Ideal S1x1x64x256 .bf16)).val s) : Vec Ideal S1x1x64x256 .bf16) shapeCasts_S1x1x64x256_S64x256) bitsLt_bf16_f32) (extf .f32 (shapeCast S64x256 (((Act.load (F := Ideal) Buf'.d (R4 0 0 0 (256 * j.val) 1 1 64 256 (by decide) (by decide) (by decide) (by omega)).toLoadRect h_S1x1x64x256 : Act Ideal (Vec Ideal S1x1x64x256 .bf16)).val s) : Vec Ideal S1x1x64x256 .bf16) shapeCasts_S1x1x64x256_S64x256) bitsLt_bf16_f32)) := ⟨_, rfl⟩
  obtain ⟨oref, eo⟩ : ∃ oref : FVec Ideal S64x256 .f32, oref = mulf ((times j (blkP j)).val s) (c64 0x3D800000#32) := ⟨_, rfl⟩
  obtain ⟨bl, eb⟩ : ∃ bl : FVec Ideal S64x256 .f32, bl = subf (mulf ((times j (blkL j)).val s) (c64 0x3E000000#32)) oref := ⟨_, rfl⟩
  have en : (half j).next s = (levels8 j g2 oref bl 1).next ((levels8 j g2 oref bl 0).next s) := by
    have e0 : (half j).next s = (levels8 j g2 (mulf ((times j (blkP j)).val s) (c64 0x3D800000#32)) (subf (mulf ((times j (blkL j)).val ((times j (blkP j)).next s)) (c64 0x3E000000#32)) (mulf ((times j (blkP j)).val s) (c64 0x3D800000#32))) 1).next
        ((levels8 j g2 (mulf ((times j (blkP j)).val s) (c64 0x3D800000#32)) (subf (mulf ((times j (blkL j)).val ((times j (blkP j)).next s)) (c64 0x3E000000#32)) (mulf ((times j (blkP j)).val s) (c64 0x3D800000#32))) 0).next
          ((times j (blkL j)).next ((times j (blkP j)).next s))) := by
      subst eg; rfl
    rw [e0, nP, nL, ← eo, ← eb]
  have hg : ∀ d c, g2 (ix2 d c) = H.D d (qH j c) * H.D d (qH j c) := by
    intro d c
    have hcast : ∀ (w : Vec Ideal S1x1x64x256 .bf16) (r : Fin 64) (c : Fin 256), (shapeCast S64x256 w shapeCasts_S1x1x64x256_S64x256) (ix2 r c) = w (ix4 0 0 r c) := by
      intro w r c
      pointwise
    rw [eg]
    rw [mul_at, ext_at, hcast, load_val]
    dsimp only
    rw [R4_idx, ← hm.d]
    have ed : (⟨0 + d.val, by omega⟩ : Fin 64) = d := Fin.ext (Nat.zero_add _)
    have e0 : (⟨0 + (0 : Fin 1).val, by decide⟩ : Fin 1) = 0 := rfl
    rw [ed]
    rfl
  have ho : ∀ d c, oref (ix2 d c) = H.oref d (qH j c) := by
    intro d c
    rw [eo, mul_c, f16th, tP]; rfl
  have hb : ∀ d c, bl (ix2 d c) = H.pv H.big d (qH j c) * ((1 / 8 : ℝ) : EReal) - H.oref d (qH j c) := by
    intro d c
    rw [eb, sub_at, mul_c, f8th, tL, ho]
  obtain ⟨a1, a2⟩ := levels8_step H j g2 oref bl hg ho hb 0 s h
  obtain ⟨b1, b2⟩ := levels8_step H j g2 oref bl hg ho hb 1 _ a1
  rw [en]
  refine ⟨b1, fun m q => ?_⟩
  have hm := m.isLt
  rw [b2, a2]
  by_cases hq : q.val / 256 = j.val
  · by_cases h8 : m.val / 8 = 1
    · rw [if_pos ⟨h8, hq⟩, if_pos hq]
    · rw [if_neg (fun g => h8 g.1), if_pos ⟨by show _ = 0; omega, hq⟩, if_pos hq]
  · rw [if_neg (fun g => hq g.2), if_neg (fun g => hq g.2), if_neg hq]

theorem loop2 (f : Fin 2 → Act Ideal PUnit) (s : St Ideal) : (Act.loop 2 (fun j (_ : PUnit) => f j) ⟨⟩).next s = (f 1).next ((f 0).next s) := rfl

theorem halves (H : Head) (s : St Ideal) (hm : Mid H s) (hr : ∀ qb kb, kb ≤ qb → qb < 4 → Ready H 0 qb kb s) (m : Fin 16) (q : Fin 512) :
    (Act.loop 2 (fun j (_ : PUnit) => half j) ⟨⟩).next s .row (ix4 0 0 m q) = H.row m q := by
  have e : (Act.loop 2 (fun j (_ : PUnit) => half (F := Ideal) j) ⟨⟩).next s = (half 1).next ((half 0).next s) := loop2 half s
  have h0 : (0 : Fin 2).val = 0 := rfl
  have h1 : (1 : Fin 2).val = 1 := rfl
  have L0 : Lv H 0 0 s := by
    refine ⟨hm.vt, fun kb cb g1 g2 => ?_, fun kb cb g1 g2 _ => ?_⟩
    · rw [h0] at g1 ⊢
      exact hr _ _ g1 (by omega)
    · rw [h0] at g1 ⊢
      exact hr _ _ g1 (by omega)
  obtain ⟨a1, a2⟩ := half_step H 0 s hm L0
  have K : ∀ r, r ≠ .y → r ≠ .row → (half 0).next s r = s r := fun r h1 h2 => Keeps.half h1 h2 0 s
  have hm' : Mid H ((half 0).next s) := ⟨fun d k => by rw [K _ (by decide) (by decide)]; exact hm.vt d k, fun d q => by rw [K _ (by decide) (by decide)]; exact hm.d d q,
    fun k q h => by rw [K _ (by decide) (by decide)]; exact hm.pb k q h, fun k q h => by rw [K _ (by decide) (by decide)]; exact hm.l k q h⟩
  have L1 : Lv H 1 0 ((half 0).next s) := by
    refine ⟨a1.vt, fun kb cb g1 g2 => ?_, fun kb cb g1 g2 g3 => ?_⟩
    · have := a1.rest kb cb
      rw [h0] at this
      rw [h1] at g1 ⊢
      exact this g1 g2 rfl
    · rw [h1] at g3
      exact absurd g3 (by decide)
  obtain ⟨b1, b2⟩ := half_step H 1 _ hm' L1
  rw [e, b2, a2, h0, h1]
  have hq := q.isLt
  by_cases h : q.val / 256 = 1
  · exact if_pos h
  · rw [if_neg h, if_pos (by omega)]

end Cert.KernelIdeal.Hand
-- ==== Proof.Point.lean ====
/-
  What the body writes at a point of the grid, over the extended reals.
-/
module

public import proofs.«01_k».proof.Proof.Half

@[expose] public section

set_option maxRecDepth 16384

noncomputable section

namespace Cert.KernelIdeal.Hand

open Cert.KernelIdeal
open Idealize.ShloMosaic Idealize.ShloMosaic.TcCoe
open Facts₀ Facts

/-- The state after the softmax. -/
def softSt (i : grid0.Coords) (st : St Ideal) : St Ideal :=
  (Act.loop 4 (fun b (_ : PUnit) => block i ((prep i).val st) b) ⟨⟩).next (scores1.next (scores0.next ((prep i).next st)))

/-- The state after the rows. -/
def rowSt (i : grid0.Coords) (st : St Ideal) : St Ideal := (Act.loop 2 (fun j (_ : PUnit) => half j) ⟨⟩).next (softSt i st)

theorem body_next (i : grid0.Coords) (st : St Ideal) : (body i).next st = (lossAct i).next (rowSt i st) := by
  unfold body rowSt softSt
  simp only [bind_next]

theorem block_keeps {r : Buf'} (hs : r ≠ .s) (hlse : r ≠ .lse) (hpb : r ≠ .pb) (hy : r ≠ .y) (hl : r ≠ .l) (i : grid0.Coords) (q : FVec Ideal S1x512 .f32) :
    Keeps r (Act.loop 4 (fun b (_ : PUnit) => block i q b) ⟨⟩) :=
  Keeps.loopFrom _ _ (fun _ _ => Keeps.block hs hlse hpb hy hl _ _ _) _ _ _

theorem half_keeps {r : Buf'} (hy : r ≠ .y) (hrow : r ≠ .row) : Keeps r (Act.loop 2 (fun j (_ : PUnit) => half (F := Ideal) j) ⟨⟩) :=
  Keeps.loopFrom _ _ (fun _ _ => Keeps.half hy hrow _) _ _ _

theorem soft_vt (i : grid0.Coords) (st : St Ideal) (d : Fin 64) (k : Fin 512) : softSt i st .vt (ix2 d k) = (headOf i st).V d k := by
  unfold softSt
  rw [block_keeps (by decide) (by decide) (by decide) (by decide) (by decide), Keeps.scores1 (by decide), Keeps.scores0 (by decide)]
  exact prep_vt i st d k

theorem soft_keeps {r : Buf'} (hkc : r ≠ .kc) (hvt : r ≠ .vt) (hs : r ≠ .s) (hlse : r ≠ .lse) (hpb : r ≠ .pb) (hy : r ≠ .y) (hl : r ≠ .l)
    (i : grid0.Coords) (st : St Ideal) : softSt i st r = st r := by
  unfold softSt
  rw [block_keeps hs hlse hpb hy hl, Keeps.scores1 hs, Keeps.scores0 hs, Keeps.prep hkc hvt]

theorem soft_mid (i : grid0.Coords) (st : St Ideal) : Mid (headOf i st) (softSt i st) := by
  have B : Blocks (headOf i st) i st 4 (softSt i st) := soft_part i st
  refine ⟨soft_vt i st, fun d q => ?_, fun k q h => B.pb k q (by omega) h, fun k q h => B.l k q (by omega) h⟩
  rw [soft_keeps (by decide) (by decide) (by decide) (by decide) (by decide) (by decide) (by decide)]
  rfl

theorem soft_ready (i : grid0.Coords) (st : St Ideal) (qb kb : Nat) (h : kb ≤ qb) (hq : qb < 4) : Ready (headOf i st) 0 qb kb (softSt i st) := by
  have B : Blocks (headOf i st) i st 4 (softSt i st) := soft_part i st
  intro k q h1 h2
  refine ⟨fun n hn _ => ?_, B.l k q (by omega) (by omega)⟩
  rcases hn with rfl | rfl
  · exact B.y0 k q (by omega) (by omega)
  · exact B.y1 k q (by omega) (by omega)

theorem row_at (i : grid0.Coords) (st : St Ideal) (m : Fin 16) (q : Fin 512) : rowSt i st .row (ix4 0 0 m q) = (headOf i st).row m q :=
  halves _ _ (soft_mid i st) (soft_ready i st) m q

/-- The rows. -/
theorem body_row (i : grid0.Coords) (st : St Ideal) (m : Fin 16) (q : Fin 512) : (body i).next st .row (ix4 0 0 m q) = (headOf i st).row m q := by
  rw [body_next, Keeps.lossAct (by decide)]
  exact row_at i st m q

/-- The log-sum-exp. -/
theorem body_lse (i : grid0.Coords) (st : St Ideal) (h : Fin 32) (q : Fin 512) : (body i).next st .lse (ix3 0 h q)
    = if h.val / 8 = (i 1).val / 8 then
      (if h.val = (i 1).val then (headOf i st).lse q else if (i 1).val % 8 = 0 then 0 else st .lse (ix3 0 h q)) else st .lse (ix3 0 h q) := by
  have B : Blocks (headOf i st) i st 4 (softSt i st) := soft_part i st
  have hq := q.isLt
  rw [body_next, Keeps.lossAct (by decide)]
  unfold rowSt
  rw [half_keeps (by decide) (by decide), B.lse h q]
  have e : (q.val < 128 * 4 ∧ h.val / 8 = (i 1).val / 8) ↔ h.val / 8 = (i 1).val / 8 := ⟨fun g => g.2, fun g => ⟨by omega, g⟩⟩
  simp only [e]

theorem first_word : ∀ (b : Fin 3) (h : Fin 32), Scalar.andi (Scalar.cmpi .eq (BitVec.ofNat 32 b.val) 0#32) (Scalar.cmpi .eq (BitVec.ofNat 32 h.val) 0#32)
    = if b.val = 0 ∧ h.val = 0 then 1#1 else 0#1 := by decide +kernel

theorem lane_word : ∀ (a h : Fin 32), IntOp.cmpi .eq (BitVec.ofNat 32 a.val) (BitVec.ofNat 32 h.val) = if a.val = h.val then 1#1 else 0#1 := by decide +kernel

theorem lossOf_at (i : grid0.Coords) (row : Vec Ideal S1x1x16x512 .f32) (old : Vec Ideal S16x32 .f32) (m : Fin 16) (h : Fin 32) :
    lossOf i row old (ix2 m h) = (if (i 0).val = 0 ∧ (i 1).val = 0 then 0 else old (ix2 m h)) + (if h.val = (i 1).val then ∑ q : Fin 512, row (ix4 0 0 m q) else 0) := by
  unfold lossOf hd
  rw [first_word (i 0) (i 1)]
  pointwise
  have w1 := lane_word h (i 1)
  have w0 : ∀ (P : Prop) [Decidable P] (x y : EReal), Scalar.select (if P then 1#1 else 0#1) x y = if P then x else y := by
    intro P _ x y
    by_cases hp : P
    · rw [if_pos hp, if_pos hp]; rfl
    · rw [if_neg hp, if_neg hp]; rfl
  refine congrArg₂ (· + ·) (w0 _ _ _) ((congrArg (fun w => Scalar.select w _ _) w1).trans (w0 _ _ _))

/-- The loss. -/
theorem body_loss (i : grid0.Coords) (st : St Ideal) (m : Fin 16) (h : Fin 32) : (body i).next st .loss (ix2 m h)
    = (if (i 0).val = 0 ∧ (i 1).val = 0 then 0 else st .loss (ix2 m h)) + (if h.val = (i 1).val then ∑ q : Fin 512, (headOf i st).row m q else 0) := by
  have ek : rowSt i st .loss = st .loss := by
    unfold rowSt
    rw [half_keeps (by decide) (by decide), soft_keeps (by decide) (by decide) (by decide) (by decide) (by decide) (by decide) (by decide)]
  have en : (body i).next st = Function.update (rowSt i st) .loss (put (F := Ideal) (e := .f32) (R2 0 0 16 32 (by decide) (by decide))
      (lossOf i (fun x => rowSt i st .row ((R4 (n0 := 1) (n1 := 1) (n2 := 16) (n3 := 512) 0 0 0 0 1 1 16 512 (by decide) (by decide) (by decide) (by decide)).toLoadRect.idx x))
        (fun x => st .loss ((R2 (n0 := 16) (n1 := 32) 0 0 16 32 (by decide) (by decide)).toLoadRect.idx x))) (rowSt i st .loss)) := by
    rw [body_next, ← ek]
    unfold lossAct
    simp only [bind_next, load_next, load_val, store_next]
    rfl
  rw [en, Function.update_self, put_R2, dif_pos (by omega), lossOf_at]
  have e1 : (⟨m.val - 0, by omega⟩ : Fin 16) = m := rfl
  have e2 : (⟨h.val - 0, by omega⟩ : Fin 32) = h := rfl
  rw [e1, e2]
  rw [R2_idx]
  congr 1
  · refine if_congr Iff.rfl rfl ?_
    congr 2 <;> exact Fin.ext (Nat.zero_add _)
  · refine if_congr Iff.rfl (Finset.sum_congr rfl fun q _ => ?_) rfl
    rw [R4_idx, ← row_at]
    congr 2 <;> exact Fin.ext (Nat.zero_add _)

end Cert.KernelIdeal.Hand
-- ==== Proof.Sm.lean ====
/-
  A softmax in base two, shifted by any finite amount from below, against the softmax, over the extended reals.
-/
module

public import proofs.«01_k».proof.Proof.Pass2

@[expose] public section

noncomputable section

namespace Cert.Softmax

open Idealize.ShloMosaic

/-- The change of base. -/
def a2 : ℝ := (Real.log 2)⁻¹

theorem log2_pos : 0 < Real.log 2 := Real.log_pos (by norm_num)
theorem a2_pos : 0 < a2 := inv_pos.mpr log2_pos
theorem a2_log : a2 * Real.log 2 = 1 := inv_mul_cancel₀ log2_pos.ne'

variable (A : Fin 512 → EReal)

/-- The greatest score. -/
def top : EReal := Finset.univ.sup A
/-- The exponentials. -/
def ex (k : Fin 512) : EReal := Ideal.exp (A k - top A)
/-- Their sum. -/
def tot : EReal := ∑ k, ex A k
/-- The shift in base two. -/
def mx2 (M : ℝ) : EReal := max (M : EReal) (Finset.univ.sup fun k => A k * (a2 : EReal))
/-- The exponentials in base two. -/
def ex2 (M : ℝ) (k : Fin 512) : EReal := Ideal.exp2 (A k * (a2 : EReal) - mx2 A M)
/-- Their sum. -/
def tot2 (M : ℝ) : EReal := ∑ k, ex2 A M k

theorem le_top' (k : Fin 512) : A k ≤ top A := Finset.le_sup (f := A) (Finset.mem_univ k)

theorem top_mem : ∃ k, A k = top A := by
  obtain ⟨k, _, h⟩ := Finset.exists_mem_eq_sup (Finset.univ : Finset (Fin 512)) ⟨0, Finset.mem_univ _⟩ A
  exact ⟨k, h.symm⟩

theorem a2_nonneg : (0 : EReal) ≤ (a2 : EReal) := EReal.coe_nonneg.mpr a2_pos.le

theorem mx2_eq (M : ℝ) : mx2 A M = max (M : EReal) (top A * (a2 : EReal)) := by
  unfold mx2
  congr 1
  obtain ⟨k, hk⟩ := top_mem A
  refine le_antisymm (Finset.sup_le fun k _ => mul_le_mul_of_nonneg_right (le_top' A k) a2_nonneg) ?_
  rw [← hk]
  exact Finset.le_sup (f := fun k => A k * (a2 : EReal)) (Finset.mem_univ k)

theorem sum_coe (f : Fin 512 → ℝ) : (∑ k, (f k : EReal)) = ((∑ k, f k : ℝ) : EReal) :=
  (map_sum (⟨⟨fun x : ℝ => (x : EReal), rfl⟩, EReal.coe_add⟩ : ℝ →+ EReal) f Finset.univ).symm

theorem exp2_shift (x t μ : ℝ) : Real.rpow 2 (x * a2 - μ) = Real.rpow 2 (t * a2 - μ) * Real.exp (x - t) := by
  have e : Real.exp (x - t) = Real.rpow 2 ((x - t) * a2) := by
    show _ = (2 : ℝ) ^ ((x - t) * a2)
    rw [Real.rpow_def_of_pos (by norm_num)]
    congr 1
    rw [mul_comm (Real.log 2), mul_assoc, a2_log, mul_one]
  rw [e]
  have h : (2 : ℝ) ^ (x * a2 - μ) = (2 : ℝ) ^ (t * a2 - μ) * (2 : ℝ) ^ ((x - t) * a2) := by
    rw [← Real.rpow_add (by norm_num)]
    congr 1; ring
  exact h

/-- Either there is nothing to normalise, on both sides, or both sides are real and one is a multiple of the other. -/
theorem both (M : ℝ) :
    ((∀ k, ex A k = 0 ∧ ex2 A M k = 0) ∧ top A + Ideal.log (tot A) = ⊥ ∧ mx2 A M * ((Real.log 2 : ℝ) : EReal) + Ideal.log (tot2 A M) = ⊥)
    ∨ ∃ (s r : ℝ) (f : Fin 512 → ℝ), 0 < s ∧ 0 < r ∧ (∀ k, 0 ≤ f k ∧ ex A k = (f k : EReal) ∧ ex2 A M k = ((s * f k : ℝ) : EReal))
      ∧ tot A = (r : EReal) ∧ tot2 A M = ((s * r : ℝ) : EReal)
      ∧ top A + Ideal.log (tot A) = mx2 A M * ((Real.log 2 : ℝ) : EReal) + Ideal.log (tot2 A M) := by
  have hz : (∀ k, ex A k = 0 ∧ ex2 A M k = 0) → top A + Ideal.log (tot A) = ⊥ ∧ mx2 A M * ((Real.log 2 : ℝ) : EReal) + Ideal.log (tot2 A M) = ⊥ := by
    intro h
    have h1 : tot A = ((0 : ℝ) : EReal) := by unfold tot; rw [Finset.sum_congr rfl fun k _ => (h k).1]; simp
    have h2 : tot2 A M = ((0 : ℝ) : EReal) := by unfold tot2; rw [Finset.sum_congr rfl fun k _ => (h k).2]; simp
    have hl : Ideal.log ((0 : ℝ) : EReal) = ⊥ := by show (if (0 : ℝ) ≤ 0 then (⊥ : EReal) else _) = ⊥; rw [if_pos le_rfl]
    rw [h1, h2, hl, EReal.add_bot, EReal.add_bot]
    exact ⟨rfl, rfl⟩
  by_cases hb : top A = ⊥
  · left
    have h : ∀ k, ex A k = 0 ∧ ex2 A M k = 0 := by
      intro k
      have hk : A k = ⊥ := le_bot_iff.mp (hb ▸ le_top' A k)
      constructor
      · unfold ex; rw [hk, EReal.bot_sub]; rfl
      · unfold ex2; rw [hk, EReal.bot_mul_coe_of_pos a2_pos, EReal.bot_sub]; rfl
    exact ⟨h, hz h⟩
  by_cases ht : top A = ⊤
  · left
    have h : ∀ k, ex A k = 0 ∧ ex2 A M k = 0 := by
      intro k
      constructor
      · unfold ex; rw [ht, sub_eq_add_neg, EReal.neg_top, EReal.add_bot]; rfl
      · have e : mx2 A M = ⊤ := by rw [mx2_eq, ht, EReal.top_mul_coe_of_pos a2_pos]; exact max_eq_right le_top
        unfold ex2; rw [e, sub_eq_add_neg, EReal.neg_top, EReal.add_bot]; rfl
    exact ⟨h, hz h⟩
  · right
    obtain ⟨t, ht'⟩ : ∃ t : ℝ, top A = (t : EReal) := ⟨(top A).toReal, (EReal.coe_toReal ht hb).symm⟩
    obtain ⟨μ, hμ⟩ : ∃ μ : ℝ, mx2 A M = (μ : EReal) := ⟨max M (t * a2), by rw [mx2_eq, ht', ← EReal.coe_mul]; exact (EReal.coe_strictMono.monotone.map_max).symm⟩
    have hx : ∀ k, ∃ f : ℝ, 0 ≤ f ∧ ex A k = (f : EReal) ∧ ex2 A M k = ((Real.rpow 2 (t * a2 - μ) * f : ℝ) : EReal) ∧ (A k = top A → f = 1) := by
      intro k
      by_cases hk : A k = ⊥
      · refine ⟨0, le_rfl, ?_, ?_, fun h => absurd (h.symm.trans hk) hb⟩
        · unfold ex; rw [hk, EReal.bot_sub]; rfl
        · unfold ex2; rw [hk, EReal.bot_mul_coe_of_pos a2_pos, EReal.bot_sub, mul_zero]; rfl
      have hk' : A k ≠ ⊤ := fun h => ht (top_le_iff.mp (h ▸ le_top' A k))
      obtain ⟨x, hx⟩ : ∃ x : ℝ, A k = (x : EReal) := ⟨(A k).toReal, (EReal.coe_toReal hk' hk).symm⟩
      refine ⟨Real.exp (x - t), (Real.exp_pos _).le, ?_, ?_, fun h => ?_⟩
      · unfold ex
        rw [hx, ht', ← EReal.coe_sub]; rfl
      · unfold ex2
        rw [hx, hμ, ← EReal.coe_mul, ← EReal.coe_sub, ← exp2_shift]; rfl
      · have : x = t := EReal.coe_eq_coe_iff.mp (hx.symm.trans (h.trans ht'))
        rw [this, sub_self, Real.exp_zero]
    choose f h0 h1 h2 h3 using hx
    obtain ⟨k0, hk0⟩ := top_mem A
    have hr : 0 < ∑ k, f k := by
      refine Finset.sum_pos' (fun k _ => h0 k) ⟨k0, Finset.mem_univ _, ?_⟩
      rw [h3 k0 hk0]; exact one_pos
    have hs : 0 < Real.rpow 2 (t * a2 - μ) := Real.rpow_pos_of_pos (by norm_num) _
    have e1 : tot A = ((∑ k, f k : ℝ) : EReal) := by
      unfold tot; rw [Finset.sum_congr rfl fun k _ => h1 k]; exact sum_coe f
    have e2 : tot2 A M = ((Real.rpow 2 (t * a2 - μ) * ∑ k, f k : ℝ) : EReal) := by
      unfold tot2; rw [Finset.sum_congr rfl fun k _ => h2 k, sum_coe, Finset.mul_sum]
    refine ⟨_, _, f, hs, hr, fun k => ⟨h0 k, h1 k, h2 k⟩, e1, e2, ?_⟩
    have lg : ∀ x : ℝ, 0 < x → Ideal.log (x : EReal) = ((Real.log x : ℝ) : EReal) := fun x hx => by
      show (if x ≤ 0 then (⊥ : EReal) else _) = _
      rw [if_neg (not_le.mpr hx)]
    rw [ht', hμ, e1, e2, lg _ hr, lg _ (mul_pos hs hr), ← EReal.coe_mul, ← EReal.coe_add, ← EReal.coe_add]
    congr 1
    rw [Real.log_mul hs.ne' hr.ne', show Real.log (Real.rpow 2 (t * a2 - μ)) = (t * a2 - μ) * Real.log 2 from Real.log_rpow (by norm_num) _, sub_mul, mul_assoc, a2_log]
    ring

theorem lse_eq (M : ℝ) : top A + Ideal.log (tot A) = mx2 A M * ((Real.log 2 : ℝ) : EReal) + Ideal.log (tot2 A M) := by
  rcases both A M with ⟨_, h1, h2⟩ | ⟨s, r, f, _, _, _, _, _, h⟩
  · rw [h1, h2]
  · exact h

theorem div_real (x r : ℝ) (hr : 0 < r) : Ideal.div (x : EReal) (r : EReal) = ((x / r : ℝ) : EReal) := by
  unfold Ideal.div
  rw [if_neg (by rw [EReal.coe_eq_zero]; exact hr.ne'), ← EReal.coe_inv, ← EReal.coe_mul, div_eq_mul_inv]

/-- The probabilities, and sixteen times them from base two. -/
theorem prob (M : ℝ) : ∃ p : Fin 512 → ℝ, ∀ k, 0 ≤ p k ∧ ex A k * Ideal.div 1 (tot A) = (p k : EReal) ∧ ex2 A M k * Ideal.div 16 (tot2 A M) = ((16 * p k : ℝ) : EReal) := by
  rcases both A M with ⟨h, _, _⟩ | ⟨s, r, f, hs, hr, hf, h1, h2, _⟩
  · exact ⟨fun _ => 0, fun k => ⟨le_rfl, by rw [(h k).1, zero_mul, EReal.coe_zero], by rw [(h k).2, zero_mul, mul_zero, EReal.coe_zero]⟩⟩
  · refine ⟨fun k => f k / r, fun k => ⟨div_nonneg (hf k).1 hr.le, ?_, ?_⟩⟩
    · rw [(hf k).2.1, h1, show (1 : EReal) = ((1 : ℝ) : EReal) from rfl, div_real _ _ hr, ← EReal.coe_mul]
      congr 1; ring
    · rw [(hf k).2.2, h2, show (16 : EReal) = ((16 : ℝ) : EReal) from rfl, div_real _ _ (mul_pos hs hr), ← EReal.coe_mul]
      congr 1
      field_simp

end Cert.Softmax
-- ==== Proof.Scal.lean ====
/-
  One coefficient of the quantiser: the codes of the twin uniform quantiser against the levels that the kernel forms.
-/
module

public import proofs.«01_k».proof.Proof.Lev

@[expose] public section

set_option maxRecDepth 16384

noncomputable section

namespace Cert.KernelIdeal.Hand

open Cert.KernelIdeal
open Idealize.ShloMosaic

theorem coe_min' (x y : ℝ) : ((min x y : ℝ) : EReal) = min (x : EReal) (y : EReal) := EReal.coe_strictMono.monotone.map_min

theorem round_nonneg (x : ℝ) (h : 0 ≤ x) : 0 ≤ Ideal.roundHalfEven x := by
  have hf : 0 ≤ ⌊x⌋ := Int.floor_nonneg.mpr h
  unfold Ideal.roundHalfEven
  dsimp only
  split_ifs <;> omega

theorem round_small (x : ℝ) (h : 0 ≤ x) (h' : x < 1 / 2) : Ideal.roundHalfEven x = 0 := by
  have hf : ⌊x⌋ = 0 := Int.floor_eq_zero_iff.mpr ⟨h, by linarith⟩
  unfold Ideal.roundHalfEven
  dsimp only
  rw [hf, if_pos (by push_cast; linarith)]

theorem lift_real (x : ℝ) : Ideal.liftRound Ideal.roundHalfEven (x : EReal) = ((Ideal.roundHalfEven x : ℝ) : EReal) := rfl

/-- Capped rounding gives one of eight codes. -/
theorem cap_nat (x : ℝ) (h : 0 ≤ x) : ∃ j : Fin 8, capped (x : EReal) = ((j.val : ℝ) : EReal)
    ∧ min (7 : EReal) (max 0 (Ideal.liftRound Ideal.roundHalfEven (x : EReal))) = ((j.val : ℝ) : EReal) := by
  have h0 := round_nonneg x h
  obtain ⟨z, hz⟩ := Int.eq_ofNat_of_zero_le h0
  have h7 : (7 : EReal) = ((7 : ℝ) : EReal) := rfl
  have h00 : (0 : EReal) = ((0 : ℝ) : EReal) := rfl
  have e : capped (x : EReal) = ((min z 7 : ℕ) : ℝ) := by
    unfold capped
    rw [lift_real, hz, h7, ← coe_min']
    push_cast
    rfl
  refine ⟨⟨min z 7, by omega⟩, e, ?_⟩
  rw [max_eq_right (by rw [lift_real, h00, EReal.coe_le_coe_iff]; exact_mod_cast h0), min_comm]
  exact e

theorem cap_zero : capped ((0 : ℝ) : EReal) = ((0 : ℝ) : EReal) := by
  unfold capped
  rw [lift_real, round_small 0 le_rfl (by norm_num)]
  have h7 : (7 : EReal) = ((7 : ℝ) : EReal) := rfl
  rw [h7, ← coe_min']
  norm_num

theorem code_nat (j : Fin 16) : Ideal.fptosi 32 ((j.val : ℝ) : EReal) = BitVec.ofNat 32 j.val := by
  have hj := j.isLt
  unfold Ideal.fptosi
  have e : Ideal.toIntClamped (-(2 ^ (32 - 1) : Nat)) ((2 ^ (32 - 1) : Nat) - 1) ((j.val : ℝ) : EReal) = (j.val : ℤ) := by
    show max _ (min _ (if 0 ≤ (j.val : ℝ) then ⌊(j.val : ℝ)⌋ else ⌈(j.val : ℝ)⌉)) = _
    rw [if_pos (Nat.cast_nonneg _), Int.floor_natCast]
    norm_num
    omega
  rw [e]
  rfl

/-- The inverse step of a candidate. -/
def stepInv (n : Nat) : EReal := (((IntOp.shli .host (16#32) (BitVec.ofNat 32 n)).toInt : ℝ) : EReal)

theorem shl_int : ∀ n : Fin 16, (IntOp.shli .host (16#32) (BitVec.ofNat 32 n.val)).toInt = 2 ^ (4 + n.val) := by decide +kernel

theorem stepInv_eq (n : Nat) (hn : n < 16) : stepInv n = (((2 : ℝ) ^ (4 + n) : ℝ) : EReal) := by
  unfold stepInv
  rw [shl_int ⟨n, hn⟩]
  push_cast
  rfl

/-- A candidate's code of a probability. -/
def code (n : Nat) (P : EReal) : BitVec 32 :=
  Ideal.fptosi 32 (if P < 8 * Ideal.div 1 (stepInv n) then min 7 (max 0 (Ideal.liftRound Ideal.roundHalfEven (P * stepInv n)))
    else 8 + min 7 (max 0 (Ideal.liftRound Ideal.roundHalfEven (P * 8))))

/-- A candidate's quantised probability. -/
def hat (n : Nat) (P : EReal) : EReal :=
  (((IntOp.andi (code n P) 7#32).toInt : ℝ) : EReal) * (if (8#32).sle (code n P) then ((1 / 8 : ℝ) : EReal) else Ideal.div 1 (stepInv n))

theorem small_word : ∀ j : Fin 8, (IntOp.andi (BitVec.ofNat 32 j.val) 7#32).toInt = j.val ∧ (8#32).sle (BitVec.ofNat 32 j.val) = false := by decide +kernel
theorem large_word : ∀ j : Fin 8, (IntOp.andi (BitVec.ofNat 32 (8 + j.val)) 7#32).toInt = j.val ∧ (8#32).sle (BitVec.ofNat 32 (8 + j.val)) = true := by decide +kernel

theorem div_one (n : Nat) : Ideal.div 1 (((2 : ℝ) ^ (4 + n) : ℝ) : EReal) = (((1 / 2 : ℝ) ^ (4 + n) : ℝ) : EReal) := by
  have h : (0 : ℝ) < 2 ^ (4 + n) := by positivity
  unfold Ideal.div
  rw [if_neg (by rw [EReal.coe_eq_zero]; exact h.ne'), ← EReal.coe_inv, one_mul]
  congr 1
  rw [one_div, inv_pow]

theorem bound_eq (n : Nat) : (8 : EReal) * (((1 / 2 : ℝ) ^ (4 + n) : ℝ) : EReal) = (((1 / 2 : ℝ) ^ (n + 1) : ℝ) : EReal) := by
  have h8 : (8 : EReal) = ((8 : ℝ) : EReal) := rfl
  rw [h8, ← EReal.coe_mul]
  congr 1
  rw [show 4 + n = (n + 1) + 3 by omega, pow_add]
  norm_num
  ring

/-- The quantised probability of a real. -/
theorem hat_eq (n : Nat) (hn : n < 16) (p : ℝ) (hp : 0 ≤ p) : hat n (p : EReal)
    = if p < (1 / 2) ^ (n + 1) then capped ((p * 2 ^ (4 + n) : ℝ) : EReal) * (((1 / 2 : ℝ) ^ (4 + n) : ℝ) : EReal)
      else capped ((p * 8 : ℝ) : EReal) * ((1 / 8 : ℝ) : EReal) := by
  unfold hat
  have h8 : (8 : EReal) = ((8 : ℝ) : EReal) := rfl
  obtain ⟨j, c1, d1⟩ := cap_nat (p * 2 ^ (4 + n)) (by positivity)
  obtain ⟨i, c2, d2⟩ := cap_nat (p * 8) (by positivity)
  have ec : code n (p : EReal) = if p < (1 / 2) ^ (n + 1) then BitVec.ofNat 32 j.val else BitVec.ofNat 32 (8 + i.val) := by
    unfold code
    rw [stepInv_eq n hn, div_one, bound_eq, ← EReal.coe_mul, d1]
    have : (p : EReal) * 8 = ((p * 8 : ℝ) : EReal) := by rw [h8, ← EReal.coe_mul]
    rw [this, d2]
    by_cases h : p < (1 / 2) ^ (n + 1)
    · rw [if_pos (EReal.coe_lt_coe_iff.mpr h), if_pos h]
      exact code_nat ⟨j.val, by omega⟩
    · rw [if_neg (fun g => h (EReal.coe_lt_coe_iff.mp g)), if_neg h, h8, ← EReal.coe_add]
      have := code_nat ⟨8 + i.val, by omega⟩
      push_cast at this
      exact this
  rw [ec, stepInv_eq n hn, div_one]
  by_cases h : p < (1 / 2) ^ (n + 1)
  · rw [if_pos h, if_pos h, (small_word j).1, (small_word j).2, c1]
    simp
  · rw [if_neg h, if_neg h, (large_word i).1, (large_word i).2, c2]
    simp

theorem quadE_real (y : ℝ) : quadE (y : EReal) = (((if y < 2 then y else 0) * 4 : ℝ) : EReal) := by
  unfold quadE
  have h2 : (2 : EReal) = ((2 : ℝ) : EReal) := rfl
  have h4 : (4 : EReal) = ((4 : ℝ) : EReal) := rfl
  by_cases h : y < 2
  · rw [if_pos (by rw [h2]; exact EReal.coe_lt_coe_iff.mpr h), if_pos h, h4, ← EReal.coe_mul]
  · rw [if_neg (by rw [h2]; exact fun g => h (EReal.coe_lt_coe_iff.mp g)), if_neg h, h4]
    rw [zero_mul, zero_mul]; rfl

theorem two_half (n : Nat) : (2 : ℝ) ^ n * (1 / 2) ^ n = 1 := by rw [← mul_pow]; norm_num

theorem below (n : Nat) (p : ℝ) : p * 2 ^ (4 + n) < 2 ↔ p < (1 / 2) ^ (n + 3) := by
  have h : (0 : ℝ) < 2 ^ (n + 3) := by positivity
  have e := two_half (n + 3)
  have e2 : (2 : ℝ) ^ (4 + n) = 2 * 2 ^ (n + 3) := by rw [← pow_succ']; congr 1; omega
  rw [e2]
  constructor
  · intro g
    by_contra g'
    push Not at g'
    nlinarith
  · intro g
    nlinarith

/-- What the chains hold of a real. -/
theorem Zl_real (p : ℝ) (hp : 0 ≤ p) : ∀ n, Zl ((16 * p : ℝ) : EReal) n = (((if n ≤ 1 ∨ p < (1 / 2) ^ (n + 1) then p * 2 ^ (4 + n) else 0 : ℝ)) : EReal)
  | 0 => by
    show ((16 * p : ℝ) : EReal) = _
    rw [if_pos (Or.inl (by decide))]; congr 1; ring
  | 1 => by
    show ((16 * p : ℝ) : EReal) * 2 = _
    have h2 : (2 : EReal) = ((2 : ℝ) : EReal) := rfl
    rw [if_pos (Or.inl (by decide)), h2, ← EReal.coe_mul]; congr 1; ring
  | n + 2 => by
    show quadE (Zl _ n) = _
    rw [Zl_real p hp n, quadE_real]
    congr 1
    have e2 : (2 : ℝ) ^ (4 + (n + 2)) = 2 ^ (4 + n) * 4 := by rw [← add_assoc, pow_add]; norm_num
    have hb := below n p
    have hn : ¬ n + 2 ≤ 1 := by omega
    by_cases g : n ≤ 1 ∨ p < (1 / 2) ^ (n + 1)
    · rw [if_pos g]
      by_cases h : p < (1 / 2) ^ (n + 3)
      · rw [if_pos (hb.mpr h), if_pos (Or.inr h), e2]; ring
      · rw [if_neg (fun x => h (hb.mp x)), if_neg (fun x => x.elim hn h)]; ring
    · rw [if_neg g, if_pos (by norm_num), if_neg, zero_mul]
      rintro (x | x)
      · exact hn x
      · refine g (.inr (lt_of_lt_of_le x ?_))
        exact pow_le_pow_of_le_one (by norm_num) (by norm_num) (by omega)

/-- A level of a real and the large level it goes with make the candidate's quantised probability. -/
theorem level_hat (n : Nat) (hn : n < 16) (p : ℝ) (hp : 0 ≤ p) :
    levFrom n (Zl ((16 * p : ℝ) : EReal) (lvlIdx n)) (capped (((16 * p : ℝ) : EReal) * ((1 / 2 : ℝ) : EReal))) * (((1 / 2 : ℝ) ^ (4 + n) : ℝ) : EReal)
      + (if n ≤ 2 then 0 else capped (((16 * p : ℝ) : EReal) * ((1 / 2 : ℝ) : EReal)) * ((1 / 8 : ℝ) : EReal)) = hat n (p : EReal) := by
  have eb : ((16 * p : ℝ) : EReal) * ((1 / 2 : ℝ) : EReal) = ((p * 8 : ℝ) : EReal) := by rw [← EReal.coe_mul]; congr 1; ring
  rw [hat_eq n hn p hp, eb]
  obtain ⟨i, c2, _⟩ := cap_nat (p * 8) (by positivity)
  have h2 : (2 : EReal) = ((2 : ℝ) : EReal) := rfl
  have h4 : (4 : EReal) = ((4 : ℝ) : EReal) := rfl
  have h8 : (8 : EReal) = ((8 : ℝ) : EReal) := rfl
  have z0 : Zl ((16 * p : ℝ) : EReal) 0 = ((p * 2 ^ (4 + 0) : ℝ) : EReal) := (Zl_real p hp 0).trans (by rw [if_pos (Or.inl (by decide))])
  have z1 : Zl ((16 * p : ℝ) : EReal) 1 = ((p * 2 ^ (4 + 1) : ℝ) : EReal) := (Zl_real p hp 1).trans (by rw [if_pos (Or.inl (by decide))])
  match n, hn with
  | 0, _ =>
    have e : levFrom 0 (Zl ((16 * p : ℝ) : EReal) (lvlIdx 0)) (capped ((p * 8 : ℝ) : EReal)) = if (((p * 2 ^ (4 + 0) : ℝ)) : EReal) < 8 then capped ((p * 2 ^ (4 + 0) : ℝ) : EReal) else capped ((p * 8 : ℝ) : EReal) * 2 := by
      show (if Zl _ 0 < 8 then capped (Zl _ 0) else _ * 2) = _
      rw [z0]
    rw [e, if_pos (show 0 ≤ 2 by decide), add_zero]
    by_cases h : p < (1 / 2) ^ (0 + 1)
    · have h' : ((p * 2 ^ (4 + 0) : ℝ) : EReal) < 8 := by
        rw [h8, EReal.coe_lt_coe_iff]; norm_num at h ⊢; linarith
      rw [if_pos h, if_pos h']
    · have h' : ¬ ((p * 2 ^ (4 + 0) : ℝ) : EReal) < 8 := by
        rw [h8, EReal.coe_lt_coe_iff]; norm_num at h ⊢; linarith
      rw [if_neg h, if_neg h', c2, h2, ← EReal.coe_mul, ← EReal.coe_mul, ← EReal.coe_mul]
      congr 1; norm_num; ring
  | 1, _ =>
    have e : levFrom 1 (Zl ((16 * p : ℝ) : EReal) (lvlIdx 1)) (capped ((p * 8 : ℝ) : EReal)) = if (((p * 2 ^ (4 + 1) : ℝ)) : EReal) < 8 then capped ((p * 2 ^ (4 + 1) : ℝ) : EReal) else capped ((p * 8 : ℝ) : EReal) * 4 := by
      show (if Zl _ 1 < 8 then capped (Zl _ 1) else _ * 4) = _
      rw [z1]
    rw [e, if_pos (show 1 ≤ 2 by decide), add_zero]
    by_cases h : p < (1 / 2) ^ (1 + 1)
    · have h' : ((p * 2 ^ (4 + 1) : ℝ) : EReal) < 8 := by
        rw [h8, EReal.coe_lt_coe_iff]; norm_num at h ⊢; linarith
      rw [if_pos h, if_pos h']
    · have h' : ¬ ((p * 2 ^ (4 + 1) : ℝ) : EReal) < 8 := by
        rw [h8, EReal.coe_lt_coe_iff]; norm_num at h ⊢; linarith
      rw [if_neg h, if_neg h', c2, h4, ← EReal.coe_mul, ← EReal.coe_mul, ← EReal.coe_mul]
      congr 1; norm_num; ring
  | 2, _ =>
    have e : levFrom 2 (Zl ((16 * p : ℝ) : EReal) (lvlIdx 2)) (capped ((p * 8 : ℝ) : EReal)) = if (((p * 2 ^ (4 + 0) : ℝ)) : EReal) < 2 then capped ((p * 2 ^ (4 + 2) : ℝ) : EReal) else capped ((p * 8 : ℝ) : EReal) * 8 := by
      show (if Zl _ 0 < 2 then capped (quadE (Zl _ 0)) else _ * 8) = _
      rw [z0]
      by_cases g : ((p * 2 ^ (4 + 0) : ℝ) : EReal) < 2
      · rw [if_pos g, if_pos g]
        unfold quadE
        rw [if_pos g, h4, ← EReal.coe_mul]
        congr 2; ring
      · rw [if_neg g, if_neg g]
    rw [e, if_pos (show 2 ≤ 2 by decide), add_zero]
    by_cases h : p < (1 / 2) ^ (2 + 1)
    · have h' : ((p * 2 ^ (4 + 0) : ℝ) : EReal) < 2 := by
        rw [h2, EReal.coe_lt_coe_iff]; norm_num at h ⊢; linarith
      rw [if_pos h, if_pos h']
    · have h' : ¬ ((p * 2 ^ (4 + 0) : ℝ) : EReal) < 2 := by
        rw [h2, EReal.coe_lt_coe_iff]; norm_num at h ⊢; linarith
      rw [if_neg h, if_neg h', c2, h8, ← EReal.coe_mul, ← EReal.coe_mul, ← EReal.coe_mul]
      congr 1; norm_num; ring
  | n + 3, _ =>
    have el : lvlIdx (n + 3) = n + 1 := by unfold lvlIdx; rw [if_neg (by omega)]; omega
    rw [el]
    have ez : levFrom (n + 3) (Zl ((16 * p : ℝ) : EReal) (n + 1)) (capped ((p * 8 : ℝ) : EReal)) = capped (Zl ((16 * p : ℝ) : EReal) (n + 3)) := rfl
    rw [ez, Zl_real p hp, if_neg (by omega : ¬ n + 3 ≤ 2)]
    by_cases h : p < (1 / 2) ^ (n + 3 + 1)
    · have hs : p < 1 / 16 := lt_of_lt_of_le h (by
        have : ((1 : ℝ) / 2) ^ (n + 3 + 1) ≤ (1 / 2) ^ 4 := pow_le_pow_of_le_one (by norm_num) (by norm_num) (by omega)
        norm_num at this ⊢; exact this)
      have hc : capped ((p * 8 : ℝ) : EReal) = ((0 : ℝ) : EReal) := by
        unfold capped
        rw [lift_real, round_small _ (by positivity) (by linarith)]
        have h7 : (7 : EReal) = ((7 : ℝ) : EReal) := rfl
        rw [h7, ← coe_min']
        norm_num
      rw [if_pos h, if_pos (Or.inr h), hc]
      simp
    · rw [if_neg h, if_neg (fun x => x.elim (by omega) h), cap_zero]
      simp

theorem capped_nonneg (x : ℝ) (h : 0 ≤ x) : 0 ≤ capped (x : EReal) := by
  obtain ⟨j, e, _⟩ := cap_nat x h
  rw [e]; exact EReal.coe_nonneg.mpr (Nat.cast_nonneg _)

end Cert.KernelIdeal.Hand
-- ==== Proof.RefVal.lean ====
/-
  The reference's results at an index, over the extended reals.
-/
module

public import proofs.«01_k».proof.Proof.Gen.ReferenceIdeal.Run
public import proofs.«01_k».proof.Proof.Sm
public import proofs.«01_k».proof.Proof.Scal
public import proofs.«01_k».proof.Proof.Row
public import Idealize.ShloMosaic.Lib.Pointwise
public import Idealize.ShloMosaic.Lib.Tactic.CleanTypes
public import Idealize.ShloMosaic.Lib.IdealHost

@[expose] public section

set_option maxRecDepth 16384

noncomputable section

namespace Cert.ReferenceIdeal.Hand

open Cert.ReferenceIdeal
open Idealize.ShloMosaic Idealize.ShloMosaic.TcCoe
open Idealize.SL Idealize.SL.Sem
open Cert.KernelIdeal.Hand (Head code hat stepInv)

/-- The scaled, masked scores of a query. -/
def sc (H : Head) (q k : Fin 512) : EReal :=
  if k.val ≤ q.val then (∑ d, H.Q d q * H.K k d) * H.qs q * H.ks k * ((1 / 8 : ℝ) : EReal) else ⊥

/-- The probabilities of a query. -/
def pr (H : Head) (q k : Fin 512) : EReal := Softmax.ex (sc H q) k * Ideal.div 1 (Softmax.tot (sc H q))

/-- The difference of a candidate's output from the reference output. -/
def dif (H : Head) (n : Nat) (d : Fin 64) (q : Fin 512) : EReal := (∑ k, H.V d k * hat n (pr H q k)) - ∑ k, pr H q k * H.V d k

variable (V0 : Valuation τ sig (Elt Ideal))

/-- A head of the reference's values. -/
def head (b : Fin 3) (h : Fin 32) : Head where
  Q d q := (V0 (Proc.devRef .tc main_v0_0) : S3x512x32x64.Idx → EReal) (ix4 b q h d)
  K k d := (V0 (Proc.devRef .tc main_v0_1) : S3x512x32x64.Idx → EReal) (ix4 b k h d)
  qs q := (V0 (Proc.devRef .tc main_arg1) : S3x512x32.Idx → EReal) (ix3 b q h)
  ks k := (V0 (Proc.devRef .tc main_arg3) : S3x512x32.Idx → EReal) (ix3 b k h)
  V d k := (V0 (Proc.devRef .tc main_arg4) : S3x512x32x64.Idx → EReal) (ix4 b k h d)
  D d q := (V0 (Proc.devRef .tc main_arg5) : S3x512x32x64.Idx → EReal) (ix4 b q h d)

theorem mask_word : ∀ k q : Fin 512, IntOp.cmpi .sle (BitVec.ofNat 32 k.val) (BitVec.ofNat 32 q.val) = if k.val ≤ q.val then 1#1 else 0#1 := by
  intro k q
  have hk := k.isLt
  have hq := q.isLt
  unfold IntOp.cmpi
  have e : ∀ n : Nat, n < 512 → (BitVec.ofNat 32 n).toInt = n := by
    intro n hn
    rw [BitVec.toInt_eq_toNat_of_lt (by rw [BitVec.toNat_ofNat]; omega), BitVec.toNat_ofNat]; omega
  by_cases h : k.val ≤ q.val
  · rw [if_pos h]
    have : (BitVec.ofNat 32 k.val).sle (BitVec.ofNat 32 q.val) = true := by rw [BitVec.sle_eq_decide, e _ hk, e _ hq]; simpa using h
    simp [this]
  · rw [if_neg h]
    have : (BitVec.ofNat 32 k.val).sle (BitVec.ofNat 32 q.val) = false := by rw [BitVec.sle_eq_decide, e _ hk, e _ hq]; simpa using h
    simp [this]

theorem sel (P : Prop) [Decidable P] (x y : EReal) : Scalar.select (if P then 1#1 else 0#1) x y = if P then x else y := by
  by_cases hp : P
  · rw [if_pos hp, if_pos hp]; rfl
  · rw [if_neg hp, if_neg hp]; rfl

theorem v18_at (b : Fin 3) (h : Fin 32) (q k : Fin 512) : (Value.res_main_v18 V0 : S3x32x512x512.Idx → EReal) (ix4 b h q k) = sc (head V0 b h) q k := by
  unfold Value.res_main_v18 Value.res_main_v1
  clean_types
  pointwise
  refine (congrArg (fun w => Scalar.select w _ _) (mask_word k q)).trans ((sel _ _ _).trans ?_)
  unfold sc
  refine if_congr Iff.rfl ?_ Cert.KernelIdeal.Hand.ninf
  rw [Cert.KernelIdeal.Hand.f8th]
  rfl

theorem v19_at (b : Fin 3) (h : Fin 32) (q : Fin 512) : (Value.res_main_v19 V0 : S3x32x512.Idx → EReal) (ix3 b h q) = Softmax.top (sc (head V0 b h) q) := by
  unfold Value.res_main_v19
  clean_types
  pointwise
  rw [Cert.KernelIdeal.Hand.ninf]
  exact Finset.fold_congr fun k _ => v18_at V0 b h q k

theorem v23_at (b : Fin 3) (h : Fin 32) (q k : Fin 512) : (Value.res_main_v23 V0 : S3x32x512x512.Idx → EReal) (ix4 b h q k) = Softmax.ex (sc (head V0 b h) q) k := by
  unfold Value.res_main_v23
  clean_types
  pointwise
  exact congrArg Ideal.exp (congrArg₂ (· - ·) (v18_at V0 b h q k) (v19_at V0 b h q))

theorem v24_at (b : Fin 3) (h : Fin 32) (q : Fin 512) : (Value.res_main_v24 V0 : S3x32x512.Idx → EReal) (ix3 b h q) = Softmax.tot (sc (head V0 b h) q) := by
  unfold Value.res_main_v24
  clean_types
  pointwise
  exact Finset.sum_congr rfl fun k _ => v23_at V0 b h q k

theorem v31_at (b : Fin 3) (h : Fin 32) (q k : Fin 512) : (Value.res_main_v31 V0 : S3x32x512x512.Idx → EReal) (ix4 b h q k) = pr (head V0 b h) q k := by
  unfold Value.res_main_v31
  clean_types
  pointwise
  exact congrArg₂ (· * ·) (v23_at V0 b h q k) (congrArg (Ideal.div 1) (v24_at V0 b h q))

theorem f8 : Ideal.ofBits .f32 0x41000000#32 = 8 := by
  simp [Ideal.ofBits, Ideal.ieee, -EReal.coe_mul]; norm_num; rfl
theorem f7 : Ideal.ofBits .f32 0x40E00000#32 = 7 := by
  simp [Ideal.ofBits, Ideal.ieee, -EReal.coe_mul]; norm_num; rfl

theorem v61_at (n : Fin 16) (b : Fin 3) (h : Fin 32) (q k : Fin 512) :
    (Value.res_main_v61 V0 : S16x3x32x512x512.Idx → BitVec 32) (ix5 n b h q k) = code n.val (pr (head V0 b h) q k) := by
  rw [← v31_at]
  unfold Value.res_main_v61 Value.res_main_v40 Value.res_main_v38 code
  clean_types
  pointwise
  have e8 := f8
  have e7 : (id (constant (F := Ideal) S_ .f32 0x40E00000#32) ix0 : EReal) = 7 := f7
  have e0 : (id (constant (F := Ideal) S_ .f32 0x00000000#32) ix0 : EReal) = 0 := Ideal.ofBits_zero_f32
  rw [e8, e7, e0]
  rfl

theorem v40_at (n : Fin 16) : (Value.res_main_v40 V0 : S16x1x1x1x1.Idx → EReal) (ix5 n 0 0 0 0) = Ideal.div 1 (stepInv n.val) := by
  unfold Value.res_main_v40 Value.res_main_v38
  clean_types
  pointwise
  rfl

theorem v74_at (n : Fin 16) (b : Fin 3) (h : Fin 32) (q : Fin 512) (d : Fin 64) :
    (Value.res_main_v74 V0 : S16x3x32x512x64.Idx → EReal) (ix5 n b h q d) = dif (head V0 b h) n.val d q := by
  unfold Value.res_main_v74
  clean_types
  pointwise
  unfold dif
  refine congrArg₂ (· - ·) (Finset.sum_congr rfl fun k _ => ?_) (Finset.sum_congr rfl fun k _ => ?_)
  · refine congrArg₂ (· * ·) rfl ?_
    unfold hat
    have e := v61_at V0 n b h q k
    refine congrArg₂ (· * ·) (congrArg (fun w : BitVec 32 => (((IntOp.andi w 7#32).toInt : ℝ) : EReal)) e) ?_
    refine (congrArg (fun w : BitVec 32 => Scalar.select (IntOp.cmpi .sge w 8#32) _ _) e).trans ?_
    have e2 : (id (constant (F := Ideal) S_ .f32 0x3E000000#32) ix0 : EReal) = ((1 / 8 : ℝ) : EReal) := Cert.KernelIdeal.Hand.f8th
    rw [e2]
    by_cases g : (8#32).sle (code n.val (pr (head V0 b h) q k))
    · rw [if_pos g]
      have : IntOp.cmpi .sge (code n.val (pr (head V0 b h) q k)) 8#32 = 1#1 := by unfold IntOp.cmpi; simp [g]
      rw [this]; rfl
    · rw [if_neg g]
      have : IntOp.cmpi .sge (code n.val (pr (head V0 b h) q k)) 8#32 = 0#1 := by unfold IntOp.cmpi; simp [g]
      rw [this]; exact v40_at V0 n
  · exact congrArg₂ (· * ·) (v31_at V0 b h q k) rfl

end Cert.ReferenceIdeal.Hand
-- ==== Proof.RefFin.lean ====
/-
  The reference's results, of the arguments.
-/
module

public import proofs.«01_k».proof.Proof.RefVal
public import Idealize.ShloMosaic.Lib.Pipeline.ValueKit.Point

@[expose] public section

set_option maxRecDepth 16384

noncomputable section

namespace Cert.ReferenceIdeal.Hand

open Cert.ReferenceIdeal
open Idealize.ShloMosaic Idealize.ShloMosaic.TcCoe
open Idealize.SL Idealize.SL.Sem
open Cert.KernelIdeal.Hand (Head)

/-- A head of arguments. -/
def headFn (a0 : S3x512x32x64.Idx → EReal) (a1 : S3x512x32.Idx → EReal) (a2 : S3x512x32x64.Idx → EReal) (a3 : S3x512x32.Idx → EReal)
    (a4 a5 : S3x512x32x64.Idx → EReal) (b : Fin 3) (h : Fin 32) : Head where
  Q d q := a0 (ix4 b q h d)
  K k d := a2 (ix4 b k h d)
  qs q := a1 (ix3 b q h)
  ks k := a3 (ix3 b k h)
  V d k := a4 (ix4 b k h d)
  D d q := a5 (ix4 b q h d)

/-- A candidate's loss at a query. -/
def rowR (H : Head) (n : Nat) (q : Fin 512) : EReal := ∑ d, (H.D d q * H.D d q) * (dif H n d q * dif H n d q)

/-- The log-sum-exp of a query, over its position. -/
def lseR (H : Head) (q : Fin 512) : EReal := Softmax.top (sc H q) + Ideal.log (Softmax.tot (sc H q)) - Ideal.log (((q.val + 1 : ℕ) : ℝ) : EReal)

/-- The rows of losses. -/
def rowArr (Hs : Fin 3 → Fin 32 → Head) : S3x32x16x512.Idx → EReal := fun i => rowR (Hs (i 0) (i 1)) (i 2).val (i 3)
/-- The losses. -/
def lossArr (Hs : Fin 3 → Fin 32 → Head) : S16x32.Idx → EReal := fun i => ∑ b : Fin 3, ∑ q : Fin 512, rowR (Hs b (i 1)) (i 0).val q
/-- The log-sum-exps. -/
def lseArr (Hs : Fin 3 → Fin 32 → Head) : S3x32x512.Idx → EReal := fun i => lseR (Hs (i 0) (i 1)) (i 2)

theorem lse_word : ∀ q : Fin 512, (IntOp.addi (BitVec.ofNat 32 q.val) 1#32).toInt = ((q.val + 1 : ℕ) : ℤ) := by decide +kernel

theorem lse_point (x y : FVec Ideal S3x32x512 .f32) (z : IVec S512 32) (b : Fin 3) (h : Fin 32) (q : Fin 512) :
    (subf (addf x (Host.log y)) (broadcastInDim S3x32x512 ![0, 1, 2] Facts₀.bcast_S1x1x512_S3x32x512_0_1_2 (broadcastInDim S1x1x512 ![2] Facts₀.bcast_S512_S1x1x512_2 (Host.log (sitofp .f32 (addi z (broadcastInDim S512 ![] Facts₀.bcast_S_S512 (constantI S_ 32 1#32))))))) : FVec Ideal S3x32x512 .f32) (ix3 b h q)
    = (x (ix3 b h q) + Ideal.log (y (ix3 b h q)) - Ideal.log (((IntOp.addi (z (ix1 q)) 1#32).toInt : ℝ) : EReal) : EReal) := by
  pointwise
  rfl

theorem row_point (x : FVec Ideal S16x3x32x512x64 .f32) (y : FVec Ideal S3x512x32x64 .f32) (n : Fin 16) (b : Fin 3) (h : Fin 32) (q : Fin 512) :
    (transpose S3x32x16x512 [1, 2, 0, 3] (Host.reduceAdd (mulf (broadcastInDim S16x3x32x512x64 ![0, 1, 2, 3, 4] Facts₀.bcast_S1x3x32x512x64_S16x3x32x512x64_0_1_2_3_4 (broadcastInDim S1x3x32x512x64 ![1, 2, 3, 4] Facts₀.bcast_S3x32x512x64_S1x3x32x512x64_1_2_3_4 (transpose S3x32x512x64 [0, 2, 1, 3] (mulf y y) Facts₀.transposes_S3x512x32x64_S3x32x512x64_0_2_1_3))) (mulf x x)) (constant S_ .f32 0x00000000#32) Facts₀.reducesTo_S16x3x32x512x64_S16x3x32x512_d4 Facts₀.h_S_) Facts₀.transposes_S16x3x32x512_S3x32x16x512_1_2_0_3 : FVec Ideal S3x32x16x512 .f32) (ix4 b h n q)
    = (∑ d : Fin 64, (y (ix4 b q h d) * y (ix4 b q h d)) * (x (ix5 n b h q d) * x (ix5 n b h q d)) : EReal) := by
  pointwise

theorem drop_point (hd : S3x32x16x512.ReducesTo [0, 3] S32x16) (n : Fin 16) (h : Fin 32) (i : S3x32x16x512.Idx) :
    hd.drop i = ix2 h n ↔ ∃ k : Fin 3 × Fin 512, (ix4 k.1 h n k.2 : S3x32x16x512.Idx) = i := by
  constructor
  · intro e
    refine ⟨(i 0, i 3), ?_⟩
    funext a; apply Fin.ext
    match a with
    | ⟨0, _⟩ => rfl
    | ⟨1, _⟩ => exact (congrArg Fin.val (congrFun e 0)).symm
    | ⟨2, _⟩ => exact (congrArg Fin.val (congrFun e 1)).symm
    | ⟨3, _⟩ => rfl
  · rintro ⟨k, rfl⟩
    funext b
    apply Fin.ext
    match b with
    | ⟨0, _⟩ => rfl
    | ⟨1, _⟩ => rfl

theorem loss_point (f : FVec Ideal S3x32x16x512 .f32) (n : Fin 16) (h : Fin 32) :
    (transpose S16x32 [1, 0] (Host.reduceAdd (F := Ideal) (φ := .f32) f (constant S_ .f32 0x00000000#32) Facts₀.reducesTo_S3x32x16x512_S32x16_d0_3 Facts₀.h_S_) Facts₀.transposes_S32x16_S16x32_1_0 : FVec Ideal S16x32 .f32) (ix2 n h)
    = (∑ b : Fin 3, ∑ q : Fin 512, f (ix4 b h n q) : EReal) := by
  pointwise
  refine (zero_add _).trans ((Finset.sum_filter_eq_sum_of_fiber _ (fun k : Fin 3 × Fin 512 => (ix4 k.1 h n k.2 : S3x32x16x512.Idx))
    (fun _ _ e => Prod.ext (congrFun e 0) (congrFun e 3)) (drop_point _ n h) f).trans ?_)
  simp only [Fintype.sum_prod_type]

section
variable (V0 : Valuation τ sig (Elt Ideal))

theorem v1_at (q : Fin 512) : (Value.res_main_v1 V0 : S512.Idx → BitVec 32) (ix1 q) = BitVec.ofNat 32 q.val := by
  unfold Value.res_main_v1
  clean_types
  pointwise

theorem v75_at (b : Fin 3) (q : Fin 512) (h : Fin 32) (d : Fin 64) : (Value.res_main_v75 V0 : S3x512x32x64.Idx → EReal) (ix4 b q h d) = (head V0 b h).D d q := by
  unfold Value.res_main_v75
  clean_types
  pointwise
  rfl

theorem lse_fin : (subf (addf (Value.res_main_v19 V0) (Host.log (Value.res_main_v24 V0))) (broadcastInDim S3x32x512 ![0, 1, 2] Facts₀.bcast_S1x1x512_S3x32x512_0_1_2 (broadcastInDim S1x1x512 ![2] Facts₀.bcast_S512_S1x1x512_2 (Host.log (sitofp .f32 (addi (Value.res_main_v1 V0) (broadcastInDim S512 ![] Facts₀.bcast_S_S512 (constantI S_ 32 1#32))))))) : S3x32x512.Idx → EReal) = lseArr (head V0) := by
  funext i
  obtain ⟨b, h, q, rfl⟩ : ∃ (b : Fin 3) (h : Fin 32) (q : Fin 512), i = ix3 b h q := ⟨i 0, i 1, i 2, by funext a; fin_cases a <;> rfl⟩
  refine (lse_point _ _ _ b h q).trans ?_
  rw [v19_at, v24_at, v1_at, lse_word, Int.cast_natCast]
  rfl

theorem row_fin : (transpose S3x32x16x512 [1, 2, 0, 3] (Host.reduceAdd (mulf (broadcastInDim S16x3x32x512x64 ![0, 1, 2, 3, 4] Facts₀.bcast_S1x3x32x512x64_S16x3x32x512x64_0_1_2_3_4 (broadcastInDim S1x3x32x512x64 ![1, 2, 3, 4] Facts₀.bcast_S3x32x512x64_S1x3x32x512x64_1_2_3_4 (transpose S3x32x512x64 [0, 2, 1, 3] (mulf (Value.res_main_v75 V0) (Value.res_main_v75 V0)) Facts₀.transposes_S3x512x32x64_S3x32x512x64_0_2_1_3))) (mulf (Value.res_main_v74 V0) (Value.res_main_v74 V0))) (constant S_ .f32 0x00000000#32) Facts₀.reducesTo_S16x3x32x512x64_S16x3x32x512_d4 Facts₀.h_S_) Facts₀.transposes_S16x3x32x512_S3x32x16x512_1_2_0_3 : S3x32x16x512.Idx → EReal) = rowArr (head V0) := by
  funext i
  obtain ⟨b, h, n, q, rfl⟩ : ∃ (b : Fin 3) (h : Fin 32) (n : Fin 16) (q : Fin 512), i = ix4 b h n q := ⟨i 0, i 1, i 2, i 3, by funext a; fin_cases a <;> rfl⟩
  refine (row_point _ _ n b h q).trans ?_
  unfold rowArr rowR
  refine Finset.sum_congr rfl fun d _ => ?_
  rw [v74_at, v75_at]
  rfl

theorem loss_fin (f : S3x32x16x512.Idx → EReal) (Hs : Fin 3 → Fin 32 → Head) (hf : f = rowArr Hs) :
    (transpose S16x32 [1, 0] (Host.reduceAdd (F := Ideal) (φ := .f32) f (constant S_ .f32 0x00000000#32) Facts₀.reducesTo_S3x32x16x512_S32x16_d0_3 Facts₀.h_S_) Facts₀.transposes_S32x16_S16x32_1_0 : S16x32.Idx → EReal) = lossArr Hs := by
  funext i
  obtain ⟨n, h, rfl⟩ : ∃ (n : Fin 16) (h : Fin 32), i = ix2 n h := ⟨i 0, i 1, by funext a; fin_cases a <;> rfl⟩
  refine (loss_point f n h).trans ?_
  rw [hf]
  rfl
end

variable (m : (ℓ : Loc nD τ sig) → Buf (Elt Ideal) ℓ) (c : Dev nD)

theorem q_arr : (Value.reg_main_v0_0 m c : S3x512x32x64.Idx → EReal) = (m ((c.tc : Thread nD τ).loc main_arg0) : S3x512x32x64.Idx → EReal) := by
  unfold Value.reg_main_v0_0
  refine (Gen.dats m 0 c).arrAt_eq_of_covers 2 _ (by decide +kernel) fun t hf y => ?_
  blk_simp
  rw [Gen.after0_2]
  frame_out
  pointwise
  blk_ext [Gen.iblk, Gen.V]

theorem k_arr : (Value.reg_main_v0_1 m c : S3x512x32x64.Idx → EReal) = (m ((c.tc : Thread nD τ).loc main_arg2) : S3x512x32x64.Idx → EReal) := by
  unfold Value.reg_main_v0_1
  refine (Gen.dats m 0 c).arrAt_eq_of_covers 3 _ (by decide +kernel) fun t hf y => ?_
  blk_simp
  rw [Gen.after0_3]
  frame_out
  pointwise
  blk_ext [Gen.iblk, Gen.V]

/-- The heads of the reference's arguments. -/
def argHead : Fin 3 → Fin 32 → Head :=
  headFn (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))

theorem head_exit : head (Value.exitV m c) = argHead m c := by
  funext b h
  unfold head argHead headFn
  rw [Value.exit_main_v0_0, Value.exit_main_v0_1, Value.exit_main_arg1, Value.exit_main_arg3, Value.exit_main_arg4, Value.exit_main_arg5, q_arr, k_arr]

/-- The reference's run. -/
theorem run_ref (ρ : Dev nD → PrngReg) :
    θ_run (defs (F := Ideal)) (onTc (τ := τ) (main (F := Ideal))) ⟨m, fun _ => 0, ρ⟩ fun r => ∀ c : Dev nD,
      r.2.mem ((c.tc : Thread nD τ).loc main_v85) = lossArr (argHead m c)
      ∧ r.2.mem ((c.tc : Thread nD τ).loc main_v83) = rowArr (argHead m c)
      ∧ r.2.mem ((c.tc : Thread nD τ).loc main_v92) = lseArr (argHead m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => by
    have e := head_exit m c
    obtain ⟨h1, h2, h3, h4⟩ := h c
    have r2 := (row_fin (Value.exitV m c)).trans (congrArg rowArr e)
    exact ⟨h1.trans (loss_fin _ _ r2), h2.trans r2, h3.trans ((lse_fin (Value.exitV m c)).trans (congrArg lseArr e)), h4⟩) (Value.run m ρ)

end Cert.ReferenceIdeal.Hand
-- ==== Proof.Inp.lean ====
/-
  The head that a point of the grid finds in its input buffers.
-/
module

public import proofs.«01_k».proof.Proof.Point
public import proofs.«01_k».proof.Proof.RefFin
public import Idealize.ShloMosaic.Lib.Pipeline.ValueKit.Point
public import Idealize.ShloMosaic.Lib.StableHlo.ReadAt

@[expose] public section

set_option maxRecDepth 16384

noncomputable section

namespace Cert.KernelIdeal.Hand

open Cert.KernelIdeal
open Idealize.ShloMosaic Idealize.ShloMosaic.TcCoe
open Idealize.SL Idealize.SL.Sem

variable (m : (ℓ : Loc nD τ sig) → Buf (Elt Ideal) ℓ) (c : Dev nD)

/-- The heads of the kernel's arguments. -/
def argHead : Fin 3 → Fin 32 → Head :=
  Cert.ReferenceIdeal.Hand.headFn (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))

/-- A point's batch. -/
def bt (t : Fin cfg0.N) : Fin 3 := grid0.coords t 0
/-- A point's head. -/
def hd' (t : Fin cfg0.N) : Fin 32 := grid0.coords t 1

theorem idx0 : ∀ t : Fin grid0.N, win0_0.index t 0 = (grid0.coords t 0).val ∧ win0_0.index t 1 = (grid0.coords t 1).val ∧ win0_0.index t 2 = 0 ∧ win0_0.index t 3 = 0 := by decide +kernel
theorem idx1 : ∀ t : Fin grid0.N, win0_1.index t 0 = (grid0.coords t 0).val ∧ win0_1.index t 1 = 0 ∧ win0_1.index t 2 = 0 := by decide +kernel
theorem idx2 : ∀ t : Fin grid0.N, win0_2.index t 0 = (grid0.coords t 0).val ∧ win0_2.index t 1 = (grid0.coords t 1).val ∧ win0_2.index t 2 = 0 ∧ win0_2.index t 3 = 0 := by decide +kernel
theorem idx3 : ∀ t : Fin grid0.N, win0_3.index t 0 = (grid0.coords t 0).val ∧ win0_3.index t 1 = 0 ∧ win0_3.index t 2 = 0 := by decide +kernel
theorem idx4 : ∀ t : Fin grid0.N, win0_4.index t 0 = (grid0.coords t 0).val ∧ win0_4.index t 1 = (grid0.coords t 1).val ∧ win0_4.index t 2 = 0 ∧ win0_4.index t 3 = 0 := by decide +kernel
theorem idx5 : ∀ t : Fin grid0.N, win0_5.index t 0 = (grid0.coords t 0).val ∧ win0_5.index t 1 = (grid0.coords t 1).val ∧ win0_5.index t 2 = 0 ∧ win0_5.index t 3 = 0 := by decide +kernel

section Arrays

theorem v3_at (b : Fin 3) (h : Fin 32) (d : Fin 64) (q : Fin 512) : (Gen.V m c main_v3 : S3x32x64x512.Idx → EReal) (ix4 b h d q)
    = (m ((c.tc : Thread nD τ).loc main_arg0) : S3x512x32x64.Idx → EReal) (ix4 b q h d) := by
  unfold Gen.V
  after_reads_at
  try rfl

theorem v4_at (b : Fin 3) (h : Fin 32) (q : Fin 512) : (Gen.V m c main_v4 : S3x32x512.Idx → EReal) (ix3 b h q)
    = (m ((c.tc : Thread nD τ).loc main_arg1) : S3x512x32.Idx → EReal) (ix3 b q h) := by
  unfold Gen.V
  after_reads_at
  try rfl

theorem v5_at (b : Fin 3) (h : Fin 32) (q : Fin 512) : (Gen.V m c main_v5 : S3x32x512.Idx → EReal) (ix3 b h q)
    = (m ((c.tc : Thread nD τ).loc main_arg3) : S3x512x32.Idx → EReal) (ix3 b q h) := by
  unfold Gen.V
  after_reads_at
  try rfl

theorem v6_at (b : Fin 3) (h : Fin 32) (d : Fin 64) (q : Fin 512) : (Gen.V m c main_v6 : S3x32x64x512.Idx → EReal) (ix4 b h d q)
    = (m ((c.tc : Thread nD τ).loc main_arg4) : S3x512x32x64.Idx → EReal) (ix4 b q h d) := by
  unfold Gen.V
  after_reads_at
  try rfl

theorem v7_at (b : Fin 3) (h : Fin 32) (d : Fin 64) (q : Fin 512) : (Gen.V m c main_v7 : S3x32x64x512.Idx → EReal) (ix4 b h d q)
    = (m ((c.tc : Thread nD τ).loc main_arg5) : S3x512x32x64.Idx → EReal) (ix4 b q h d) := by
  unfold Gen.V
  after_reads_at
  try rfl

theorem v2_at (b : Fin 3) (h : Fin 32) (k : Fin 512) (d : Fin 64) : (Gen.V m c main_v2 : S3x32x512x64.Idx → EReal) (ix4 b h (pos k) d)
    = (m ((c.tc : Thread nD τ).loc main_arg2) : S3x512x32x64.Idx → EReal) (ix4 b k h d) := by
  unfold Gen.V
  after_reads_at
  refine congrArg (fun z : Fin 512 => (m ((c.tc : Thread nD τ).loc main_arg2) : S3x512x32x64.Idx → EReal) (ix4 b z h d)) (Fin.ext ?_)
  have := val_of_pos k
  dsimp only
  omega

end Arrays

section Blocks
variable (t : Fin cfg0.N)

theorem ib0 (d : Fin 64) (q : Fin 512) : (Gen.iblk m c 0 t : S1x1x64x512.Idx → EReal) (ix4 0 0 d q) = (Gen.V m c main_v3 : S3x32x64x512.Idx → EReal) (ix4 (bt t) (hd' t) d q) := by
  unfold bt hd'
  blk_ext [Gen.iblk, idx0 t]
theorem ib1 (h : Fin 32) (q : Fin 512) : (Gen.iblk m c 1 t : S1x32x512.Idx → EReal) (ix3 0 h q) = (Gen.V m c main_v4 : S3x32x512.Idx → EReal) (ix3 (bt t) h q) := by
  unfold bt
  blk_ext [Gen.iblk, idx1 t]
theorem ib2 (k : Fin 512) (d : Fin 64) : (Gen.iblk m c 2 t : S1x1x512x64.Idx → EReal) (ix4 0 0 k d) = (Gen.V m c main_v2 : S3x32x512x64.Idx → EReal) (ix4 (bt t) (hd' t) k d) := by
  unfold bt hd'
  blk_ext [Gen.iblk, idx2 t]
theorem ib3 (h : Fin 32) (q : Fin 512) : (Gen.iblk m c 3 t : S1x32x512.Idx → EReal) (ix3 0 h q) = (Gen.V m c main_v5 : S3x32x512.Idx → EReal) (ix3 (bt t) h q) := by
  unfold bt
  blk_ext [Gen.iblk, idx3 t]
theorem ib4 (d : Fin 64) (q : Fin 512) : (Gen.iblk m c 4 t : S1x1x64x512.Idx → EReal) (ix4 0 0 d q) = (Gen.V m c main_v6 : S3x32x64x512.Idx → EReal) (ix4 (bt t) (hd' t) d q) := by
  unfold bt hd'
  blk_ext [Gen.iblk, idx4 t]
theorem ib5 (d : Fin 64) (q : Fin 512) : (Gen.iblk m c 5 t : S1x1x64x512.Idx → EReal) (ix4 0 0 d q) = (Gen.V m c main_v7 : S3x32x64x512.Idx → EReal) (ix4 (bt t) (hd' t) d q) := by
  unfold bt hd'
  blk_ext [Gen.iblk, idx5 t]

/-- The point's head is the arguments'. -/
theorem head_in (st : St Ideal) (hin : Inputs m c t st) : headOf (grid0.coords t) st = argHead m c (bt t) (hd' t) := by
  unfold headOf argHead Cert.ReferenceIdeal.Hand.headFn
  rw [hin.q, hin.qs, hin.kp, hin.ks, hin.v, hin.d]
  congr 1
  · funext d q; exact (ib0 m c t d q).trans (v3_at m c _ _ d q)
  · funext k d; exact (ib2 m c t (pos k) d).trans (v2_at m c _ _ k d)
  · funext q; exact (ib1 m c t _ q).trans (v4_at m c _ _ q)
  · funext q; exact (ib3 m c t _ q).trans (v5_at m c _ _ q)
  · funext d q; exact (ib4 m c t d q).trans (v6_at m c _ _ d q)
  · funext d q; exact (ib5 m c t d q).trans (v7_at m c _ _ d q)

end Blocks

end Cert.KernelIdeal.Hand
-- ==== Proof.Eq.lean ====
/-
  The kernel's head against the reference's: the same softmax, the same log-sum-exp and the same differences.
-/
module

public import proofs.«01_k».proof.Proof.RefVal
public import proofs.«01_k».proof.Proof.Lev8

@[expose] public section

set_option maxRecDepth 16384

noncomputable section

namespace Cert.KernelIdeal.Hand

open Idealize.ShloMosaic
open Cert.ReferenceIdeal.Hand (sc pr dif)

variable (H : Head)

theorem c2_split : c2 = ((1 / 8 : ℝ) : EReal) * (Softmax.a2 : EReal) := by
  unfold c2 Softmax.a2
  rw [← EReal.coe_mul]

/-- The kernel's scores are the reference's in units of `log 2`. -/
theorem T_eq (k q : Fin 512) : H.T k q = sc H q k * (Softmax.a2 : EReal) := by
  unfold Head.T sc
  by_cases h : k.val ≤ q.val
  · rw [if_pos h, if_pos h, c2_split]
    have e : H.raw k q = ∑ d, H.Q d q * H.K k d := Finset.sum_congr rfl fun d _ => mul_comm _ _
    rw [e]
    ac_rfl
  · rw [if_neg h, if_neg h, EReal.bot_mul_coe_of_pos Softmax.a2_pos]

theorem M0_real : ∃ M : ℝ, M0 = (M : EReal) := by
  unfold M0
  simp [Ideal.ofBits, Ideal.ieee, -EReal.coe_mul]
  exact ⟨_, rfl⟩

theorem mx_eq (M : ℝ) (hM : M0 = (M : EReal)) (q : Fin 512) : H.mx q = Softmax.mx2 (sc H q) M := by
  unfold Head.mx Softmax.mx2
  rw [hM]
  congr 1
  exact congrArg (Finset.univ.sup) (funext fun k => T_eq H k q)

theorem E_eq (M : ℝ) (hM : M0 = (M : EReal)) (k q : Fin 512) : H.E k q = Softmax.ex2 (sc H q) M k := by
  unfold Head.E Softmax.ex2
  rw [T_eq, mx_eq H M hM]

theorem tot_eq (M : ℝ) (hM : M0 = (M : EReal)) (q : Fin 512) : H.tot q = Softmax.tot2 (sc H q) M :=
  Finset.sum_congr rfl fun k _ => E_eq H M hM k q

/-- The log-sum-exp is the reference's. -/
theorem lse_ref (q : Fin 512) : H.lse q = Softmax.top (sc H q) + Ideal.log (Softmax.tot (sc H q)) - Ideal.log (((q.val + 1 : ℕ) : ℝ) : EReal) := by
  obtain ⟨M, hM⟩ := M0_real
  unfold Head.lse
  rw [mx_eq H M hM, tot_eq H M hM, ← Softmax.lse_eq]

/-- The probabilities are real numbers, sixteen times which the kernel has. -/
theorem prob_real (q : Fin 512) : ∃ p : Fin 512 → ℝ, ∀ k, 0 ≤ p k ∧ pr H q k = (p k : EReal) ∧ H.Z k q = ((16 * p k : ℝ) : EReal) ∧ (¬ k.val ≤ q.val → p k = 0) := by
  obtain ⟨M, hM⟩ := M0_real
  obtain ⟨p, hp⟩ := Softmax.prob (sc H q) M
  refine ⟨p, fun k => ⟨(hp k).1, (hp k).2.1, ?_, fun h => ?_⟩⟩
  · unfold Head.Z
    rw [E_eq H M hM, tot_eq H M hM]
    exact (hp k).2.2
  · have e := (hp k).2.1
    have z : Softmax.ex (sc H q) k = 0 := by
      unfold Softmax.ex sc
      rw [if_neg h, EReal.bot_sub]; rfl
    rw [z, zero_mul] at e
    exact (EReal.coe_eq_zero.mp e.symm)

theorem sum_scale (f : Fin 512 → EReal) (r : ℝ) (hr : 0 ≤ r) : (∑ k, f k) * (r : EReal) = ∑ k, f k * (r : EReal) := by
  have h : ∀ s : Finset (Fin 512), (∑ k ∈ s, f k) * (r : EReal) = ∑ k ∈ s, f k * (r : EReal) := by
    intro s
    induction s using Finset.induction_on with
    | empty => simp
    | insert a s ha ih =>
      rw [Finset.sum_insert ha, Finset.sum_insert ha, ← ih, mul_comm, mul_comm (f a), mul_comm (∑ k ∈ s, f k)]
      exact EReal.left_distrib_of_nonneg_of_ne_top (EReal.coe_nonneg.mpr hr) (EReal.coe_ne_top r) _ _
  exact h Finset.univ

theorem hat_zero (n : Nat) (hn : n < 16) : hat n ((0 : ℝ) : EReal) = 0 := by
  rw [hat_eq n hn 0 le_rfl]
  split
  · rw [zero_mul, cap_zero]; exact zero_mul _
  · rw [zero_mul, cap_zero]; exact zero_mul _

/-- The unquantised outputs are the reference's. -/
theorem oref_eq (d : Fin 64) (q : Fin 512) : H.oref d q = ∑ k, pr H q k * H.V d k := by
  obtain ⟨p, hp⟩ := prob_real H q
  unfold Head.oref Head.pv
  rw [sum_scale _ _ (by norm_num)]
  refine Finset.sum_congr rfl fun k _ => ?_
  obtain ⟨_, e1, e2, e3⟩ := hp k
  rw [e1, mul_assoc, mul_comm]
  congr 1
  unfold meet
  split
  · rw [e2, ← EReal.coe_mul]; congr 1; ring
  · rw [e3 (by omega)]; exact zero_mul _

/-- A level's difference is the reference's. -/
theorem delta_eq (n : Nat) (hn : n < 16) (d : Fin 64) (q : Fin 512) : H.delta n d q = dif H n d q := by
  obtain ⟨p, hp⟩ := prob_real H q
  have key : ∀ k, meet (H.lev n) k q * (((1 / 2 : ℝ) ^ (4 + n) : ℝ) : EReal) + (if n ≤ 2 then 0 else meet H.big k q * ((1 / 8 : ℝ) : EReal)) = hat n (pr H q k) := by
    intro k
    obtain ⟨e0, e1, e2, e3⟩ := hp k
    rw [e1]
    unfold meet
    by_cases h : k.val / 128 ≤ q.val / 128
    · rw [if_pos h, if_pos h, ← level_hat n hn (p k) e0]
      unfold Head.lev Head.big
      rw [e2]
    · rw [if_neg h, if_neg h, e3 (by omega), hat_zero n hn, zero_mul, zero_mul]
      split <;> exact zero_add _
  unfold Head.delta Head.base dif
  rw [oref_eq]
  unfold Head.pv
  rw [sum_scale _ _ (by positivity)]
  by_cases h2 : n ≤ 2
  · rw [if_pos h2, sub_eq_add_neg, zero_add, sub_eq_add_neg]
    congr 1
    refine Finset.sum_congr rfl fun k _ => ?_
    have e := key k
    rw [if_pos h2, add_zero] at e
    rw [← e, mul_assoc]
  · rw [if_neg h2, sum_scale _ _ (by norm_num), sub_eq_add_neg, ← add_assoc, ← Finset.sum_add_distrib, sub_eq_add_neg]
    congr 1
    refine Finset.sum_congr rfl fun k _ => ?_
    have e := key k
    rw [if_neg h2] at e
    obtain ⟨e0, e1, e2, e3⟩ := hp k
    have n1 : 0 ≤ meet (H.lev n) k q := by
      unfold meet
      split
      · unfold Head.lev
        rw [e2]
        obtain ⟨j, rfl⟩ : ∃ j, n = j + 3 := ⟨n - 3, by omega⟩
        have ez : levFrom (j + 3) (Zl ((16 * p k : ℝ) : EReal) (lvlIdx (j + 3))) (capped (((16 * p k : ℝ) : EReal) * ((1 / 2 : ℝ) : EReal)))
            = capped (Zl ((16 * p k : ℝ) : EReal) (j + 3)) := by
          have el : lvlIdx (j + 3) = j + 1 := by unfold lvlIdx; rw [if_neg (by omega)]; omega
          rw [el]; rfl
        rw [ez, Zl_real (p k) e0]
        refine capped_nonneg _ ?_
        split
        · positivity
        · exact le_rfl
      · exact le_rfl
    have n2 : 0 ≤ meet H.big k q := by
      unfold meet
      split
      · unfold Head.big
        rw [e2, ← EReal.coe_mul]
        exact capped_nonneg _ (by positivity)
      · exact le_rfl
    rw [← e, mul_assoc, mul_assoc]
    refine (EReal.left_distrib_of_nonneg ?_ ?_).symm
    · exact mul_nonneg n1 (EReal.coe_nonneg.mpr (by positivity))
    · exact mul_nonneg n2 (EReal.coe_nonneg.mpr (by norm_num))

/-- A level's losses are the reference's. -/
theorem row_ref (n : Nat) (hn : n < 16) (q : Fin 512) : H.row n q = ∑ d, (H.D d q * H.D d q) * (dif H n d q * dif H n d q) :=
  Finset.sum_congr rfl fun d _ => by rw [delta_eq H n hn]

end Cert.KernelIdeal.Hand
-- ==== Proof.Grid.lean ====
/-
  What the kernel's results hold after the grid, and the kernel's run.
-/
module

public import proofs.«01_k».proof.Proof.Inp
public import proofs.«01_k».proof.Proof.Eq

@[expose] public section

set_option maxRecDepth 16384

noncomputable section

namespace Cert.KernelIdeal.Hand

open Cert.KernelIdeal
open Idealize.ShloMosaic Idealize.ShloMosaic.TcCoe
open Idealize.SL Idealize.SL.Sem
open Cert.ReferenceIdeal.Hand (rowR lseR rowArr lossArr lseArr)

variable (m : (ℓ : Loc nD τ sig) → Buf (Elt Ideal) ℓ) (c : Dev nD)

theorem coord0 : ∀ t : Fin cfg0.N, (bt t).val = t.val / 32 := by decide +kernel
theorem coord1 : ∀ t : Fin cfg0.N, (hd' t).val = t.val % 32 := by decide +kernel
theorem points : cfg0.N = 96 := by decide +kernel
theorem nofetch6 : ∀ t : Fin cfg0.N, (cfg0.win 6).fetch t = false := by decide +kernel
theorem nofetch8 : ∀ t : Fin cfg0.N, (cfg0.win 8).fetch t = false := by decide +kernel

theorem after6 (t : Fin cfg0.N) : (rdat m c).after 6 t = OutRel m c .loss t :=
  congrFun ((Gen.dats m 0 c).toR.override_after_of_eq_some (ovr := ovr m c) (w := 6) rfl) t
theorem after7 (t : Fin cfg0.N) : (rdat m c).after 7 t = OutRel m c .row t :=
  congrFun ((Gen.dats m 0 c).toR.override_after_of_eq_some (ovr := ovr m c) (w := 7) rfl) t
theorem after8 (t : Fin cfg0.N) : (rdat m c).after 8 t = OutRel m c .lse t :=
  congrFun ((Gen.dats m 0 c).toR.override_after_of_eq_some (ovr := ovr m c) (w := 8) rfl) t

/-! ## The rows -/

theorem row_leaves (t : Fin cfg0.N) (X : S1x1x16x512.Idx → EReal) (h : (rdat m c).Leaves 7 t X) (n : Fin 16) (q : Fin 512) :
    X (ix4 0 0 n q) = rowR (argHead m c (bt t) (hd' t)) n.val q := by
  obtain ⟨Y, _, ha⟩ := h
  rw [after7] at ha
  obtain ⟨st, hin, _, rfl⟩ := ha
  refine (body_row (grid0.coords t) st n q).trans ?_
  rw [head_in m c t st hin]
  exact row_ref _ n.val n.isLt q

/-! ## The log-sum-exps -/

theorem lse_step (t : Fin cfg0.N) (X : S1x32x512.Idx → EReal) (h : (rdat m c).Leaves 8 t X) :
    ∃ Y : S1x32x512.Idx → EReal, (rdat m c).Finds 8 t Y ∧ ∀ (h : Fin 32) (q : Fin 512), X (ix3 0 h q)
      = if h.val / 8 = (hd' t).val / 8 then (if h.val = (hd' t).val then (argHead m c (bt t) (hd' t)).lse q else if (hd' t).val % 8 = 0 then 0 else Y (ix3 0 h q)) else Y (ix3 0 h q) := by
  obtain ⟨Y, hY, ha⟩ := h
  rw [after8] at ha
  obtain ⟨st, hin, rfl, rfl⟩ := ha
  refine ⟨st .lse, hY, fun h q => ?_⟩
  rw [← head_in m c t st hin]
  exact body_lse (grid0.coords t) st h q

theorem lse_leaves : ∀ (n : Nat) (t : Fin cfg0.N), t.val = n → ∀ (X : S1x32x512.Idx → EReal), (rdat m c).Leaves 8 t X → ∀ (h : Fin 32) (q : Fin 512), h.val ≤ (hd' t).val →
    X (ix3 0 h q) = (argHead m c (bt t) h).lse q := by
  intro n
  induction n with
  | zero =>
    intro t ht X hX h q hh
    obtain ⟨Y, _, e⟩ := lse_step m c t X hX
    have h1 := coord1 t
    have : h = hd' t := Fin.ext (by omega)
    rw [e, this, if_pos rfl, if_pos rfl]
  | succ n ih =>
    intro t ht X hX h q hh
    obtain ⟨Y, hY, e⟩ := lse_step m c t X hX
    by_cases hc : h = hd' t
    · rw [e, hc, if_pos rfl, if_pos rfl]
    have hne : h.val ≠ (hd' t).val := fun g => hc (Fin.ext g)
    have h1 := coord1 t
    have h0 := coord0 t
    have hN := points
    have htN := t.isLt
    have hxy : X (ix3 0 h q) = Y (ix3 0 h q) := by
      rw [e]
      split
      · rw [if_neg (by omega)]
      · rfl
    rw [hxy]
    have hp := ((rdat m c).finds_of_pos (nofetch8 t) (by omega) Y).mp hY
    have i1 := coord1 ⟨t.val - 1, Nat.lt_of_le_of_lt (Nat.sub_le _ _) t.isLt⟩
    have i0 := coord0 ⟨t.val - 1, Nat.lt_of_le_of_lt (Nat.sub_le _ _) t.isLt⟩
    dsimp only at i1 i0
    rcases hp with hf | hl
    · have := (Gen.flush0_8 _).mp hf
      dsimp only at this
      omega
    · have r := ih ⟨t.val - 1, Nat.lt_of_le_of_lt (Nat.sub_le _ _) t.isLt⟩ (by dsimp only; omega) Y hl h q (by omega)
      have hb : bt ⟨t.val - 1, Nat.lt_of_le_of_lt (Nat.sub_le _ _) t.isLt⟩ = bt t := Fin.ext (by omega)
      rw [r, hb]

/-! ## The losses -/

/-- What a point adds to a loss. -/
def lossTerm (n : Fin 16) (h : Fin 32) (k : Nat) : EReal :=
  if hk : k < cfg0.N then (if h.val = (hd' ⟨k, hk⟩).val then ∑ q : Fin 512, rowR (argHead m c (bt ⟨k, hk⟩) (hd' ⟨k, hk⟩)) n.val q else 0) else 0

theorem loss_step (t : Fin cfg0.N) (X : S16x32.Idx → EReal) (h : (rdat m c).Leaves 6 t X) :
    ∃ Y : S16x32.Idx → EReal, (rdat m c).Finds 6 t Y ∧ ∀ (n : Fin 16) (h : Fin 32), X (ix2 n h)
      = (if (bt t).val = 0 ∧ (hd' t).val = 0 then 0 else Y (ix2 n h)) + lossTerm m c n h t.val := by
  obtain ⟨Y, hY, ha⟩ := h
  rw [after6] at ha
  obtain ⟨st, hin, rfl, rfl⟩ := ha
  refine ⟨st .loss, hY, fun n h => ?_⟩
  refine (body_loss (grid0.coords t) st n h).trans ?_
  unfold lossTerm
  rw [dif_pos t.isLt, head_in m c t st hin]
  refine congrArg₂ (· + ·) rfl (if_congr Iff.rfl (Finset.sum_congr rfl fun q _ => ?_) rfl)
  exact row_ref _ n.val n.isLt q

theorem loss_leaves : ∀ (k : Nat) (t : Fin cfg0.N), t.val = k → ∀ (X : S16x32.Idx → EReal), (rdat m c).Leaves 6 t X → ∀ (n : Fin 16) (h : Fin 32),
    X (ix2 n h) = ∑ i ∈ Finset.range (k + 1), lossTerm m c n h i := by
  intro k
  induction k with
  | zero =>
    intro t ht X hX n h
    obtain ⟨Y, _, e⟩ := loss_step m c t X hX
    have h1 := coord1 t
    have h0 := coord0 t
    rw [e, if_pos ⟨by omega, by omega⟩, ht, zero_add]
    simp
  | succ k ih =>
    intro t ht X hX n h
    obtain ⟨Y, hY, e⟩ := loss_step m c t X hX
    have h1 := coord1 t
    have h0 := coord0 t
    have hN := points
    have htN := t.isLt
    rw [e, if_neg (by omega), ht, Finset.sum_range_succ]
    congr 1
    rcases ((rdat m c).finds_of_pos (nofetch6 t) (by omega) Y).mp hY with hf | hl
    · have := (Gen.flush0_6 _).mp hf
      dsimp only at this
      omega
    · exact ih ⟨t.val - 1, Nat.lt_of_le_of_lt (Nat.sub_le _ _) t.isLt⟩ (by dsimp only; omega) Y hl n h

theorem loss_sum (n : Fin 16) (h : Fin 32) : ∑ i ∈ Finset.range 96, lossTerm m c n h i = ∑ b : Fin 3, ∑ q : Fin 512, rowR (argHead m c b h) n.val q := by
  rw [Finset.sum_range]
  have e : ∀ (b : Fin 3) (h' : Fin 32), lossTerm m c n h (h'.val + 32 * b.val) = if h = h' then ∑ q : Fin 512, rowR (argHead m c b h') n.val q else 0 := by
    intro b h'
    have hk : h'.val + 32 * b.val < cfg0.N := by rw [points]; omega
    have h1 : hd' ⟨h'.val + 32 * b.val, hk⟩ = h' := Fin.ext (by rw [coord1]; dsimp only; omega)
    have h0 : bt ⟨h'.val + 32 * b.val, hk⟩ = b := Fin.ext (by rw [coord0]; dsimp only; omega)
    unfold lossTerm
    rw [dif_pos hk, h0, h1]
    exact if_congr Fin.ext_iff.symm rfl rfl
  rw [← (finProdFinEquiv (m := 3) (n := 32)).sum_comp, Fintype.sum_prod_type]
  refine Finset.sum_congr rfl fun b _ => ?_
  have e2 : ∀ h' : Fin 32, lossTerm m c n h (finProdFinEquiv (b, h')).val = if h = h' then ∑ q : Fin 512, rowR (argHead m c b h') n.val q else 0 := fun h' => e b h'
  rw [Finset.sum_congr rfl fun h' _ => e2 h', Finset.sum_ite_eq, if_pos (Finset.mem_univ _)]

/-! ## The arrays -/

theorem idx6 : ∀ t : Fin grid0.N, win0_6.index t 0 = 0 ∧ win0_6.index t 1 = 0 := by decide +kernel
theorem idx7 : ∀ t : Fin grid0.N, win0_7.index t 0 = (grid0.coords t 0).val ∧ win0_7.index t 1 = (grid0.coords t 1).val ∧ win0_7.index t 2 = 0 ∧ win0_7.index t 3 = 0 := by decide +kernel
theorem idx8 : ∀ t : Fin grid0.N, win0_8.index t 0 = (grid0.coords t 0).val ∧ win0_8.index t 1 = 0 ∧ win0_8.index t 2 = 0 := by decide +kernel

variable (after : (w : Fin cfg0.W) → Fin cfg0.N → (cfg0.win w).block.Idx → Elt Ideal (cfg0.win w).elt)
  (hL : ∀ (w : Fin cfg0.W) (u : Fin cfg0.N), (cfg0.win w).flush u = true → (rdat m c).Leaves w u (after w u))

include hL

theorem row_arr : (((rdat m c).withAfter after).arrAt 7 cfg0.N : S3x32x16x512.Idx → EReal) = rowArr (argHead m c) := by
  refine ((rdat m c).withAfter after).arrAt_eq_of_covers 7 _ (by decide +kernel) fun t hf y => ?_
  have e := row_leaves m c t _ (hL 7 t hf)
  have ey : (y : S1x1x16x512.Idx) = ix4 0 0 (y 2) (y 3) := by
    blk_ext
  have ee : (win0_7.blk t).view.emb y = ix4 (bt t) (hd' t) (y 2) (y 3) := by
    unfold bt hd'
    blk_ext [idx7 t]
  blk_simp
  rw [ee]
  refine (congrArg (after 7 t) ey).trans ((e (y 2) (y 3)).trans ?_)
  rfl

theorem lse_arr : (((rdat m c).withAfter after).arrAt 8 cfg0.N : S3x32x512.Idx → EReal) = lseArr (argHead m c) := by
  refine ((rdat m c).withAfter after).arrAt_eq_of_covers 8 _ (by decide +kernel) fun t hf y => ?_
  have e := lse_leaves m c t.val t rfl _ (hL 8 t hf)
  have ey : (y : S1x32x512.Idx) = ix3 0 (y 1) (y 2) := by
    blk_ext
  have ee : (win0_8.blk t).view.emb y = ix3 (bt t) (y 1) (y 2) := by
    unfold bt
    blk_ext [idx8 t]
  have h1 := coord1 t
  have h2 := (Gen.flush0_8 t).mp hf
  have hb : (y 1).val < 32 := (y 1).isLt
  blk_simp
  rw [ee]
  refine (congrArg (after 8 t) ey).trans ((e (y 1) (y 2) (by omega)).trans ?_)
  exact lse_ref _ _

theorem loss_arr : (((rdat m c).withAfter after).arrAt 6 cfg0.N : S16x32.Idx → EReal) = lossArr (argHead m c) := by
  refine ((rdat m c).withAfter after).arrAt_eq_of_covers 6 _ (by decide +kernel) fun t hf y => ?_
  have e := loss_leaves m c t.val t rfl _ (hL 6 t hf)
  have ey : (y : S16x32.Idx) = ix2 (y 0) (y 1) := by
    blk_ext
  have ee : (win0_6.blk t).view.emb y = ix2 (y 0) (y 1) := by
    blk_ext [idx6 t]
  have h2 := (Gen.flush0_6 t).mp hf
  have hN := points
  have htN := t.isLt
  blk_simp
  rw [ee]
  refine (congrArg (after 6 t) ey).trans ((e (y 0) (y 1)).trans ?_)
  rw [show t.val + 1 = 96 by omega]
  exact loss_sum m c _ _

omit hL

/-- The kernel's run. -/
theorem run_kernel (ρ : Dev nD → PrngReg) :
    θ_run (defs (F := Ideal)) (onTc (τ := τ) (main (F := Ideal))) ⟨m, fun _ => 0, ρ⟩ fun r => ∀ c : Dev nD,
      r.2.mem ((c.tc : Thread nD τ).loc main_v8_0) = lossArr (argHead m c)
      ∧ r.2.mem ((c.tc : Thread nD τ).loc main_v8_1) = rowArr (argHead m c)
      ∧ r.2.mem ((c.tc : Thread nD τ).loc main_v8_2) = lseArr (argHead m c) :=
  (θ_run defs _ _).mono (fun _ h c => by
    obtain ⟨after, hL, hA⟩ := Pipeline.RDat.FramePost.exists_exact h c
    exact ⟨(hA 6).trans (loss_arr m c after hL), (hA 7).trans (row_arr m c after hL), (hA 8).trans (lse_arr m c after hL)⟩) (run_main m ρ)

end Cert.KernelIdeal.Hand
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.KFrame.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.IFrame.Frame
public import proofs.«01_k».proof.Proof.Grid
public import proofs.«01_k».proof.Proof.Gen.ReferenceIdeal
public import proofs.«01_k».proof.Proof.Gen.ReferenceIdeal.Run
public import proofs.«01_k».proof.Proof.Gen.ReferenceIdeal.Frame
public import Idealize.ShloMosaic.Lib.Bf16Pair
public import Idealize.ShloMosaic.Adequacy
public import Idealize.ShloMosaic.Init

@[expose] public section

noncomputable section

namespace Cert.Proof

open Idealize.ShloMosaic Idealize.SL.Sem Cert.Kernel

/-- Where the arguments agree, the heads do. -/
theorem heads_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    Cert.ReferenceIdeal.Hand.argHead m' c = Cert.KernelIdeal.Hand.argHead m c := by
  unfold Cert.ReferenceIdeal.Hand.argHead Cert.KernelIdeal.Hand.argHead
  exact congr (congr (congr (congr (congr (congrArg Cert.ReferenceIdeal.Hand.headFn h0) h1) h2) h3) h4) h5

/-- Over the extended reals the kernel's three results are the reference's. -/
theorem value : Cert.algebraic_KernelIdeal_ReferenceIdeal (hKernelIdeal := Cert.KernelIdeal.Gen.facts) (hReferenceIdeal := Cert.ReferenceIdeal.Gen.facts) := by
  intro m g m' g' _ hargs
  refine ⟨fun c => Cert.ReferenceIdeal.Hand.lossArr (Cert.KernelIdeal.Hand.argHead m c), fun c => Cert.ReferenceIdeal.Hand.rowArr (Cert.KernelIdeal.Hand.argHead m c),
    fun c => Cert.ReferenceIdeal.Hand.lseArr (Cert.KernelIdeal.Hand.argHead m c), ?_, ?_⟩
  · refine (θ_run _ _ _).mono (fun r h c => ?_) (θ_run_and (Cert.KernelIdeal.Hand.run_kernel m g) (Cert.KernelIdeal.Gen.unchanged m g))
    exact ⟨(h.1 c).1, (h.1 c).2.1, (h.1 c).2.2, h.2 c⟩
  · refine (θ_run _ _ _).mono (fun r h c => ?_) (Cert.ReferenceIdeal.Hand.run_ref m' g')
    obtain ⟨h0, h1, h2, h3, h4, h5⟩ := hargs c
    have e := heads_eq m m' c h0 h1 h2 h3 h4 h5
    obtain ⟨r0, r1, r2, r3⟩ := h c
    rw [e] at r0 r1 r2
    exact ⟨r0, r1, r2, r3⟩

theorem claim : Cert.Claim := ⟨Cert.Kernel.Gen.facts, Cert.KernelIdeal.Gen.facts, Cert.ReferenceIdeal.Gen.facts,
  fun m g _ => Cert.Kernel.Gen.frame m g, fun m g _ => Cert.KernelIdeal.Gen.frame m g,
  fun m g _ => Cert.ReferenceIdeal.Gen.frame m g,
  ⟨IdealRules.named_const.statement Cert.KernelIdeal.κ "scale_log2e" .f32 0x3E38AA3B#32 _ rfl,
    IdealRules.named_const.statement Cert.KernelIdeal.κ "ln2" .f32 0x3F317218#32 _ rfl,
    IdealRules.bf16_pair.packStatement _, IdealRules.bf16_pair.statement _ _⟩, value⟩

end Cert.Proof

end
